-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S2x512x4096 : Shape := ⟨3, ![2, 512, 4096]⟩
abbrev S512x4096 : Shape := ⟨2, ![512, 4096]⟩
abbrev S8x8x128 : Shape := ⟨3, ![8, 8, 128]⟩
abbrev S_ : Shape := ⟨0, ![]⟩
abbrev S7x2 : Shape := ⟨2, ![7, 2]⟩
abbrev S7 : Shape := ⟨1, ![7]⟩
abbrev S2 : Shape := ⟨1, ![2]⟩
abbrev S128x512 : Shape := ⟨2, ![128, 512]⟩
abbrev S128x4096 : Shape := ⟨2, ![128, 4096]⟩
abbrev S1x512x4096 : Shape := ⟨3, ![1, 512, 4096]⟩
abbrev S1x128x4096 : Shape := ⟨3, ![1, 128, 4096]⟩
abbrev S1x1 : Shape := ⟨2, ![1, 1]⟩
abbrev S1x512x2048 : Shape := ⟨3, ![1, 512, 2048]⟩
abbrev S512x2048 : Shape := ⟨2, ![512, 2048]⟩
abbrev S1 : Shape := ⟨1, ![1]⟩
abbrev S1x128x2048 : Shape := ⟨3, ![1, 128, 2048]⟩
abbrev S128x2048 : Shape := ⟨2, ![128, 2048]⟩
abbrev S1x1x1 : Shape := ⟨3, ![1, 1, 1]⟩
abbrev S8x128 : Shape := ⟨2, ![8, 128]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .local _ .vmem, ⟨0, _⟩ => ⟨S4096x512, .bf16⟩
  | .local _ .vmem, ⟨1, _⟩ => ⟨S512x8192, .bf16⟩
  | .local _ .vmem, ⟨2, _⟩ => ⟨S2x512x4096, .bf16⟩
  | .local _ .vmem, ⟨3, _⟩ => ⟨S2x512x4096, .bf16⟩
  | .local _ .vmem, ⟨4, _⟩ => ⟨S2x512x4096, .i8⟩
  | .local _ .vmem, ⟨5, _⟩ => ⟨S2x512x4096, .i8⟩
  | .local _ .vmem, ⟨6, _⟩ => ⟨S512x4096, .bf16⟩
  | .local _ .vmem, ⟨7, _⟩ => ⟨S512x4096, .bf16⟩
  | .local _ .vmem, ⟨8, _⟩ => ⟨S8x8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 7 104 bufScoped semScoped dmaSemScoped tileCredit tileCredit_eq_zero tileCredit_pos).withBarriers [(0, 6)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 6

abbrev nD : Nat := 8
abbrev τ : Topo := Topo.v7x

variable {F : FTy → Type} [FloatOps F]

abbrev grid0 : Pipeline.Grid := .none

@[reducible] def k0_t1_loop : Scf.Loop 32 :=
  let c0_i32_8 : BitVec 32 := 0#32
  let c4_i32 : BitVec 32 := 4#32
  let v11 : BitVec 32 := Scalar.addi c0_i32_8 c4_i32
  let c1_i32_9 : BitVec 32 := 1#32
  ⟨c0_i32_8, v11, c1_i32_9⟩
def k0_off1 (d0 : Dev nD) (k0_t1 : Fin k0_t1_loop.trips) (c7_i32_3 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : BitVec 32 := Scalar.addi v2 c7_i32_3
  let c8_i32_4 : BitVec 32 := 8#32
  let v8 : BitVec 32 := Scalar.remsi v7 c8_i32_4
  let c512_i32_2142 : BitVec 32 := 512#32
  let v1607 : BitVec 32 := Scalar.muli v8 c512_i32_2142
  let c0_i32_8 : BitVec 32 := 0#32
  let c1_i32_9 : BitVec 32 := 1#32
  let arg28 : BitVec 32 := Scf.iv c0_i32_8 c1_i32_9 k0_t1
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off2 (k0_t1 : Fin k0_t1_loop.trips) : Fin 2 → Nat :=
  let c0_i32_8 : BitVec 32 := 0#32
  let c1_i32_9 : BitVec 32 := 1#32
  let arg28 : BitVec 32 := Scf.iv c0_i32_8 c1_i32_9 k0_t1
  let c128_i32 : BitVec 32 := 128#32
  let v1606 : BitVec 32 := Scalar.muli arg28 c128_i32
  let v1619 : Index := Scalar.indexCast v1606
  let c0_2150 : Index := 0#32
  ![v1619.toNat, 0]
def k0_off3 (k0_t1 : Fin k0_t1_loop.trips) : Fin 3 → Nat :=
  let c0_i32 : BitVec 32 := 0#32
  let c0_i32_8 : BitVec 32 := 0#32
  let c1_i32_9 : BitVec 32 := 1#32
  let arg28 : BitVec 32 := Scf.iv c0_i32_8 c1_i32_9 k0_t1
  let c128_i32 : BitVec 32 := 128#32
  let v1606 : BitVec 32 := Scalar.muli arg28 c128_i32
  let v1619 : Index := Scalar.indexCast v1606
  let c0_i32_2149 : BitVec 32 := 0#32
  ![0, v1619.toNat, 0]
def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_12 : BitVec 32 := 1#32
  let v13 : BitVec 32 := Scalar.muli v4 c1_i32_12
  let v14 : BitVec 32 := Scalar.addi c0_i32_13 v13
  v14.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_15 : BitVec 32 := 1#32
  let v15 : BitVec 32 := Scalar.muli v6 c1_i32_15
  let v16 : BitVec 32 := Scalar.addi c0_i32_16 v15
  v16.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_23 : BitVec 32 := 1#32
  let v17 : BitVec 32 := Scalar.muli v6 c1_i32_23
  let v18 : BitVec 32 := Scalar.addi c0_i32_24 v17
  v18.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_35 : BitVec 32 := 1#32
  let v27 : BitVec 32 := Scalar.muli v4 c1_i32_35
  let v28 : BitVec 32 := Scalar.addi c0_i32_36 v27
  v28.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_47 : BitVec 32 := 1#32
  let v37 : BitVec 32 := Scalar.muli v6 c1_i32_47
  let v38 : BitVec 32 := Scalar.addi c0_i32_48 v37
  v38.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_58 : BitVec 32 := 1#32
  let v47 : BitVec 32 := Scalar.muli v4 c1_i32_58
  let v48 : BitVec 32 := Scalar.addi c0_i32_59 v47
  v48.toNat
@[reducible] def k0_t2_loop : Scf.Loop 32 :=
  let c0_i32_68 : BitVec 32 := 0#32
  let c4_i32_69 : BitVec 32 := 4#32
  let v62 : BitVec 32 := Scalar.addi c0_i32_68 c4_i32_69
  let c1_i32_70 : BitVec 32 := 1#32
  ⟨c0_i32_68, v62, c1_i32_70⟩
def k0_off4 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c14_i32 : BitVec 32 := 14#32
  let v57 : BitVec 32 := Scalar.addi v2 c14_i32
  let c8_i32_64 : BitVec 32 := 8#32
  let v58 : BitVec 32 := Scalar.remsi v57 c8_i32_64
  let c512_i32_2142 : BitVec 32 := 512#32
  let v1607 : BitVec 32 := Scalar.muli v58 c512_i32_2142
  let c0_i32_68 : BitVec 32 := 0#32
  let c1_i32_70 : BitVec 32 := 1#32
  let arg28 : BitVec 32 := Scf.iv c0_i32_68 c1_i32_70 k0_t2
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off5 (k0_t2 : Fin k0_t2_loop.trips) : Fin 2 → Nat :=
  let c0_i32_68 : BitVec 32 := 0#32
  let c1_i32_70 : BitVec 32 := 1#32
  let arg28 : BitVec 32 := Scf.iv c0_i32_68 c1_i32_70 k0_t2
  let c128_i32 : BitVec 32 := 128#32
  let v1606 : BitVec 32 := Scalar.muli arg28 c128_i32
  let v1617 : Index := Scalar.indexCast v1606
  let c0_2148 : Index := 0#32
  ![v1617.toNat, 0]
def k0_off6 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_65 : BitVec 32 := 2#32
  let v59 : BitVec 32 := Scalar.addi v2 c2_i32_65
  let c0_i32_66 : BitVec 32 := 0#32
  let v60 : BitVec 32 := Scalar.addi v59 c0_i32_66
  let c8_i32_67 : BitVec 32 := 8#32
  let v61 : BitVec 32 := Scalar.remsi v60 c8_i32_67
  let c512_i32_2149 : BitVec 32 := 512#32
  let v1621 : BitVec 32 := Scalar.muli v61 c512_i32_2149
  let c0_i32_68 : BitVec 32 := 0#32
  let c1_i32_70 : BitVec 32 := 1#32
  let arg28 : BitVec 32 := Scf.iv c0_i32_68 c1_i32_70 k0_t2
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
def k0_dev7 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_120 : BitVec 32 := 1#32
  let v93 : BitVec 32 := Scalar.muli v4 c1_i32_120
  let v94 : BitVec 32 := Scalar.addi c0_i32_121 v93
  v94.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_124 : BitVec 32 := 1#32
  let v97 : BitVec 32 := Scalar.muli v6 c1_i32_124
  let v98 : BitVec 32 := Scalar.addi c0_i32_125 v97
  v98.toNat
@[reducible] def k0_t3_loop : Scf.Loop 32 :=
  let c0_i32_126 : BitVec 32 := 0#32
  let c4_i32_127 : BitVec 32 := 4#32
  let v99 : BitVec 32 := Scalar.addi c0_i32_126 c4_i32_127
  let c1_i32_128 : BitVec 32 := 1#32
  ⟨c0_i32_126, v99, c1_i32_128⟩
def k0_off7 (k0_t3 : Fin k0_t3_loop.trips) : Fin 3 → Nat :=
  let c1 : Index := 1#32
  let c0_i32_126 : BitVec 32 := 0#32
  let c1_i32_128 : BitVec 32 := 1#32
  let arg28 : BitVec 32 := Scf.iv c0_i32_126 c1_i32_128 k0_t3
  let c128_i32 : BitVec 32 := 128#32
  let v1606 : BitVec 32 := Scalar.muli arg28 c128_i32
  let v1607 : Index := Scalar.indexCast v1606
  let c0_2142 : Index := 0#32
  ![1, v1607.toNat, 0]
def k0_off8 (k0_t3 : Fin k0_t3_loop.trips) : Fin 2 → Nat :=
  let c0_i32_126 : BitVec 32 := 0#32
  let c1_i32_128 : BitVec 32 := 1#32
  let arg28 : BitVec 32 := Scf.iv c0_i32_126 c1_i32_128 k0_t3
  let c128_i32 : BitVec 32 := 128#32
  let v1606 : BitVec 32 := Scalar.muli arg28 c128_i32
  let v1611 : Index := Scalar.indexCast v1606
  let c0_2143 : Index := 0#32
  ![v1611.toNat, 0]
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_142 : BitVec 32 := 1#32
  let v104 : BitVec 32 := Scalar.muli v6 c1_i32_142
  let v105 : BitVec 32 := Scalar.addi c0_i32_143 v104
  v105.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_154 : BitVec 32 := 1#32
  let v114 : BitVec 32 := Scalar.muli v4 c1_i32_154
  let v115 : BitVec 32 := Scalar.addi c0_i32_155 v114
  v115.toNat
def k0_dev11 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_208 : BitVec 32 := 1#32
  let v154 : BitVec 32 := Scalar.muli v4 c1_i32_208
  let v155 : BitVec 32 := Scalar.addi c0_i32_209 v154
  v155.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_212 : BitVec 32 := 1#32
  let v158 : BitVec 32 := Scalar.muli v6 c1_i32_212
  let v159 : BitVec 32 := Scalar.addi c0_i32_213 v158
  v159.toNat
@[reducible] def k0_t4_loop : Scf.Loop 32 :=
  let c0_i32_214 : BitVec 32 := 0#32
  let c4_i32_215 : BitVec 32 := 4#32
  let v160 : BitVec 32 := Scalar.addi c0_i32_214 c4_i32_215
  let c1_i32_216 : BitVec 32 := 1#32
  ⟨c0_i32_214, v160, c1_i32_216⟩
def k0_off9 (k0_t4 : Fin k0_t4_loop.trips) : Fin 3 → Nat :=
  let c1 : Index := 1#32
  let c0_i32_214 : BitVec 32 := 0#32
  let c1_i32_216 : BitVec 32 := 1#32
  let arg28 : BitVec 32 := Scf.iv c0_i32_214 c1_i32_216 k0_t4
  let c128_i32 : BitVec 32 := 128#32
  let v1606 : BitVec 32 := Scalar.muli arg28 c128_i32
  let v1607 : Index := Scalar.indexCast v1606
  let c2048 : Index := 2048#32
  ![1, v1607.toNat, 2048]
def k0_off10 (k0_t4 : Fin k0_t4_loop.trips) : Fin 2 → Nat :=
  let c0_i32_214 : BitVec 32 := 0#32
  let c1_i32_216 : BitVec 32 := 1#32
  let arg28 : BitVec 32 := Scf.iv c0_i32_214 c1_i32_216 k0_t4
  let c128_i32 : BitVec 32 := 128#32
  let v1606 : BitVec 32 := Scalar.muli arg28 c128_i32
  let v1611 : Index := Scalar.indexCast v1606
  let c2048_2142 : Index := 2048#32
  ![v1611.toNat, 2048]
def k0_dev13 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_230 : BitVec 32 := 1#32
  let v165 : BitVec 32 := Scalar.muli v6 c1_i32_230
  let v166 : BitVec 32 := Scalar.addi c0_i32_231 v165
  v166.toNat
def k0_dev14 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_242 : BitVec 32 := 1#32
  let v175 : BitVec 32 := Scalar.muli v4 c1_i32_242
  let v176 : BitVec 32 := Scalar.addi c0_i32_243 v175
  v176.toNat
@[reducible] def k0_t5_loop : Scf.Loop 32 :=
  let c0_i32_252 : BitVec 32 := 0#32
  let c4_i32_253 : BitVec 32 := 4#32
  let v190 : BitVec 32 := Scalar.addi c0_i32_252 c4_i32_253
  let c1_i32_254 : BitVec 32 := 1#32
  ⟨c0_i32_252, v190, c1_i32_254⟩
def k0_off11 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c13_i32 : BitVec 32 := 13#32
  let v185 : BitVec 32 := Scalar.addi v2 c13_i32
  let c8_i32_248 : BitVec 32 := 8#32
  let v186 : BitVec 32 := Scalar.remsi v185 c8_i32_248
  let c512_i32_2142 : BitVec 32 := 512#32
  let v1607 : BitVec 32 := Scalar.muli v186 c512_i32_2142
  let c0_i32_252 : BitVec 32 := 0#32
  let c1_i32_254 : BitVec 32 := 1#32
  let arg28 : BitVec 32 := Scf.iv c0_i32_252 c1_i32_254 k0_t5
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off12 (k0_t5 : Fin k0_t5_loop.trips) : Fin 2 → Nat :=
  let c0_i32_252 : BitVec 32 := 0#32
  let c1_i32_254 : BitVec 32 := 1#32
  let arg28 : BitVec 32 := Scf.iv c0_i32_252 c1_i32_254 k0_t5
  let c128_i32 : BitVec 32 := 128#32
  let v1606 : BitVec 32 := Scalar.muli arg28 c128_i32
  let v1617 : Index := Scalar.indexCast v1606
  let c0_2148 : Index := 0#32
  ![v1617.toNat, 0]
def k0_off13 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_249 : BitVec 32 := 2#32
  let v187 : BitVec 32 := Scalar.addi v2 c2_i32_249
  let c1_i32_250 : BitVec 32 := 1#32
  let v188 : BitVec 32 := Scalar.addi v187 c1_i32_250
  let c8_i32_251 : BitVec 32 := 8#32
  let v189 : BitVec 32 := Scalar.remsi v188 c8_i32_251
  let c512_i32_2149 : BitVec 32 := 512#32
  let v1621 : BitVec 32 := Scalar.muli v189 c512_i32_2149
  let c0_i32_252 : BitVec 32 := 0#32
  let c1_i32_254 : BitVec 32 := 1#32
  let arg28 : BitVec 32 := Scf.iv c0_i32_252 c1_i32_254 k0_t5
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
def k0_dev15 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_304 : BitVec 32 := 1#32
  let v221 : BitVec 32 := Scalar.muli v4 c1_i32_304
  let v222 : BitVec 32 := Scalar.addi c0_i32_305 v221
  v222.toNat
def k0_dev16 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_308 : BitVec 32 := 1#32
  let v225 : BitVec 32 := Scalar.muli v6 c1_i32_308
  let v226 : BitVec 32 := Scalar.addi c0_i32_309 v225
  v226.toNat
@[reducible] def k0_t6_loop : Scf.Loop 32 :=
  let c0_i32_310 : BitVec 32 := 0#32
  let c4_i32_311 : BitVec 32 := 4#32
  let v227 : BitVec 32 := Scalar.addi c0_i32_310 c4_i32_311
  let c1_i32_312 : BitVec 32 := 1#32
  ⟨c0_i32_310, v227, c1_i32_312⟩
def k0_off14 (k0_t6 : Fin k0_t6_loop.trips) : Fin 3 → Nat :=
  let c0_2142 : Index := 0#32
  let c0_i32_310 : BitVec 32 := 0#32
  let c1_i32_312 : BitVec 32 := 1#32
  let arg28 : BitVec 32 := Scf.iv c0_i32_310 c1_i32_312 k0_t6
  let c128_i32 : BitVec 32 := 128#32
  let v1606 : BitVec 32 := Scalar.muli arg28 c128_i32
  let v1607 : Index := Scalar.indexCast v1606
  let c0_2143 : Index := 0#32
  ![0, v1607.toNat, 0]
def k0_off15 (k0_t6 : Fin k0_t6_loop.trips) : Fin 2 → Nat :=
  let c0_i32_310 : BitVec 32 := 0#32
  let c1_i32_312 : BitVec 32 := 1#32
  let arg28 : BitVec 32 := Scf.iv c0_i32_310 c1_i32_312 k0_t6
  let c128_i32 : BitVec 32 := 128#32
  let v1606 : BitVec 32 := Scalar.muli arg28 c128_i32
  let v1611 : Index := Scalar.indexCast v1606
  let c0_2144 : Index := 0#32
  ![v1611.toNat, 0]
def k0_dev17 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_326 : BitVec 32 := 1#32
  let v232 : BitVec 32 := Scalar.muli v6 c1_i32_326
  let v233 : BitVec 32 := Scalar.addi c0_i32_327 v232
  v233.toNat
def k0_dev18 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_338 : BitVec 32 := 1#32
  let v242 : BitVec 32 := Scalar.muli v4 c1_i32_338
  let v243 : BitVec 32 := Scalar.addi c0_i32_339 v242
  v243.toNat
def k0_dev19 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_392 : BitVec 32 := 1#32
  let v282 : BitVec 32 := Scalar.muli v4 c1_i32_392
  let v283 : BitVec 32 := Scalar.addi c0_i32_393 v282
  v283.toNat
def k0_dev20 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_396 : BitVec 32 := 1#32
  let v286 : BitVec 32 := Scalar.muli v6 c1_i32_396
  let v287 : BitVec 32 := Scalar.addi c0_i32_397 v286
  v287.toNat
@[reducible] def k0_t7_loop : Scf.Loop 32 :=
  let c0_i32_398 : BitVec 32 := 0#32
  let c4_i32_399 : BitVec 32 := 4#32
  let v288 : BitVec 32 := Scalar.addi c0_i32_398 c4_i32_399
  let c1_i32_400 : BitVec 32 := 1#32
  ⟨c0_i32_398, v288, c1_i32_400⟩
def k0_off16 (k0_t7 : Fin k0_t7_loop.trips) : Fin 3 → Nat :=
  let c0_2142 : Index := 0#32
  let c0_i32_398 : BitVec 32 := 0#32
  let c1_i32_400 : BitVec 32 := 1#32
  let arg28 : BitVec 32 := Scf.iv c0_i32_398 c1_i32_400 k0_t7
  let c128_i32 : BitVec 32 := 128#32
  let v1606 : BitVec 32 := Scalar.muli arg28 c128_i32
  let v1607 : Index := Scalar.indexCast v1606
  let c2048 : Index := 2048#32
  ![0, v1607.toNat, 2048]
def k0_off17 (k0_t7 : Fin k0_t7_loop.trips) : Fin 2 → Nat :=
  let c0_i32_398 : BitVec 32 := 0#32
  let c1_i32_400 : BitVec 32 := 1#32
  let arg28 : BitVec 32 := Scf.iv c0_i32_398 c1_i32_400 k0_t7
  let c128_i32 : BitVec 32 := 128#32
  let v1606 : BitVec 32 := Scalar.muli arg28 c128_i32
  let v1611 : Index := Scalar.indexCast v1606
  let c2048_2143 : Index := 2048#32
  ![v1611.toNat, 2048]
def k0_dev21 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_414 : BitVec 32 := 1#32
  let v293 : BitVec 32 := Scalar.muli v6 c1_i32_414
  let v294 : BitVec 32 := Scalar.addi c0_i32_415 v293
  v294.toNat
def k0_dev22 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_426 : BitVec 32 := 1#32
  let v303 : BitVec 32 := Scalar.muli v4 c1_i32_426
  let v304 : BitVec 32 := Scalar.addi c0_i32_427 v303
  v304.toNat
@[reducible] def k0_t8_loop : Scf.Loop 32 :=
  let c0_i32_436 : BitVec 32 := 0#32
  let c4_i32_437 : BitVec 32 := 4#32
  let v318 : BitVec 32 := Scalar.addi c0_i32_436 c4_i32_437
  let c1_i32_438 : BitVec 32 := 1#32
  ⟨c0_i32_436, v318, c1_i32_438⟩
def k0_off18 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c12_i32 : BitVec 32 := 12#32
  let v313 : BitVec 32 := Scalar.addi v2 c12_i32
  let c8_i32_432 : BitVec 32 := 8#32
  let v314 : BitVec 32 := Scalar.remsi v313 c8_i32_432
  let c512_i32_2142 : BitVec 32 := 512#32
  let v1607 : BitVec 32 := Scalar.muli v314 c512_i32_2142
  let c0_i32_436 : BitVec 32 := 0#32
  let c1_i32_438 : BitVec 32 := 1#32
  let arg28 : BitVec 32 := Scf.iv c0_i32_436 c1_i32_438 k0_t8
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off19 (k0_t8 : Fin k0_t8_loop.trips) : Fin 2 → Nat :=
  let c0_i32_436 : BitVec 32 := 0#32
  let c1_i32_438 : BitVec 32 := 1#32
  let arg28 : BitVec 32 := Scf.iv c0_i32_436 c1_i32_438 k0_t8
  let c128_i32 : BitVec 32 := 128#32
  let v1606 : BitVec 32 := Scalar.muli arg28 c128_i32
  let v1617 : Index := Scalar.indexCast v1606
  let c0_2148 : Index := 0#32
  ![v1617.toNat, 0]
def k0_off20 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_433 : BitVec 32 := 2#32
  let v315 : BitVec 32 := Scalar.addi v2 c2_i32_433
  let c2_i32_434 : BitVec 32 := 2#32
  let v316 : BitVec 32 := Scalar.addi v315 c2_i32_434
  let c8_i32_435 : BitVec 32 := 8#32
  let v317 : BitVec 32 := Scalar.remsi v316 c8_i32_435
  let c512_i32_2149 : BitVec 32 := 512#32
  let v1621 : BitVec 32 := Scalar.muli v317 c512_i32_2149
  let c0_i32_436 : BitVec 32 := 0#32
  let c1_i32_438 : BitVec 32 := 1#32
  let arg28 : BitVec 32 := Scf.iv c0_i32_436 c1_i32_438 k0_t8
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
def k0_dev23 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_488 : BitVec 32 := 1#32
  let v349 : BitVec 32 := Scalar.muli v4 c1_i32_488
  let v350 : BitVec 32 := Scalar.addi c0_i32_489 v349
  v350.toNat
def k0_dev24 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_492 : BitVec 32 := 1#32
  let v353 : BitVec 32 := Scalar.muli v6 c1_i32_492
  let v354 : BitVec 32 := Scalar.addi c0_i32_493 v353
  v354.toNat
@[reducible] def k0_t9_loop : Scf.Loop 32 :=
  let c0_i32_494 : BitVec 32 := 0#32
  let c4_i32_495 : BitVec 32 := 4#32
  let v355 : BitVec 32 := Scalar.addi c0_i32_494 c4_i32_495
  let c1_i32_496 : BitVec 32 := 1#32
  ⟨c0_i32_494, v355, c1_i32_496⟩
def k0_off21 (k0_t9 : Fin k0_t9_loop.trips) : Fin 3 → Nat :=
  let c1 : Index := 1#32
  let c0_i32_494 : BitVec 32 := 0#32
  let c1_i32_496 : BitVec 32 := 1#32
  let arg28 : BitVec 32 := Scf.iv c0_i32_494 c1_i32_496 k0_t9
  let c128_i32 : BitVec 32 := 128#32
  let v1606 : BitVec 32 := Scalar.muli arg28 c128_i32
  let v1607 : Index := Scalar.indexCast v1606
  let c0_2142 : Index := 0#32
  ![1, v1607.toNat, 0]
def k0_off22 (k0_t9 : Fin k0_t9_loop.trips) : Fin 2 → Nat :=
  let c0_i32_494 : BitVec 32 := 0#32
  let c1_i32_496 : BitVec 32 := 1#32
  let arg28 : BitVec 32 := Scf.iv c0_i32_494 c1_i32_496 k0_t9
  let c128_i32 : BitVec 32 := 128#32
  let v1606 : BitVec 32 := Scalar.muli arg28 c128_i32
  let v1611 : Index := Scalar.indexCast v1606
  let c0_2143 : Index := 0#32
  ![v1611.toNat, 0]
def k0_dev25 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_509 : BitVec 32 := 1#32
  let v360 : BitVec 32 := Scalar.muli v6 c1_i32_509
  let v361 : BitVec 32 := Scalar.addi c0_i32_510 v360
  v361.toNat
def k0_dev26 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_521 : BitVec 32 := 1#32
  let v370 : BitVec 32 := Scalar.muli v4 c1_i32_521
  let v371 : BitVec 32 := Scalar.addi c0_i32_522 v370
  v371.toNat
def k0_dev27 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_575 : BitVec 32 := 1#32
  let v410 : BitVec 32 := Scalar.muli v4 c1_i32_575
  let v411 : BitVec 32 := Scalar.addi c0_i32_576 v410
  v411.toNat
def k0_dev28 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_579 : BitVec 32 := 1#32
  let v414 : BitVec 32 := Scalar.muli v6 c1_i32_579
  let v415 : BitVec 32 := Scalar.addi c0_i32_580 v414
  v415.toNat
@[reducible] def k0_t10_loop : Scf.Loop 32 :=
  let c0_i32_581 : BitVec 32 := 0#32
  let c4_i32_582 : BitVec 32 := 4#32
  let v416 : BitVec 32 := Scalar.addi c0_i32_581 c4_i32_582
  let c1_i32_583 : BitVec 32 := 1#32
  ⟨c0_i32_581, v416, c1_i32_583⟩
def k0_off23 (k0_t10 : Fin k0_t10_loop.trips) : Fin 3 → Nat :=
  let c1 : Index := 1#32
  let c0_i32_581 : BitVec 32 := 0#32
  let c1_i32_583 : BitVec 32 := 1#32
  let arg28 : BitVec 32 := Scf.iv c0_i32_581 c1_i32_583 k0_t10
  let c128_i32 : BitVec 32 := 128#32
  let v1606 : BitVec 32 := Scalar.muli arg28 c128_i32
  let v1607 : Index := Scalar.indexCast v1606
  let c2048 : Index := 2048#32
  ![1, v1607.toNat, 2048]
def k0_off24 (k0_t10 : Fin k0_t10_loop.trips) : Fin 2 → Nat :=
  let c0_i32_581 : BitVec 32 := 0#32
  let c1_i32_583 : BitVec 32 := 1#32
  let arg28 : BitVec 32 := Scf.iv c0_i32_581 c1_i32_583 k0_t10
  let c128_i32 : BitVec 32 := 128#32
  let v1606 : BitVec 32 := Scalar.muli arg28 c128_i32
  let v1611 : Index := Scalar.indexCast v1606
  let c2048_2142 : Index := 2048#32
  ![v1611.toNat, 2048]
def k0_dev29 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_597 : BitVec 32 := 1#32
  let v421 : BitVec 32 := Scalar.muli v6 c1_i32_597
  let v422 : BitVec 32 := Scalar.addi c0_i32_598 v421
  v422.toNat
def k0_dev30 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_609 : BitVec 32 := 1#32
  let v431 : BitVec 32 := Scalar.muli v4 c1_i32_609
  let v432 : BitVec 32 := Scalar.addi c0_i32_610 v431
  v432.toNat
@[reducible] def k0_t11_loop : Scf.Loop 32 :=
  let c0_i32_619 : BitVec 32 := 0#32
  let c4_i32_620 : BitVec 32 := 4#32
  let v446 : BitVec 32 := Scalar.addi c0_i32_619 c4_i32_620
  let c1_i32_621 : BitVec 32 := 1#32
  ⟨c0_i32_619, v446, c1_i32_621⟩
def k0_off25 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c11_i32 : BitVec 32 := 11#32
  let v441 : BitVec 32 := Scalar.addi v2 c11_i32
  let c8_i32_615 : BitVec 32 := 8#32
  let v442 : BitVec 32 := Scalar.remsi v441 c8_i32_615
  let c512_i32_2142 : BitVec 32 := 512#32
  let v1607 : BitVec 32 := Scalar.muli v442 c512_i32_2142
  let c0_i32_619 : BitVec 32 := 0#32
  let c1_i32_621 : BitVec 32 := 1#32
  let arg28 : BitVec 32 := Scf.iv c0_i32_619 c1_i32_621 k0_t11
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off26 (k0_t11 : Fin k0_t11_loop.trips) : Fin 2 → Nat :=
  let c0_i32_619 : BitVec 32 := 0#32
  let c1_i32_621 : BitVec 32 := 1#32
  let arg28 : BitVec 32 := Scf.iv c0_i32_619 c1_i32_621 k0_t11
  let c128_i32 : BitVec 32 := 128#32
  let v1606 : BitVec 32 := Scalar.muli arg28 c128_i32
  let v1617 : Index := Scalar.indexCast v1606
  let c0_2148 : Index := 0#32
  ![v1617.toNat, 0]
def k0_off27 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_616 : BitVec 32 := 2#32
  let v443 : BitVec 32 := Scalar.addi v2 c2_i32_616
  let c3_i32_617 : BitVec 32 := 3#32
  let v444 : BitVec 32 := Scalar.addi v443 c3_i32_617
  let c8_i32_618 : BitVec 32 := 8#32
  let v445 : BitVec 32 := Scalar.remsi v444 c8_i32_618
  let c512_i32_2149 : BitVec 32 := 512#32
  let v1621 : BitVec 32 := Scalar.muli v445 c512_i32_2149
  let c0_i32_619 : BitVec 32 := 0#32
  let c1_i32_621 : BitVec 32 := 1#32
  let arg28 : BitVec 32 := Scf.iv c0_i32_619 c1_i32_621 k0_t11
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
def k0_dev31 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_671 : BitVec 32 := 1#32
  let v477 : BitVec 32 := Scalar.muli v4 c1_i32_671
  let v478 : BitVec 32 := Scalar.addi c0_i32_672 v477
  v478.toNat
def k0_dev32 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_675 : BitVec 32 := 1#32
  let v481 : BitVec 32 := Scalar.muli v6 c1_i32_675
  let v482 : BitVec 32 := Scalar.addi c0_i32_676 v481
  v482.toNat
@[reducible] def k0_t12_loop : Scf.Loop 32 :=
  let c0_i32_677 : BitVec 32 := 0#32
  let c4_i32_678 : BitVec 32 := 4#32
  let v483 : BitVec 32 := Scalar.addi c0_i32_677 c4_i32_678
  let c1_i32_679 : BitVec 32 := 1#32
  ⟨c0_i32_677, v483, c1_i32_679⟩
def k0_off28 (k0_t12 : Fin k0_t12_loop.trips) : Fin 3 → Nat :=
  let c0_2142 : Index := 0#32
  let c0_i32_677 : BitVec 32 := 0#32
  let c1_i32_679 : BitVec 32 := 1#32
  let arg28 : BitVec 32 := Scf.iv c0_i32_677 c1_i32_679 k0_t12
  let c128_i32 : BitVec 32 := 128#32
  let v1606 : BitVec 32 := Scalar.muli arg28 c128_i32
  let v1607 : Index := Scalar.indexCast v1606
  let c0_2143 : Index := 0#32
  ![0, v1607.toNat, 0]
def k0_off29 (k0_t12 : Fin k0_t12_loop.trips) : Fin 2 → Nat :=
  let c0_i32_677 : BitVec 32 := 0#32
  let c1_i32_679 : BitVec 32 := 1#32
  let arg28 : BitVec 32 := Scf.iv c0_i32_677 c1_i32_679 k0_t12
  let c128_i32 : BitVec 32 := 128#32
  let v1606 : BitVec 32 := Scalar.muli arg28 c128_i32
  let v1611 : Index := Scalar.indexCast v1606
  let c0_2144 : Index := 0#32
  ![v1611.toNat, 0]
def k0_dev33 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_693 : BitVec 32 := 1#32
  let v488 : BitVec 32 := Scalar.muli v6 c1_i32_693
  let v489 : BitVec 32 := Scalar.addi c0_i32_694 v488
  v489.toNat
def k0_dev34 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_705 : BitVec 32 := 1#32
  let v498 : BitVec 32 := Scalar.muli v4 c1_i32_705
  let v499 : BitVec 32 := Scalar.addi c0_i32_706 v498
  v499.toNat
def k0_dev35 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_759 : BitVec 32 := 1#32
  let v538 : BitVec 32 := Scalar.muli v4 c1_i32_759
  let v539 : BitVec 32 := Scalar.addi c0_i32_760 v538
  v539.toNat
def k0_dev36 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_763 : BitVec 32 := 1#32
  let v542 : BitVec 32 := Scalar.muli v6 c1_i32_763
  let v543 : BitVec 32 := Scalar.addi c0_i32_764 v542
  v543.toNat
@[reducible] def k0_t13_loop : Scf.Loop 32 :=
  let c0_i32_765 : BitVec 32 := 0#32
  let c4_i32_766 : BitVec 32 := 4#32
  let v544 : BitVec 32 := Scalar.addi c0_i32_765 c4_i32_766
  let c1_i32_767 : BitVec 32 := 1#32
  ⟨c0_i32_765, v544, c1_i32_767⟩
def k0_off30 (k0_t13 : Fin k0_t13_loop.trips) : Fin 3 → Nat :=
  let c0_2142 : Index := 0#32
  let c0_i32_765 : BitVec 32 := 0#32
  let c1_i32_767 : BitVec 32 := 1#32
  let arg28 : BitVec 32 := Scf.iv c0_i32_765 c1_i32_767 k0_t13
  let c128_i32 : BitVec 32 := 128#32
  let v1606 : BitVec 32 := Scalar.muli arg28 c128_i32
  let v1607 : Index := Scalar.indexCast v1606
  let c2048 : Index := 2048#32
  ![0, v1607.toNat, 2048]
def k0_off31 (k0_t13 : Fin k0_t13_loop.trips) : Fin 2 → Nat :=
  let c0_i32_765 : BitVec 32 := 0#32
  let c1_i32_767 : BitVec 32 := 1#32
  let arg28 : BitVec 32 := Scf.iv c0_i32_765 c1_i32_767 k0_t13
  let c128_i32 : BitVec 32 := 128#32
  let v1606 : BitVec 32 := Scalar.muli arg28 c128_i32
  let v1611 : Index := Scalar.indexCast v1606
  let c2048_2143 : Index := 2048#32
  ![v1611.toNat, 2048]
def k0_dev37 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_781 : BitVec 32 := 1#32
  let v549 : BitVec 32 := Scalar.muli v6 c1_i32_781
  let v550 : BitVec 32 := Scalar.addi c0_i32_782 v549
  v550.toNat
def k0_dev38 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_793 : BitVec 32 := 1#32
  let v559 : BitVec 32 := Scalar.muli v4 c1_i32_793
  let v560 : BitVec 32 := Scalar.addi c0_i32_794 v559
  v560.toNat
@[reducible] def k0_t14_loop : Scf.Loop 32 :=
  let c0_i32_803 : BitVec 32 := 0#32
  let c4_i32_804 : BitVec 32 := 4#32
  let v574 : BitVec 32 := Scalar.addi c0_i32_803 c4_i32_804
  let c1_i32_805 : BitVec 32 := 1#32
  ⟨c0_i32_803, v574, c1_i32_805⟩
def k0_off32 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c10_i32 : BitVec 32 := 10#32
  let v569 : BitVec 32 := Scalar.addi v2 c10_i32
  let c8_i32_799 : BitVec 32 := 8#32
  let v570 : BitVec 32 := Scalar.remsi v569 c8_i32_799
  let c512_i32_2142 : BitVec 32 := 512#32
  let v1607 : BitVec 32 := Scalar.muli v570 c512_i32_2142
  let c0_i32_803 : BitVec 32 := 0#32
  let c1_i32_805 : BitVec 32 := 1#32
  let arg28 : BitVec 32 := Scf.iv c0_i32_803 c1_i32_805 k0_t14
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off33 (k0_t14 : Fin k0_t14_loop.trips) : Fin 2 → Nat :=
  let c0_i32_803 : BitVec 32 := 0#32
  let c1_i32_805 : BitVec 32 := 1#32
  let arg28 : BitVec 32 := Scf.iv c0_i32_803 c1_i32_805 k0_t14
  let c128_i32 : BitVec 32 := 128#32
  let v1606 : BitVec 32 := Scalar.muli arg28 c128_i32
  let v1617 : Index := Scalar.indexCast v1606
  let c0_2148 : Index := 0#32
  ![v1617.toNat, 0]
def k0_off34 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_800 : BitVec 32 := 2#32
  let v571 : BitVec 32 := Scalar.addi v2 c2_i32_800
  let c4_i32_801 : BitVec 32 := 4#32
  let v572 : BitVec 32 := Scalar.addi v571 c4_i32_801
  let c8_i32_802 : BitVec 32 := 8#32
  let v573 : BitVec 32 := Scalar.remsi v572 c8_i32_802
  let c512_i32_2149 : BitVec 32 := 512#32
  let v1621 : BitVec 32 := Scalar.muli v573 c512_i32_2149
  let c0_i32_803 : BitVec 32 := 0#32
  let c1_i32_805 : BitVec 32 := 1#32
  let arg28 : BitVec 32 := Scf.iv c0_i32_803 c1_i32_805 k0_t14
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
def k0_dev39 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_855 : BitVec 32 := 1#32
  let v605 : BitVec 32 := Scalar.muli v4 c1_i32_855
  let v606 : BitVec 32 := Scalar.addi c0_i32_856 v605
  v606.toNat
def k0_dev40 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_859 : BitVec 32 := 1#32
  let v609 : BitVec 32 := Scalar.muli v6 c1_i32_859
  let v610 : BitVec 32 := Scalar.addi c0_i32_860 v609
  v610.toNat
@[reducible] def k0_t15_loop : Scf.Loop 32 :=
  let c0_i32_861 : BitVec 32 := 0#32
  let c4_i32_862 : BitVec 32 := 4#32
  let v611 : BitVec 32 := Scalar.addi c0_i32_861 c4_i32_862
  let c1_i32_863 : BitVec 32 := 1#32
  ⟨c0_i32_861, v611, c1_i32_863⟩
def k0_off35 (k0_t15 : Fin k0_t15_loop.trips) : Fin 3 → Nat :=
  let c1 : Index := 1#32
  let c0_i32_861 : BitVec 32 := 0#32
  let c1_i32_863 : BitVec 32 := 1#32
  let arg28 : BitVec 32 := Scf.iv c0_i32_861 c1_i32_863 k0_t15
  let c128_i32 : BitVec 32 := 128#32
  let v1606 : BitVec 32 := Scalar.muli arg28 c128_i32
  let v1607 : Index := Scalar.indexCast v1606
  let c0_2142 : Index := 0#32
  ![1, v1607.toNat, 0]
def k0_off36 (k0_t15 : Fin k0_t15_loop.trips) : Fin 2 → Nat :=
  let c0_i32_861 : BitVec 32 := 0#32
  let c1_i32_863 : BitVec 32 := 1#32
  let arg28 : BitVec 32 := Scf.iv c0_i32_861 c1_i32_863 k0_t15
  let c128_i32 : BitVec 32 := 128#32
  let v1606 : BitVec 32 := Scalar.muli arg28 c128_i32
  let v1611 : Index := Scalar.indexCast v1606
  let c0_2143 : Index := 0#32
  ![v1611.toNat, 0]
def k0_dev41 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_876 : BitVec 32 := 1#32
  let v616 : BitVec 32 := Scalar.muli v6 c1_i32_876
  let v617 : BitVec 32 := Scalar.addi c0_i32_877 v616
  v617.toNat
def k0_dev42 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_888 : BitVec 32 := 1#32
  let v626 : BitVec 32 := Scalar.muli v4 c1_i32_888
  let v627 : BitVec 32 := Scalar.addi c0_i32_889 v626
  v627.toNat
def k0_dev43 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_942 : BitVec 32 := 1#32
  let v666 : BitVec 32 := Scalar.muli v4 c1_i32_942
  let v667 : BitVec 32 := Scalar.addi c0_i32_943 v666
  v667.toNat
def k0_dev44 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_946 : BitVec 32 := 1#32
  let v670 : BitVec 32 := Scalar.muli v6 c1_i32_946
  let v671 : BitVec 32 := Scalar.addi c0_i32_947 v670
  v671.toNat
@[reducible] def k0_t16_loop : Scf.Loop 32 :=
  let c0_i32_948 : BitVec 32 := 0#32
  let c4_i32_949 : BitVec 32 := 4#32
  let v672 : BitVec 32 := Scalar.addi c0_i32_948 c4_i32_949
  let c1_i32_950 : BitVec 32 := 1#32
  ⟨c0_i32_948, v672, c1_i32_950⟩
def k0_off37 (k0_t16 : Fin k0_t16_loop.trips) : Fin 3 → Nat :=
  let c1 : Index := 1#32
  let c0_i32_948 : BitVec 32 := 0#32
  let c1_i32_950 : BitVec 32 := 1#32
  let arg28 : BitVec 32 := Scf.iv c0_i32_948 c1_i32_950 k0_t16
  let c128_i32 : BitVec 32 := 128#32
  let v1606 : BitVec 32 := Scalar.muli arg28 c128_i32
  let v1607 : Index := Scalar.indexCast v1606
  let c2048 : Index := 2048#32
  ![1, v1607.toNat, 2048]
def k0_off38 (k0_t16 : Fin k0_t16_loop.trips) : Fin 2 → Nat :=
  let c0_i32_948 : BitVec 32 := 0#32
  let c1_i32_950 : BitVec 32 := 1#32
  let arg28 : BitVec 32 := Scf.iv c0_i32_948 c1_i32_950 k0_t16
  let c128_i32 : BitVec 32 := 128#32
  let v1606 : BitVec 32 := Scalar.muli arg28 c128_i32
  let v1611 : Index := Scalar.indexCast v1606
  let c2048_2142 : Index := 2048#32
  ![v1611.toNat, 2048]
def k0_dev45 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_964 : BitVec 32 := 1#32
  let v677 : BitVec 32 := Scalar.muli v6 c1_i32_964
  let v678 : BitVec 32 := Scalar.addi c0_i32_965 v677
  v678.toNat
def k0_dev46 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_976 : BitVec 32 := 1#32
  let v687 : BitVec 32 := Scalar.muli v4 c1_i32_976
  let v688 : BitVec 32 := Scalar.addi c0_i32_977 v687
  v688.toNat
@[reducible] def k0_t17_loop : Scf.Loop 32 :=
  let c0_i32_986 : BitVec 32 := 0#32
  let c4_i32_987 : BitVec 32 := 4#32
  let v702 : BitVec 32 := Scalar.addi c0_i32_986 c4_i32_987
  let c1_i32_988 : BitVec 32 := 1#32
  ⟨c0_i32_986, v702, c1_i32_988⟩
def k0_off39 (d0 : Dev nD) (k0_t17 : Fin k0_t17_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c9_i32 : BitVec 32 := 9#32
  let v697 : BitVec 32 := Scalar.addi v2 c9_i32
  let c8_i32_982 : BitVec 32 := 8#32
  let v698 : BitVec 32 := Scalar.remsi v697 c8_i32_982
  let c512_i32_2142 : BitVec 32 := 512#32
  let v1607 : BitVec 32 := Scalar.muli v698 c512_i32_2142
  let c0_i32_986 : BitVec 32 := 0#32
  let c1_i32_988 : BitVec 32 := 1#32
  let arg28 : BitVec 32 := Scf.iv c0_i32_986 c1_i32_988 k0_t17
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off40 (k0_t17 : Fin k0_t17_loop.trips) : Fin 2 → Nat :=
  let c0_i32_986 : BitVec 32 := 0#32
  let c1_i32_988 : BitVec 32 := 1#32
  let arg28 : BitVec 32 := Scf.iv c0_i32_986 c1_i32_988 k0_t17
  let c128_i32 : BitVec 32 := 128#32
  let v1606 : BitVec 32 := Scalar.muli arg28 c128_i32
  let v1617 : Index := Scalar.indexCast v1606
  let c0_2148 : Index := 0#32
  ![v1617.toNat, 0]
def k0_off41 (d0 : Dev nD) (k0_t17 : Fin k0_t17_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_983 : BitVec 32 := 2#32
  let v699 : BitVec 32 := Scalar.addi v2 c2_i32_983
  let c5_i32_984 : BitVec 32 := 5#32
  let v700 : BitVec 32 := Scalar.addi v699 c5_i32_984
  let c8_i32_985 : BitVec 32 := 8#32
  let v701 : BitVec 32 := Scalar.remsi v700 c8_i32_985
  let c512_i32_2149 : BitVec 32 := 512#32
  let v1621 : BitVec 32 := Scalar.muli v701 c512_i32_2149
  let c0_i32_986 : BitVec 32 := 0#32
  let c1_i32_988 : BitVec 32 := 1#32
  let arg28 : BitVec 32 := Scf.iv c0_i32_986 c1_i32_988 k0_t17
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
def k0_dev47 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1038 : BitVec 32 := 1#32
  let v733 : BitVec 32 := Scalar.muli v4 c1_i32_1038
  let v734 : BitVec 32 := Scalar.addi c0_i32_1039 v733
  v734.toNat
def k0_dev48 (d0 : Dev nD) : Nat :=
  let c0_i32_1043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1042 : BitVec 32 := 1#32
  let v737 : BitVec 32 := Scalar.muli v6 c1_i32_1042
  let v738 : BitVec 32 := Scalar.addi c0_i32_1043 v737
  v738.toNat
@[reducible] def k0_t18_loop : Scf.Loop 32 :=
  let c0_i32_1044 : BitVec 32 := 0#32
  let c4_i32_1045 : BitVec 32 := 4#32
  let v739 : BitVec 32 := Scalar.addi c0_i32_1044 c4_i32_1045
  let c1_i32_1046 : BitVec 32 := 1#32
  ⟨c0_i32_1044, v739, c1_i32_1046⟩
def k0_off42 (k0_t18 : Fin k0_t18_loop.trips) : Fin 3 → Nat :=
  let c0_2142 : Index := 0#32
  let c0_i32_1044 : BitVec 32 := 0#32
  let c1_i32_1046 : BitVec 32 := 1#32
  let arg28 : BitVec 32 := Scf.iv c0_i32_1044 c1_i32_1046 k0_t18
  let c128_i32 : BitVec 32 := 128#32
  let v1606 : BitVec 32 := Scalar.muli arg28 c128_i32
  let v1607 : Index := Scalar.indexCast v1606
  let c0_2143 : Index := 0#32
  ![0, v1607.toNat, 0]
def k0_off43 (k0_t18 : Fin k0_t18_loop.trips) : Fin 2 → Nat :=
  let c0_i32_1044 : BitVec 32 := 0#32
  let c1_i32_1046 : BitVec 32 := 1#32
  let arg28 : BitVec 32 := Scf.iv c0_i32_1044 c1_i32_1046 k0_t18
  let c128_i32 : BitVec 32 := 128#32
  let v1606 : BitVec 32 := Scalar.muli arg28 c128_i32
  let v1611 : Index := Scalar.indexCast v1606
  let c0_2144 : Index := 0#32
  ![v1611.toNat, 0]
def k0_dev49 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1059 : BitVec 32 := 1#32
  let v744 : BitVec 32 := Scalar.muli v6 c1_i32_1059
  let v745 : BitVec 32 := Scalar.addi c0_i32_1060 v744
  v745.toNat
def k0_dev50 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1071 : BitVec 32 := 1#32
  let v754 : BitVec 32 := Scalar.muli v4 c1_i32_1071
  let v755 : BitVec 32 := Scalar.addi c0_i32_1072 v754
  v755.toNat
def k0_dev51 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1125 : BitVec 32 := 1#32
  let v794 : BitVec 32 := Scalar.muli v4 c1_i32_1125
  let v795 : BitVec 32 := Scalar.addi c0_i32_1126 v794
  v795.toNat
def k0_dev52 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1129 : BitVec 32 := 1#32
  let v798 : BitVec 32 := Scalar.muli v6 c1_i32_1129
  let v799 : BitVec 32 := Scalar.addi c0_i32_1130 v798
  v799.toNat
@[reducible] def k0_t19_loop : Scf.Loop 32 :=
  let c0_i32_1131 : BitVec 32 := 0#32
  let c4_i32_1132 : BitVec 32 := 4#32
  let v800 : BitVec 32 := Scalar.addi c0_i32_1131 c4_i32_1132
  let c1_i32_1133 : BitVec 32 := 1#32
  ⟨c0_i32_1131, v800, c1_i32_1133⟩
def k0_off44 (k0_t19 : Fin k0_t19_loop.trips) : Fin 3 → Nat :=
  let c0_2142 : Index := 0#32
  let c0_i32_1131 : BitVec 32 := 0#32
  let c1_i32_1133 : BitVec 32 := 1#32
  let arg28 : BitVec 32 := Scf.iv c0_i32_1131 c1_i32_1133 k0_t19
  let c128_i32 : BitVec 32 := 128#32
  let v1606 : BitVec 32 := Scalar.muli arg28 c128_i32
  let v1607 : Index := Scalar.indexCast v1606
  let c2048 : Index := 2048#32
  ![0, v1607.toNat, 2048]
def k0_off45 (k0_t19 : Fin k0_t19_loop.trips) : Fin 2 → Nat :=
  let c0_i32_1131 : BitVec 32 := 0#32
  let c1_i32_1133 : BitVec 32 := 1#32
  let arg28 : BitVec 32 := Scf.iv c0_i32_1131 c1_i32_1133 k0_t19
  let c128_i32 : BitVec 32 := 128#32
  let v1606 : BitVec 32 := Scalar.muli arg28 c128_i32
  let v1611 : Index := Scalar.indexCast v1606
  let c2048_2143 : Index := 2048#32
  ![v1611.toNat, 2048]
def k0_dev53 (d0 : Dev nD) : Nat :=
  let c0_i32_1148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1147 : BitVec 32 := 1#32
  let v805 : BitVec 32 := Scalar.muli v6 c1_i32_1147
  let v806 : BitVec 32 := Scalar.addi c0_i32_1148 v805
  v806.toNat
def k0_dev54 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1159 : BitVec 32 := 1#32
  let v815 : BitVec 32 := Scalar.muli v4 c1_i32_1159
  let v816 : BitVec 32 := Scalar.addi c0_i32_1160 v815
  v816.toNat
@[reducible] def k0_t20_loop : Scf.Loop 32 :=
  let c0_i32_1170 : BitVec 32 := 0#32
  let c4_i32_1171 : BitVec 32 := 4#32
  let v830 : BitVec 32 := Scalar.addi c0_i32_1170 c4_i32_1171
  let c1_i32_1172 : BitVec 32 := 1#32
  ⟨c0_i32_1170, v830, c1_i32_1172⟩
def k0_off46 (d0 : Dev nD) (k0_t20 : Fin k0_t20_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1165 : BitVec 32 := 8#32
  let v825 : BitVec 32 := Scalar.addi v2 c8_i32_1165
  let c8_i32_1166 : BitVec 32 := 8#32
  let v826 : BitVec 32 := Scalar.remsi v825 c8_i32_1166
  let c512_i32_2142 : BitVec 32 := 512#32
  let v1607 : BitVec 32 := Scalar.muli v826 c512_i32_2142
  let c0_i32_1170 : BitVec 32 := 0#32
  let c1_i32_1172 : BitVec 32 := 1#32
  let arg28 : BitVec 32 := Scf.iv c0_i32_1170 c1_i32_1172 k0_t20
  let c128_i32_2143 : BitVec 32 := 128#32
  let v1608 : BitVec 32 := Scalar.muli arg28 c128_i32_2143
  let v1609 : BitVec 32 := Scalar.addi v1607 v1608
  let v1610 : Index := Scalar.indexCast v1609
  let c0_2144 : Index := 0#32
  ![v1610.toNat, 0]
def k0_off47 (k0_t20 : Fin k0_t20_loop.trips) : Fin 2 → Nat :=
  let c0_i32_1170 : BitVec 32 := 0#32
  let c1_i32_1172 : BitVec 32 := 1#32
  let arg28 : BitVec 32 := Scf.iv c0_i32_1170 c1_i32_1172 k0_t20
  let c128_i32 : BitVec 32 := 128#32
  let v1606 : BitVec 32 := Scalar.muli arg28 c128_i32
  let v1617 : Index := Scalar.indexCast v1606
  let c0_2148 : Index := 0#32
  ![v1617.toNat, 0]
def k0_off48 (d0 : Dev nD) (k0_t20 : Fin k0_t20_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1167 : BitVec 32 := 2#32
  let v827 : BitVec 32 := Scalar.addi v2 c2_i32_1167
  let c6_i32_1168 : BitVec 32 := 6#32
  let v828 : BitVec 32 := Scalar.addi v827 c6_i32_1168
  let c8_i32_1169 : BitVec 32 := 8#32
  let v829 : BitVec 32 := Scalar.remsi v828 c8_i32_1169
  let c512_i32_2149 : BitVec 32 := 512#32
  let v1621 : BitVec 32 := Scalar.muli v829 c512_i32_2149
  let c0_i32_1170 : BitVec 32 := 0#32
  let c1_i32_1172 : BitVec 32 := 1#32
  let arg28 : BitVec 32 := Scf.iv c0_i32_1170 c1_i32_1172 k0_t20
  let c128_i32_2150 : BitVec 32 := 128#32
  let v1622 : BitVec 32 := Scalar.muli arg28 c128_i32_2150
  let v1623 : BitVec 32 := Scalar.addi v1621 v1622
  let v1624 : Index := Scalar.indexCast v1623
  let c0_2151 : Index := 0#32
  ![v1624.toNat, 0]
@[reducible] def k0_t21_loop : Scf.Loop 32 :=
  let c0_i32_1220 : BitVec 32 := 0#32
  let c4_i32_1221 : BitVec 32 := 4#32
  let v859 : BitVec 32 := Scalar.addi c0_i32_1220 c4_i32_1221
  let c1_i32_1222 : BitVec 32 := 1#32
  ⟨c0_i32_1220, v859, c1_i32_1222⟩
def k0_off49 (k0_t21 : Fin k0_t21_loop.trips) : Fin 3 → Nat :=
  let c1 : Index := 1#32
  let c0_i32_1220 : BitVec 32 := 0#32
  let c1_i32_1222 : BitVec 32 := 1#32
  let arg28 : BitVec 32 := Scf.iv c0_i32_1220 c1_i32_1222 k0_t21
  let c128_i32 : BitVec 32 := 128#32
  let v1606 : BitVec 32 := Scalar.muli arg28 c128_i32
  let v1607 : Index := Scalar.indexCast v1606
  let c0_2142 : Index := 0#32
  ![1, v1607.toNat, 0]
def k0_off50 (k0_t21 : Fin k0_t21_loop.trips) : Fin 2 → Nat :=
  let c0_i32_1220 : BitVec 32 := 0#32
  let c1_i32_1222 : BitVec 32 := 1#32
  let arg28 : BitVec 32 := Scf.iv c0_i32_1220 c1_i32_1222 k0_t21
  let c128_i32 : BitVec 32 := 128#32
  let v1606 : BitVec 32 := Scalar.muli arg28 c128_i32
  let v1611 : Index := Scalar.indexCast v1606
  let c0_2143 : Index := 0#32
  ![v1611.toNat, 0]
def k0_off51 (k0_t21 : Fin k0_t21_loop.trips) : Fin 3 → Nat :=
  let c0_2144 : Index := 0#32
  let c0_i32_1220 : BitVec 32 := 0#32
  let c1_i32_1222 : BitVec 32 := 1#32
  let arg28 : BitVec 32 := Scf.iv c0_i32_1220 c1_i32_1222 k0_t21
  let c128_i32 : BitVec 32 := 128#32
  let v1606 : BitVec 32 := Scalar.muli arg28 c128_i32
  let v1616 : Index := Scalar.indexCast v1606
  let c0_2145 : Index := 0#32
  ![0, v1616.toNat, 0]
@[reducible] def k0_t22_loop : Scf.Loop 32 :=
  let c0_i32_1270 : BitVec 32 := 0#32
  let c4_i32_1271 : BitVec 32 := 4#32
  let v889 : BitVec 32 := Scalar.addi c0_i32_1270 c4_i32_1271
  let c1_i32_1272 : BitVec 32 := 1#32
  ⟨c0_i32_1270, v889, c1_i32_1272⟩
def k0_off52 (k0_t22 : Fin k0_t22_loop.trips) : Fin 3 → Nat :=
  let c1 : Index := 1#32
  let c0_i32_1270 : BitVec 32 := 0#32
  let c1_i32_1272 : BitVec 32 := 1#32
  let arg28 : BitVec 32 := Scf.iv c0_i32_1270 c1_i32_1272 k0_t22
  let c128_i32 : BitVec 32 := 128#32
  let v1606 : BitVec 32 := Scalar.muli arg28 c128_i32
  let v1607 : Index := Scalar.indexCast v1606
  let c2048 : Index := 2048#32
  ![1, v1607.toNat, 2048]
def k0_off53 (k0_t22 : Fin k0_t22_loop.trips) : Fin 2 → Nat :=
  let c0_i32_1270 : BitVec 32 := 0#32
  let c1_i32_1272 : BitVec 32 := 1#32
  let arg28 : BitVec 32 := Scf.iv c0_i32_1270 c1_i32_1272 k0_t22
  let c128_i32 : BitVec 32 := 128#32
  let v1606 : BitVec 32 := Scalar.muli arg28 c128_i32
  let v1611 : Index := Scalar.indexCast v1606
  let c2048_2142 : Index := 2048#32
  ![v1611.toNat, 2048]
def k0_off54 (k0_t22 : Fin k0_t22_loop.trips) : Fin 3 → Nat :=
  let c0_2143 : Index := 0#32
  let c0_i32_1270 : BitVec 32 := 0#32
  let c1_i32_1272 : BitVec 32 := 1#32
  let arg28 : BitVec 32 := Scf.iv c0_i32_1270 c1_i32_1272 k0_t22
  let c128_i32 : BitVec 32 := 128#32
  let v1606 : BitVec 32 := Scalar.muli arg28 c128_i32
  let v1616 : Index := Scalar.indexCast v1606
  let c2048_2144 : Index := 2048#32
  ![0, v1616.toNat, 2048]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v892 : Index := Scalar.indexCast v2
  let c0 : Index := 0#32
  let c0_1274 : Index := 0#32
  ![v892.toNat, 0, 0]
def k0_off56 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1281 : BitVec 32 := 0#32
  let c0_i32_1282 : BitVec 32 := 0#32
  ![v2.toNat, 0, 0]
def k0_dev55 (d0 : Dev nD) : Nat :=
  let c0_i32_1280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1275 : BitVec 32 := 1#32
  let v896 : BitVec 32 := Scalar.addi v2 c1_i32_1275
  let c8_i32_1276 : BitVec 32 := 8#32
  let v897 : BitVec 32 := Scalar.remsi v896 c8_i32_1276
  let c1_i32_1279 : BitVec 32 := 1#32
  let v898 : BitVec 32 := Scalar.muli v897 c1_i32_1279
  let v899 : BitVec 32 := Scalar.addi c0_i32_1280 v898
  v899.toNat
def k0_dev56 (d0 : Dev nD) : Nat :=
  let c0_i32_1290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1285 : BitVec 32 := 2#32
  let v908 : BitVec 32 := Scalar.addi v2 c2_i32_1285
  let c8_i32_1286 : BitVec 32 := 8#32
  let v909 : BitVec 32 := Scalar.remsi v908 c8_i32_1286
  let c1_i32_1289 : BitVec 32 := 1#32
  let v910 : BitVec 32 := Scalar.muli v909 c1_i32_1289
  let v911 : BitVec 32 := Scalar.addi c0_i32_1290 v910
  v911.toNat
def k0_dev57 (d0 : Dev nD) : Nat :=
  let c0_i32_1300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1295 : BitVec 32 := 3#32
  let v920 : BitVec 32 := Scalar.addi v2 c3_i32_1295
  let c8_i32_1296 : BitVec 32 := 8#32
  let v921 : BitVec 32 := Scalar.remsi v920 c8_i32_1296
  let c1_i32_1299 : BitVec 32 := 1#32
  let v922 : BitVec 32 := Scalar.muli v921 c1_i32_1299
  let v923 : BitVec 32 := Scalar.addi c0_i32_1300 v922
  v923.toNat
def k0_dev58 (d0 : Dev nD) : Nat :=
  let c0_i32_1310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1305 : BitVec 32 := 4#32
  let v932 : BitVec 32 := Scalar.addi v2 c4_i32_1305
  let c8_i32_1306 : BitVec 32 := 8#32
  let v933 : BitVec 32 := Scalar.remsi v932 c8_i32_1306
  let c1_i32_1309 : BitVec 32 := 1#32
  let v934 : BitVec 32 := Scalar.muli v933 c1_i32_1309
  let v935 : BitVec 32 := Scalar.addi c0_i32_1310 v934
  v935.toNat
def k0_dev59 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1315 : BitVec 32 := 5#32
  let v944 : BitVec 32 := Scalar.addi v2 c5_i32_1315
  let c8_i32_1316 : BitVec 32 := 8#32
  let v945 : BitVec 32 := Scalar.remsi v944 c8_i32_1316
  let c1_i32_1319 : BitVec 32 := 1#32
  let v946 : BitVec 32 := Scalar.muli v945 c1_i32_1319
  let v947 : BitVec 32 := Scalar.addi c0_i32_1320 v946
  v947.toNat
def k0_dev60 (d0 : Dev nD) : Nat :=
  let c0_i32_1330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1325 : BitVec 32 := 6#32
  let v956 : BitVec 32 := Scalar.addi v2 c6_i32_1325
  let c8_i32_1326 : BitVec 32 := 8#32
  let v957 : BitVec 32 := Scalar.remsi v956 c8_i32_1326
  let c1_i32_1329 : BitVec 32 := 1#32
  let v958 : BitVec 32 := Scalar.muli v957 c1_i32_1329
  let v959 : BitVec 32 := Scalar.addi c0_i32_1330 v958
  v959.toNat
def k0_dev61 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1335 : BitVec 32 := 7#32
  let v968 : BitVec 32 := Scalar.addi v2 c7_i32_1335
  let c8_i32_1336 : BitVec 32 := 8#32
  let v969 : BitVec 32 := Scalar.remsi v968 c8_i32_1336
  let c1_i32_1339 : BitVec 32 := 1#32
  let v970 : BitVec 32 := Scalar.muli v969 c1_i32_1339
  let v971 : BitVec 32 := Scalar.addi c0_i32_1340 v970
  v971.toNat
@[reducible] def k0_t23_loop : Scf.Loop 32 :=
  let c0_i32_1458 : BitVec 32 := 0#32
  let c4_i32_1459 : BitVec 32 := 4#32
  let v1087 : BitVec 32 := Scalar.addi c0_i32_1458 c4_i32_1459
  let c1_i32_1460 : BitVec 32 := 1#32
  ⟨c0_i32_1458, v1087, c1_i32_1460⟩
def k0_off57 (k0_t23 : Fin k0_t23_loop.trips) : Fin 3 → Nat :=
  let c0_2142 : Index := 0#32
  let c0_i32_1458 : BitVec 32 := 0#32
  let c1_i32_1460 : BitVec 32 := 1#32
  let arg28 : BitVec 32 := Scf.iv c0_i32_1458 c1_i32_1460 k0_t23
  let c128_i32 : BitVec 32 := 128#32
  let v1606 : BitVec 32 := Scalar.muli arg28 c128_i32
  let v1607 : Index := Scalar.indexCast v1606
  let c0_2143 : Index := 0#32
  ![0, v1607.toNat, 0]
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v1088 : BitVec 32 := Scalar.muli v2 c512_i32
  let c0_i32_1463 : BitVec 32 := 0#32
  ![v1088.toNat, 0]
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1466 : BitVec 32 := 512#32
  let v1092 : BitVec 32 := Scalar.muli v2 c512_i32_1466
  let c4096_i32 : BitVec 32 := 4096#32
  ![v1092.toNat, 4096]
def k0_dev62 (d0 : Dev nD) : Nat :=
  let c0_i32_1472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1471 : BitVec 32 := 1#32
  let v1096 : BitVec 32 := Scalar.muli v4 c1_i32_1471
  let v1097 : BitVec 32 := Scalar.addi c0_i32_1472 v1096
  v1097.toNat
def k0_dev63 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1474 : BitVec 32 := 1#32
  let v1098 : BitVec 32 := Scalar.muli v6 c1_i32_1474
  let v1099 : BitVec 32 := Scalar.addi c0_i32_1475 v1098
  v1099.toNat
def k0_dev64 (d0 : Dev nD) : Nat :=
  let c0_i32_1485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1484 : BitVec 32 := 1#32
  let v1100 : BitVec 32 := Scalar.muli v6 c1_i32_1484
  let v1101 : BitVec 32 := Scalar.addi c0_i32_1485 v1100
  v1101.toNat
def k0_dev65 (d0 : Dev nD) : Nat :=
  let c0_i32_1495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1494 : BitVec 32 := 1#32
  let v1110 : BitVec 32 := Scalar.muli v4 c1_i32_1494
  let v1111 : BitVec 32 := Scalar.addi c0_i32_1495 v1110
  v1111.toNat
def k0_dev66 (d0 : Dev nD) : Nat :=
  let c0_i32_1540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1539 : BitVec 32 := 1#32
  let v1148 : BitVec 32 := Scalar.muli v4 c1_i32_1539
  let v1149 : BitVec 32 := Scalar.addi c0_i32_1540 v1148
  v1149.toNat
def k0_dev67 (d0 : Dev nD) : Nat :=
  let c0_i32_1543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1542 : BitVec 32 := 1#32
  let v1150 : BitVec 32 := Scalar.muli v6 c1_i32_1542
  let v1151 : BitVec 32 := Scalar.addi c0_i32_1543 v1150
  v1151.toNat
def k0_dev68 (d0 : Dev nD) : Nat :=
  let c0_i32_1553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1552 : BitVec 32 := 1#32
  let v1152 : BitVec 32 := Scalar.muli v6 c1_i32_1552
  let v1153 : BitVec 32 := Scalar.addi c0_i32_1553 v1152
  v1153.toNat
def k0_dev69 (d0 : Dev nD) : Nat :=
  let c0_i32_1563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1562 : BitVec 32 := 1#32
  let v1162 : BitVec 32 := Scalar.muli v4 c1_i32_1562
  let v1163 : BitVec 32 := Scalar.addi c0_i32_1563 v1162
  v1163.toNat
@[reducible] def k0_t24_loop : Scf.Loop 32 :=
  let c0_i32_1568 : BitVec 32 := 0#32
  let c4_i32_1569 : BitVec 32 := 4#32
  let v1172 : BitVec 32 := Scalar.addi c0_i32_1568 c4_i32_1569
  let c1_i32_1570 : BitVec 32 := 1#32
  ⟨c0_i32_1568, v1172, c1_i32_1570⟩
def k0_off60 (k0_t24 : Fin k0_t24_loop.trips) : Fin 3 → Nat :=
  let c1 : Index := 1#32
  let c0_i32_1568 : BitVec 32 := 0#32
  let c1_i32_1570 : BitVec 32 := 1#32
  let arg28 : BitVec 32 := Scf.iv c0_i32_1568 c1_i32_1570 k0_t24
  let c128_i32 : BitVec 32 := 128#32
  let v1606 : BitVec 32 := Scalar.muli arg28 c128_i32
  let v1607 : Index := Scalar.indexCast v1606
  let c0_2142 : Index := 0#32
  ![1, v1607.toNat, 0]
def k0_off61 (d0 : Dev nD) (c15_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1173 : BitVec 32 := Scalar.addi v2 c15_i32
  let c8_i32_1572 : BitVec 32 := 8#32
  let v1174 : BitVec 32 := Scalar.remsi v1173 c8_i32_1572
  let c512_i32_1576 : BitVec 32 := 512#32
  let v1178 : BitVec 32 := Scalar.muli v1174 c512_i32_1576
  let c0_i32_1578 : BitVec 32 := 0#32
  ![v1178.toNat, 0]
def k0_off62 (d0 : Dev nD) (c0_i32_1574 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1573 : BitVec 32 := 1#32
  let v1175 : BitVec 32 := Scalar.addi v2 c1_i32_1573
  let v1176 : BitVec 32 := Scalar.addi v1175 c0_i32_1574
  let c8_i32_1575 : BitVec 32 := 8#32
  let v1177 : BitVec 32 := Scalar.remsi v1176 c8_i32_1575
  let c512_i32_1581 : BitVec 32 := 512#32
  let v1182 : BitVec 32 := Scalar.muli v1177 c512_i32_1581
  let c4096_i32_1583 : BitVec 32 := 4096#32
  ![v1182.toNat, 4096]
def k0_dev70 (d0 : Dev nD) : Nat :=
  let c0_i32_1634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1633 : BitVec 32 := 1#32
  let v1220 : BitVec 32 := Scalar.muli v4 c1_i32_1633
  let v1221 : BitVec 32 := Scalar.addi c0_i32_1634 v1220
  v1221.toNat
def k0_dev71 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1636 : BitVec 32 := 1#32
  let v1222 : BitVec 32 := Scalar.muli v6 c1_i32_1636
  let v1223 : BitVec 32 := Scalar.addi c0_i32_1637 v1222
  v1223.toNat
def k0_dev72 (d0 : Dev nD) : Nat :=
  let c0_i32_1647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1646 : BitVec 32 := 1#32
  let v1224 : BitVec 32 := Scalar.muli v6 c1_i32_1646
  let v1225 : BitVec 32 := Scalar.addi c0_i32_1647 v1224
  v1225.toNat
def k0_dev73 (d0 : Dev nD) : Nat :=
  let c0_i32_1657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1656 : BitVec 32 := 1#32
  let v1234 : BitVec 32 := Scalar.muli v4 c1_i32_1656
  let v1235 : BitVec 32 := Scalar.addi c0_i32_1657 v1234
  v1235.toNat
@[reducible] def k0_t25_loop : Scf.Loop 32 :=
  let c0_i32_1670 : BitVec 32 := 0#32
  let c4_i32_1671 : BitVec 32 := 4#32
  let v1250 : BitVec 32 := Scalar.addi c0_i32_1670 c4_i32_1671
  let c1_i32_1672 : BitVec 32 := 1#32
  ⟨c0_i32_1670, v1250, c1_i32_1672⟩
def k0_off63 (k0_t25 : Fin k0_t25_loop.trips) : Fin 3 → Nat :=
  let c0_2142 : Index := 0#32
  let c0_i32_1670 : BitVec 32 := 0#32
  let c1_i32_1672 : BitVec 32 := 1#32
  let arg28 : BitVec 32 := Scf.iv c0_i32_1670 c1_i32_1672 k0_t25
  let c128_i32 : BitVec 32 := 128#32
  let v1606 : BitVec 32 := Scalar.muli arg28 c128_i32
  let v1607 : Index := Scalar.indexCast v1606
  let c0_2143 : Index := 0#32
  ![0, v1607.toNat, 0]
def k0_dev74 (d0 : Dev nD) : Nat :=
  let c0_i32_1737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1736 : BitVec 32 := 1#32
  let v1298 : BitVec 32 := Scalar.muli v4 c1_i32_1736
  let v1299 : BitVec 32 := Scalar.addi c0_i32_1737 v1298
  v1299.toNat
def k0_dev75 (d0 : Dev nD) : Nat :=
  let c0_i32_1740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1739 : BitVec 32 := 1#32
  let v1300 : BitVec 32 := Scalar.muli v6 c1_i32_1739
  let v1301 : BitVec 32 := Scalar.addi c0_i32_1740 v1300
  v1301.toNat
def k0_dev76 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1749 : BitVec 32 := 1#32
  let v1302 : BitVec 32 := Scalar.muli v6 c1_i32_1749
  let v1303 : BitVec 32 := Scalar.addi c0_i32_1750 v1302
  v1303.toNat
def k0_dev77 (d0 : Dev nD) : Nat :=
  let c0_i32_1760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1759 : BitVec 32 := 1#32
  let v1312 : BitVec 32 := Scalar.muli v4 c1_i32_1759
  let v1313 : BitVec 32 := Scalar.addi c0_i32_1760 v1312
  v1313.toNat
@[reducible] def k0_t26_loop : Scf.Loop 32 :=
  let c0_i32_1765 : BitVec 32 := 0#32
  let c4_i32_1766 : BitVec 32 := 4#32
  let v1322 : BitVec 32 := Scalar.addi c0_i32_1765 c4_i32_1766
  let c1_i32_1767 : BitVec 32 := 1#32
  ⟨c0_i32_1765, v1322, c1_i32_1767⟩
def k0_off64 (k0_t26 : Fin k0_t26_loop.trips) : Fin 3 → Nat :=
  let c1 : Index := 1#32
  let c0_i32_1765 : BitVec 32 := 0#32
  let c1_i32_1767 : BitVec 32 := 1#32
  let arg28 : BitVec 32 := Scf.iv c0_i32_1765 c1_i32_1767 k0_t26
  let c128_i32 : BitVec 32 := 128#32
  let v1606 : BitVec 32 := Scalar.muli arg28 c128_i32
  let v1607 : Index := Scalar.indexCast v1606
  let c0_2142 : Index := 0#32
  ![1, v1607.toNat, 0]
def k0_dev78 (d0 : Dev nD) : Nat :=
  let c0_i32_1832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1831 : BitVec 32 := 1#32
  let v1370 : BitVec 32 := Scalar.muli v4 c1_i32_1831
  let v1371 : BitVec 32 := Scalar.addi c0_i32_1832 v1370
  v1371.toNat
def k0_dev79 (d0 : Dev nD) : Nat :=
  let c0_i32_1835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1834 : BitVec 32 := 1#32
  let v1372 : BitVec 32 := Scalar.muli v6 c1_i32_1834
  let v1373 : BitVec 32 := Scalar.addi c0_i32_1835 v1372
  v1373.toNat
def k0_dev80 (d0 : Dev nD) : Nat :=
  let c0_i32_1845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1844 : BitVec 32 := 1#32
  let v1374 : BitVec 32 := Scalar.muli v6 c1_i32_1844
  let v1375 : BitVec 32 := Scalar.addi c0_i32_1845 v1374
  v1375.toNat
def k0_dev81 (d0 : Dev nD) : Nat :=
  let c0_i32_1855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1854 : BitVec 32 := 1#32
  let v1384 : BitVec 32 := Scalar.muli v4 c1_i32_1854
  let v1385 : BitVec 32 := Scalar.addi c0_i32_1855 v1384
  v1385.toNat
@[reducible] def k0_t27_loop : Scf.Loop 32 :=
  let c0_i32_1860 : BitVec 32 := 0#32
  let c4_i32_1861 : BitVec 32 := 4#32
  let v1394 : BitVec 32 := Scalar.addi c0_i32_1860 c4_i32_1861
  let c1_i32_1862 : BitVec 32 := 1#32
  ⟨c0_i32_1860, v1394, c1_i32_1862⟩
def k0_off65 (k0_t27 : Fin k0_t27_loop.trips) : Fin 3 → Nat :=
  let c0_2142 : Index := 0#32
  let c0_i32_1860 : BitVec 32 := 0#32
  let c1_i32_1862 : BitVec 32 := 1#32
  let arg28 : BitVec 32 := Scf.iv c0_i32_1860 c1_i32_1862 k0_t27
  let c128_i32 : BitVec 32 := 128#32
  let v1606 : BitVec 32 := Scalar.muli arg28 c128_i32
  let v1607 : Index := Scalar.indexCast v1606
  let c0_2143 : Index := 0#32
  ![0, v1607.toNat, 0]
def k0_dev82 (d0 : Dev nD) : Nat :=
  let c0_i32_1927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1926 : BitVec 32 := 1#32
  let v1442 : BitVec 32 := Scalar.muli v4 c1_i32_1926
  let v1443 : BitVec 32 := Scalar.addi c0_i32_1927 v1442
  v1443.toNat
def k0_dev83 (d0 : Dev nD) : Nat :=
  let c0_i32_1930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1929 : BitVec 32 := 1#32
  let v1444 : BitVec 32 := Scalar.muli v6 c1_i32_1929
  let v1445 : BitVec 32 := Scalar.addi c0_i32_1930 v1444
  v1445.toNat
def k0_dev84 (d0 : Dev nD) : Nat :=
  let c0_i32_1940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1939 : BitVec 32 := 1#32
  let v1446 : BitVec 32 := Scalar.muli v6 c1_i32_1939
  let v1447 : BitVec 32 := Scalar.addi c0_i32_1940 v1446
  v1447.toNat
def k0_dev85 (d0 : Dev nD) : Nat :=
  let c0_i32_1950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1949 : BitVec 32 := 1#32
  let v1456 : BitVec 32 := Scalar.muli v4 c1_i32_1949
  let v1457 : BitVec 32 := Scalar.addi c0_i32_1950 v1456
  v1457.toNat
@[reducible] def k0_t28_loop : Scf.Loop 32 :=
  let c0_i32_1955 : BitVec 32 := 0#32
  let c4_i32_1956 : BitVec 32 := 4#32
  let v1466 : BitVec 32 := Scalar.addi c0_i32_1955 c4_i32_1956
  let c1_i32_1957 : BitVec 32 := 1#32
  ⟨c0_i32_1955, v1466, c1_i32_1957⟩
def k0_off66 (k0_t28 : Fin k0_t28_loop.trips) : Fin 3 → Nat :=
  let c1 : Index := 1#32
  let c0_i32_1955 : BitVec 32 := 0#32
  let c1_i32_1957 : BitVec 32 := 1#32
  let arg28 : BitVec 32 := Scf.iv c0_i32_1955 c1_i32_1957 k0_t28
  let c128_i32 : BitVec 32 := 128#32
  let v1606 : BitVec 32 := Scalar.muli arg28 c128_i32
  let v1607 : Index := Scalar.indexCast v1606
  let c0_2142 : Index := 0#32
  ![1, v1607.toNat, 0]
def k0_dev86 (d0 : Dev nD) : Nat :=
  let c0_i32_2022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_2021 : BitVec 32 := 1#32
  let v1514 : BitVec 32 := Scalar.muli v4 c1_i32_2021
  let v1515 : BitVec 32 := Scalar.addi c0_i32_2022 v1514
  v1515.toNat
def k0_dev87 (d0 : Dev nD) : Nat :=
  let c0_i32_2025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_2024 : BitVec 32 := 1#32
  let v1516 : BitVec 32 := Scalar.muli v6 c1_i32_2024
  let v1517 : BitVec 32 := Scalar.addi c0_i32_2025 v1516
  v1517.toNat
def k0_dev88 (d0 : Dev nD) : Nat :=
  let c0_i32_2035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_2034 : BitVec 32 := 1#32
  let v1518 : BitVec 32 := Scalar.muli v6 c1_i32_2034
  let v1519 : BitVec 32 := Scalar.addi c0_i32_2035 v1518
  v1519.toNat
def k0_dev89 (d0 : Dev nD) : Nat :=
  let c0_i32_2045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_2044 : BitVec 32 := 1#32
  let v1528 : BitVec 32 := Scalar.muli v4 c1_i32_2044
  let v1529 : BitVec 32 := Scalar.addi c0_i32_2045 v1528
  v1529.toNat
@[reducible] def k0_t29_loop : Scf.Loop 32 :=
  let c0_i32_2050 : BitVec 32 := 0#32
  let c4_i32_2051 : BitVec 32 := 4#32
  let v1538 : BitVec 32 := Scalar.addi c0_i32_2050 c4_i32_2051
  let c1_i32_2052 : BitVec 32 := 1#32
  ⟨c0_i32_2050, v1538, c1_i32_2052⟩
def k0_off67 (k0_t29 : Fin k0_t29_loop.trips) : Fin 3 → Nat :=
  let c0_2142 : Index := 0#32
  let c0_i32_2050 : BitVec 32 := 0#32
  let c1_i32_2052 : BitVec 32 := 1#32
  let arg28 : BitVec 32 := Scf.iv c0_i32_2050 c1_i32_2052 k0_t29
  let c128_i32 : BitVec 32 := 128#32
  let v1606 : BitVec 32 := Scalar.muli arg28 c128_i32
  let v1607 : Index := Scalar.indexCast v1606
  let c0_2143 : Index := 0#32
  ![0, v1607.toNat, 0]
@[reducible] def k0_t30_loop : Scf.Loop 32 :=
  let c0_i32_2115 : BitVec 32 := 0#32
  let c4_i32_2116 : BitVec 32 := 4#32
  let v1586 : BitVec 32 := Scalar.addi c0_i32_2115 c4_i32_2116
  let c1_i32_2117 : BitVec 32 := 1#32
  ⟨c0_i32_2115, v1586, c1_i32_2117⟩
def k0_off68 (k0_t30 : Fin k0_t30_loop.trips) : Fin 3 → Nat :=
  let c1 : Index := 1#32
  let c0_i32_2115 : BitVec 32 := 0#32
  let c1_i32_2117 : BitVec 32 := 1#32
  let arg28 : BitVec 32 := Scf.iv c0_i32_2115 c1_i32_2117 k0_t30
  let c128_i32 : BitVec 32 := 128#32
  let v1606 : BitVec 32 := Scalar.muli arg28 c128_i32
  let v1607 : Index := Scalar.indexCast v1606
  let c0_2142 : Index := 0#32
  ![1, v1607.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Held.lean ====
/-
# Ownership of a region of a memref at given contents

`held c m q A X`: thread `c` owns, at share `q`, the elements of memref `m` whose index lies in the region `A`,
and they read `X`. The regions are those of rectangles, so a kernel that hands halves, slots and chunks of one
buffer from device to device speaks of every piece by the buffer's own indices. The rules below cut and join regions,
load and store rectangles inside a region, and pass to the memref of a slice (squeezed) and back.
-/
module

public import Idealize.ShloMosaic.Lib.Memref
public import Idealize.ShloMosaic.Lib.Rounds
public import Idealize.ShloMosaic.Lib.Pipeline.ValueKit.Geometry

@[expose] public section

noncomputable section

namespace Cert.Held

open Idealize.ShloMosaic
open Idealize.SL
open Idealize.SL.RA Idealize.SL.Sem Idealize.SL.ProofMode
open Idealize.SL.BI (sProp bigSep bigSep_insert bigSep_mono bigSep_empty)
open scoped Idealize.SL.BI
open Idealize.SL.BI.BIBase Idealize.SL.BI.Laws
open PCS URA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

section Defs

variable (c : Thread nD τ) {sp : Space} {s : Shape} {e : EltTy} (m : Memref sig c.2.kind sp s e) (q : PosShare TreeShare)

/-- Thread `c` owns the elements of `m` in the region `A` at share `q`, and they read `X`. -/
def held (A : Finset s.Idx) (X : s.Idx → Val e) : sProp 𝕄 :=
  iprop(∃ f, ⌜∀ i ∈ A, m.view.read Val f i = X i⌝ ∗ (m.view.loc c ↦[m.view.setOn A]{q} f))

instance held_storable (A : Finset s.Idx) (X : s.Idx → Val e) :
    BI.Storable (upEmb : UEmb _ 𝕄) (held c m q A X) := by
  unfold held; infer_instance

/-- The contents matter on the region only. -/
theorem held_congr {A : Finset s.Idx} {X Y : s.Idx → Val e} (h : ∀ i ∈ A, X i = Y i) :
    (held c m q A X : sProp 𝕄) ⊢ held c m q A Y := by
  unfold held
  iintro ⟨%f, %hf, H⟩
  iexists f
  isplitr
  · ipureintro; exact fun i hi => (hf i hi).trans (h i hi)
  · iexact H

theorem setOn_disjoint {A B : Finset s.Idx} (h : Disjoint A B) : Disjoint (m.view.setOn A) (m.view.setOn B) :=
  (Finset.disjoint_map _).mpr h

theorem setOn_union (A B : Finset s.Idx) : m.view.setOn (A ∪ B) = m.view.setOn A ∪ m.view.setOn B :=
  Finset.map_union _ _

/-- A region cut in two. -/
theorem held_cut {A B : Finset s.Idx} (h : Disjoint A B) (X : s.Idx → Val e) :
    (held c m q (A ∪ B) X : sProp 𝕄) ⊢ iprop(held c m q A X ∗ held c m q B X) := by
  unfold held
  iintro ⟨%f, %hf, H⟩
  rw [setOn_union]
  ihave H := (pointsTo_union (setOn_disjoint c m h)).1 $$ H
  icases H with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

/-- Two disjoint regions that read one `X` make one. -/
theorem held_join {A B : Finset s.Idx} (h : Disjoint A B) (X : s.Idx → Val e) :
    iprop(held c m q A X ∗ held c m q B X) ⊢ (held c m q (A ∪ B) X : sProp 𝕄) := by
  unfold held
  iintro ⟨⟨%f, %hf, H1⟩, ⟨%g, %hg, H2⟩⟩
  ihave H := (pointsTo_join (ℓ := m.view.loc c) (q := q) (f := f) (g := g) (setOn_disjoint c m h)) $$ [H1 H2]
  · isplitl [H1] <;> iassumption
  iexists (m.view.setOn B).piecewise g f
  isplitr
  · ipureintro
    intro i hi
    rw [View.read_apply]
    rcases Finset.mem_union.mp hi with hA | hB
    · rw [Finset.piecewise_eq_of_notMem _ _ _ (fun hb => Finset.disjoint_left.mp h hA (m.view.mem_setOn.mp hb))]
      exact hf i hA
    · rw [Finset.piecewise_eq_of_mem _ _ _ (m.view.mem_setOn.mpr hB)]
      exact hg i hB
  · rw [setOn_union]; iexact H

/-- A part of a region, and the rest of it. -/
theorem held_cut_subset {A B : Finset s.Idx} (h : A ⊆ B) (X : s.Idx → Val e) :
    (held c m q B X : sProp 𝕄) ⊢ iprop(held c m q A X ∗ held c m q (B \ A) X) := by
  have h' := held_cut (Ix := Ix) (Name := Name) (U := U) (Lvl := Lvl) (Val := Val) c m q (Finset.disjoint_sdiff (s := A) (t := B)) X
  rwa [Finset.union_sdiff_of_subset h] at h'

/-- A region cut along a finite family of pairwise disjoint ones. -/
theorem held_cut_family {T : Type} [DecidableEq T] (S : Finset T) (K : T → Finset s.Idx) (X : s.Idx → Val e)
    (h : ∀ t ∈ S, ∀ t' ∈ S, t ≠ t' → Disjoint (K t) (K t')) :
    (held c m q (S.biUnion K) X : sProp 𝕄) ⊢ bigSep S fun t => held c m q (K t) X := by
  unfold held
  iintro ⟨%f, %hf, H⟩
  have hset : m.view.setOn (S.biUnion K) = S.biUnion fun t => m.view.setOn (K t) := by
    unfold View.setOn; ext i; simp only [Finset.mem_map, Finset.mem_biUnion]; constructor
    · rintro ⟨x, ⟨t, ht, hx⟩, rfl⟩; exact ⟨t, ht, x, hx, rfl⟩
    · rintro ⟨t, ht, x, hx, rfl⟩; exact ⟨x, ⟨t, ht, hx⟩, rfl⟩
  rw [hset]
  ihave H := (Entails.of_eq (pointsTo_biUnion (ℓ := m.view.loc c) (q := q) (f := f) S _ fun t ht t' ht' hn => setOn_disjoint c m (h t ht t' ht' hn))) $$ H
  have hm : (bigSep S fun t => (m.view.loc c ↦[m.view.setOn (K t)]{q} f : sProp 𝕄))
      ⊢ (bigSep S fun t => iprop(∃ f : Buf Val (m.view.loc c), ⌜∀ i ∈ K t, m.view.read Val f i = X i⌝ ∗ (m.view.loc c ↦[m.view.setOn (K t)]{q} f)) : sProp 𝕄) :=
    bigSep_mono fun t ht => by
      show (m.view.loc c ↦[m.view.setOn (K t)]{q} f : sProp 𝕄) ⊢ iprop(∃ f : Buf Val (m.view.loc c), ⌜∀ i ∈ K t, m.view.read Val f i = X i⌝ ∗ (m.view.loc c ↦[m.view.setOn (K t)]{q} f))
      iintro H
      iexists f
      isplitr
      · ipureintro; exact fun i hi => hf i (Finset.mem_biUnion.mpr ⟨t, ht, hi⟩)
      · iexact H
  iapply hm
  iexact H

/-- A finite family of pairwise disjoint regions that read one `X` makes one. -/
theorem held_join_family {T : Type} [DecidableEq T] (f₀ : m.view.ty.Contents Val) (S : Finset T) (K : T → Finset s.Idx) (X : s.Idx → Val e)
    (h : ∀ t ∈ S, ∀ t' ∈ S, t ≠ t' → Disjoint (K t) (K t')) :
    (bigSep S fun t => held c m q (K t) X) ⊢ (held c m q (S.biUnion K) X : sProp 𝕄) := by
  induction S using Finset.induction_on with
  | empty =>
    unfold held
    iintro -
    iexists f₀
    isplitr
    · ipureintro; intro i hi; exact absurd hi (by simp)
    · rw [Finset.biUnion_empty, show m.view.setOn ∅ = ∅ from Finset.map_empty _, pointsTo_empty]; iempintro
  | insert t S ht ih =>
    rw [bigSep_insert ht, Finset.biUnion_insert]
    refine (sep_mono_right (ih fun t₁ h₁ t₂ h₂ => h t₁ (Finset.mem_insert_of_mem h₁) t₂ (Finset.mem_insert_of_mem h₂))).trans
      (held_join c m q ?_ X)
    exact (Finset.disjoint_biUnion_right _ _ _).mpr fun t' ht' =>
      h t (Finset.mem_insert_self _ _) t' (Finset.mem_insert_of_mem ht') (fun e => ht (e ▸ ht'))

/-- A share cut in two. -/
theorem held_share {q₁ q₂ : PosShare TreeShare} (hq : q ∈ q₁ ·? q₂) (A : Finset s.Idx) (X : s.Idx → Val e) :
    (held c m q A X : sProp 𝕄) ⊢ iprop(held c m q₁ A X ∗ held c m q₂ A X) := by
  unfold held
  iintro ⟨%f, %hf, H⟩
  ihave H := (pointsTo_share hq).1 $$ H
  icases H with ⟨H1, H2⟩
  isplitl [H1]
  · iexists f; isplitr; · ipureintro; exact hf
    iexact H1
  · iexists f; isplitr; · ipureintro; exact hf
    iexact H2

/-- Two shares of one region at the same contents make their sum. -/
theorem held_unshare {q₁ q₂ : PosShare TreeShare} (hq : q ∈ q₁ ·? q₂) (A : Finset s.Idx) (X Y : s.Idx → Val e) :
    iprop(held c m q₁ A X ∗ held c m q₂ A Y) ⊢ (held c m q A X : sProp 𝕄) := by
  unfold held
  iintro ⟨⟨%f, %hf, H1⟩, ⟨%g, %hg, H2⟩⟩
  ihave Ha := (persistent_entails_right pointsTo_agree) $$ [H1 H2]
  · isplitl [H1] <;> iassumption
  icases Ha with ⟨%ha, H1, H2⟩
  iexists f
  isplitr; · ipureintro; exact hf
  ihave H2 := (Entails.of_eq (pointsTo_congr (q := q₂) (ℓ := m.view.loc c) (f := g) (g := f) fun i hi => ((ha i (Finset.mem_inter.mpr ⟨hi, hi⟩)).1).symm)) $$ H2
  have hj : iprop((m.view.loc c ↦[m.view.setOn A]{q₁} f) ∗ (m.view.loc c ↦[m.view.setOn A]{q₂} f)) ⊢ (m.view.loc c ↦[m.view.setOn A]{q} f : sProp 𝕄) :=
    (pointsTo_share hq).2
  iapply hj
  isplitl [H1] <;> iassumption

/-- A memref that is a whole buffer, held in full, is the buffer's points-to. -/
theorem held_of_pointsTo (hw : m.view.set = Finset.univ) (f : Buf Val (m.view.loc c)) :
    (m.view.loc c ↦{q} f : sProp 𝕄) ⊢ held c m q Finset.univ (m.view.read Val f) := by
  unfold held
  iintro H
  iexists f
  isplitr; · ipureintro; exact fun _ _ => rfl
  rw [View.setOn_univ, hw]; iexact H

/-- A memref that is a whole buffer, held in full, gives the buffer's points-to back. -/
theorem held_to_pointsTo (hw : m.view.set = Finset.univ) (X : s.Idx → Val e) :
    (held c m q Finset.univ X : sProp 𝕄) ⊢ iprop(∃ f : Buf Val (m.view.loc c), ⌜∀ i, m.view.read Val f i = X i⌝ ∗ (m.view.loc c ↦{q} f)) := by
  unfold held
  iintro ⟨%f, %hf, H⟩
  iexists f
  isplitr; · ipureintro; exact fun i => hf i (Finset.mem_univ i)
  rw [View.setOn_univ, hw]; iexact H

/-- The memref of a squeezed slice of `m`, held in full, is `m`'s region of the slice's rectangle. -/
theorem held_slice (r : Rect s) (hr : ∀ a, r.stride a = 1) (s' : Shape) (h : r.shape.Squeezes s') (X : s.Idx → Val e) :
    (held c m q r.set X : sProp 𝕄)
      = held c ((m.slice r hr).squeeze s' h) q Finset.univ (fun y => X (r.emb (Shape.reshapeEquiv h.numel_eq y))) := by
  have hset : ((m.slice r hr).squeeze s' h).view.setOn Finset.univ = m.view.setOn r.set := by
    rw [View.setOn_univ, View.set_reshape]
    exact View.set_slice m.view r
  unfold held
  rw [hset]
  refine congrArg _ (funext fun f => ?_)
  refine congrArg (fun P : Prop => iprop(⌜P⌝ ∗ (m.view.loc c ↦[m.view.setOn r.set]{q} f))) (propext ⟨fun hf y _ => ?_, fun hf i hi => ?_⟩)
  · exact hf _ (r.toLoadRect.idx_mem _)
  · obtain ⟨x, rfl⟩ := r.toLoadRect.exists_idx_of_mem hi
    have := hf ((Shape.reshapeEquiv h.numel_eq).symm x) (Finset.mem_univ _)
    have e1 : (Shape.reshapeEquiv h.numel_eq) ((Shape.reshapeEquiv h.numel_eq).symm x) = x := Equiv.apply_symm_apply _ x
    have e2 : (fun y => X (r.emb (Shape.reshapeEquiv h.numel_eq y))) ((Shape.reshapeEquiv h.numel_eq).symm x) = X (r.idx x) := congrArg (fun y => X (r.emb y)) e1
    have e3 : View.read Val ((m.slice r hr).squeeze s' h).view f ((Shape.reshapeEquiv h.numel_eq).symm x) = m.view.read Val f (r.idx x) :=
      congrArg (fun y => m.view.read Val f (r.emb y)) e1
    rw [← e2, ← e3]; exact this

end Defs

section Access

variable {e : EltTy} {s : Shape} {sp : Space} [Preorder Lvl] {Λ : Labels} {defs : Defs nD τ sig Val Λ} (𝒱 : Variants)
  (c : Thread nD τ) (bd : Option 𝒱.V) (E : Set Name)

/-- A load of a rectangle inside a held region, at any share: the value is what the region reads there. -/
theorem held_load {cs : CoreSpace} (m : Memref sig c.2.kind cs s e) (q : PosShare TreeShare) {r : Rect s}
    {hl : m.view.LoadsAt r.toLoadRect} {A : Finset s.Idx} (hA : r.set ⊆ A) (X : s.Idx → Val e) (Q : (r.shape.Idx → Val e) → sProp 𝕄) :
    (held c m q A X : sProp 𝕄) ⊢ iprop((held c m q A X -∗ Q (fun x => X (r.emb x)))
      -∗ wp frame (wpE defs 𝒱 c bd) E (Prog.lift (.load m r.toLoadRect hl)) Q) := by
  unfold held
  iintro ⟨%f, %hf, H⟩ HQ
  iapply (wp_load_rect (m := m) (r := r) (S := m.view.setOn A) 𝒱 c bd E
    (by rw [show (m.access r).set = m.view.setOn r.set from View.set_slice m.view r]; exact Finset.map_subset_map.mpr hA)) $$ H
  iintro H
  have hv : (m.access r).read Val f = fun x => X (r.emb x) := funext fun x => hf (r.emb x) (hA (r.toLoadRect.idx_mem x))
  rw [hv]
  rw [wp_ret]
  imodintro
  iapply HQ
  iexists f
  isplitr; · ipureintro; exact hf
  iexact H

/-- A store of a whole rectangle inside a held region: the region reads the stored values there and what it read elsewhere. -/
theorem held_store {cs : CoreSpace} (m : Memref sig c.2.kind cs s e) {r : Rect s} {w : r.shape.Idx → Val e}
    {hx : (m.access r).Stores Finset.univ} {hm : (Finset.univ : Finset r.shape.Idx) = Finset.univ ∨ ∀ a, r.stride a = 1}
    {A : Finset s.Idx} (hA : r.set ⊆ A) (X Y : s.Idx → Val e)
    (hw : ∀ x, Y (r.emb x) = w x) (hY : ∀ i ∈ A, i ∉ r.set → Y i = X i) (Q : PUnit → sProp 𝕄) :
    (held c m fullShare A X : sProp 𝕄) ⊢ iprop((held c m fullShare A Y -∗ Q ⟨⟩)
      -∗ wp frame (wpE defs 𝒱 c bd) E (Prog.lift (.store m r w Finset.univ hx hm)) Q) := by
  unfold held
  iintro ⟨%f, %hf, H⟩ HQ
  iapply (wp_store (m := m) (r := r) (S := m.view.setOn A) 𝒱 c bd E
    (by rw [View.setOn_univ, show (m.access r).set = m.view.setOn r.set from View.set_slice m.view r]; exact Finset.map_subset_map.mpr hA)) $$ H
  iintro H
  rw [wp_ret]
  imodintro
  iapply HQ
  iexists (m.access r).write Val f w Finset.univ
  isplitr
  · ipureintro
    intro i hi
    by_cases hr : i ∈ r.set
    · obtain ⟨x, rfl⟩ := r.toLoadRect.exists_idx_of_mem hr
      rw [show Y (r.idx x) = w x from hw x]
      exact View.read_write_of_mem (v := m.access r) f w (Finset.mem_univ x)
    · rw [hY i hi hr, ← hf i hi, View.read_apply, View.read_apply, View.write_of_not_mem]
      rw [View.setOn_univ, show (m.access r).set = m.view.setOn r.set from View.set_slice m.view r]
      exact fun h => hr (m.view.mem_setOn.mp h)
  · iexact H

end Access

end Cert.Held
-- ==== Proof.Values.lean ====
/-
# What the kernel computes, value by value

The contents of every buffer the devices exchange, as functions of the devices' two inputs, at any float instance:
partial products, the running sums of the reduce-scatter, the maxima, the quantised chunks and the output. Each is built
from the kernel's own arithmetic on one tile, so a stored tile is an entry of one of these by definition.
Buffers are read through natural-number coordinates (row, column), reduced modulo the extents.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic

variable {F : FTy → Type} [FloatOps F]

/-- The index of shape `s` with the given coordinates, each modulo its extent. -/
def ixN (s : Shape) (h : ∀ a, 0 < s.size a) (f : Fin s.rank → ℕ) : s.Idx := fun a => ⟨f a % s.size a, Nat.mod_lt _ (h a)⟩

theorem ixN_eq {s : Shape} (h : ∀ a, 0 < s.size a) (f : Fin s.rank → ℕ) (i : s.Idx) (hf : ∀ a, f a = (i a).val) : ixN s h f = i :=
  funext fun a => Fin.ext (by show f a % s.size a = _; rw [hf a]; exact Nat.mod_eq_of_lt (i a).isLt)

theorem pos2 {n m : ℕ} (hn : 0 < n) (hm : 0 < m) : ∀ a : Fin 2, 0 < (![n, m] : Fin 2 → ℕ) a := fun a => by fin_cases a <;> assumption
theorem pos3 {l n m : ℕ} (hl : 0 < l) (hn : 0 < n) (hm : 0 < m) : ∀ a : Fin 3, 0 < (![l, n, m] : Fin 3 → ℕ) a := fun a => by
  fin_cases a <;> assumption

/-! ## The ring -/

/-- The device direction `d` sends to (`false`: up the ring, `true`: down). -/
def tgt (d : Bool) (c : Dev nD) : Dev nD := ⟨(c.val + bif d then 7 else 1) % 8, Nat.mod_lt _ (by decide)⟩
/-- The device direction `d` receives from. -/
def src (d : Bool) (c : Dev nD) : Dev nD := ⟨(c.val + bif d then 1 else 7) % 8, Nat.mod_lt _ (by decide)⟩

theorem tgt_src (d : Bool) (c : Dev nD) : tgt d (src d c) = c := by revert d c; decide
theorem src_tgt (d : Bool) (c : Dev nD) : src d (tgt d c) = c := by revert d c; decide

/-- The chunk direction `d` of device `c` works on at step `n` of the reduce-scatter. -/
def chunk (d : Bool) (n : ℕ) (c : Dev nD) : ℕ := (c.val + (n + 1) * bif d then 1 else 7) % 8

/-! ## Partial products -/

/-- 128 rows of a device's left input from row `r0`. -/
def xTile (x : S4096x512.Idx → Elt F .bf16) (r0 : ℕ) : Vec F S128x512 .bf16 :=
  fun i => x (ixN S4096x512 (pos2 (by decide) (by decide)) ![r0 + (i 0).val, (i 1).val])

/-- 4096 columns of a device's right input from column `c0`. -/
def wTile (w : S512x8192.Idx → Elt F .bf16) (c0 : ℕ) : Vec F S512x4096 .bf16 :=
  fun i => w (ixN S512x8192 (pos2 (by decide) (by decide)) ![(i 0).val, c0 + (i 1).val])

/-- Entry `(r, k)` of the 512 × 4096 product of rows from `r0` with columns from `c0`, computed by tiles of 128 rows. -/
def gemmV (x : S4096x512.Idx → Elt F .bf16) (w : S512x8192.Idx → Elt F .bf16) (r0 c0 r k : ℕ) : Elt F .bf16 :=
  k0_pay20 (xTile x (r0 + r / 128 * 128)) (wTile w c0) (ixN S128x4096 (pos2 (by decide) (by decide)) ![r % 128, k])

/-- The kernel's addition of two entries. -/
def addE (a b : Elt F .bf16) : Elt F .bf16 :=
  k0_pay22 (fun _ => a) (fun _ => b) (ixN S1x128x2048 (pos3 (by decide) (by decide) (by decide)) ![0, 0, 0])

variable (X : Dev nD → S4096x512.Idx → Elt F .bf16) (W : Dev nD → S512x8192.Idx → Elt F .bf16)

/-- The first column of direction `d`'s half. -/
def half (d : Bool) : ℕ := bif d then 4096 else 0

/-- Device `c`'s partial product of its step-`n` chunk. -/
def pgV (d : Bool) (n : ℕ) (c : Dev nD) (r k : ℕ) : Elt F .bf16 := gemmV (X c) (W c) (512 * chunk d n c) (half d) r k

/-- The running sum device `c` holds after `s` steps of the reduce-scatter: what it sends at step `s`. -/
def rsV (d : Bool) : ℕ → Dev nD → ℕ → ℕ → Elt F .bf16
  | 0, c, r, k => pgV X W d 0 c r k
  | s + 1, c, r, k => addE (rsV d s (src d c) r k) (pgV X W d (s + 1) c r k)

/-! ## The maxima -/

/-- A 128 × 2048 tile of a chunk, as the kernel loads it from a slot. -/
def tileA (V : ℕ → ℕ → Elt F .bf16) (t q : ℕ) : Vec F S1x128x2048 .bf16 := fun i => V (128 * t + (i 1).val) (2048 * q + (i 2).val)
/-- The same tile, as the kernel loads it from a partial product. -/
def tileB (V : ℕ → ℕ → Elt F .bf16) (t q : ℕ) : Vec F S128x2048 .bf16 := fun i => V (128 * t + (i 0).val) (2048 * q + (i 1).val)

/-- The running maximum after `t` tiles of half-columns `q`, from `z`. -/
def mxs (c : Dev nD) (q : ℕ) (z : F .f32) : ℕ → F .f32
  | 0 => z
  | t + 1 => k0_pay58
      (k0_pay3 (mxs c q z t) (tileA (rsV X W false 6 (src false c)) t q) (tileB (pgV X W false 7 c) t q))
      (k0_pay6 (tileA (rsV X W true 6 (src true c)) t q) (tileB (pgV X W true 7 c) t q))

/-- Device `c`'s own maximum. -/
def omax (c : Dev nD) : F .f32 := mxs X W c 1 (mxs X W c 0 (Scalar.ofBits .f32 0x00000000#32) 4) 4

/-- A device by number. -/
def devN (n : ℕ) : Dev nD := ⟨n % 8, Nat.mod_lt _ (by decide)⟩

/-- The table of all maxima: row block `j` holds device `j`'s. -/
def amaxV : S8x8x128.Idx → Elt F .f32 := fun i => omax X W (devN (i 0).val)

/-- The common scale. -/
def scV : F .f32 := k0_pay63 (amaxV X W)
/-- The common multiplier of the quantiser. -/
def invV : F .f32 := k0_pay64 (amaxV X W)

/-! ## The quantised chunks and the output -/

abbrev z3 : S1x128x4096.Idx := ixN S1x128x4096 (pos3 (by decide) (by decide) (by decide)) ![0, 0, 0]

/-- Entry `(r, k)` of device `c`'s quantised chunk. -/
def qV (d : Bool) (c : Dev nD) (r k : ℕ) : Elt F .i8 := k0_pay14 (invV X W) (fun _ => rsV X W d 7 c r k) z3

/-- The output entry device `c` computes from its own chunk. -/
def ownOutV (d : Bool) (c : Dev nD) (r k : ℕ) : Elt F .bf16 := k0_pay15 (scV X W) (invV X W) (fun _ => rsV X W d 7 c r k) z3

/-- The output entry computed from a quantised chunk received. -/
def deqV (d : Bool) (c : Dev nD) (r k : ℕ) : Elt F .bf16 := k0_pay67 (scV X W) (fun _ => qV X W d c r k) z3

/-- Chunk `j` of direction `d`'s half of the output, as device `c` computes it. -/
def outC (c : Dev nD) (d : Bool) (j : Dev nD) (r k : ℕ) : Elt F .bf16 := if j = c then ownOutV X W d j r k else deqV X W d j r k

/-- The output of device `c`. -/
def outV (c : Dev nD) : S4096x8192.Idx → Elt F .bf16 := fun i =>
  outC X W c (decide (4096 ≤ (i 1).val)) (devN ((i 0).val / 512)) ((i 0).val % 512) ((i 1).val % 4096)

end Cert.KernelIdealProof

end
-- ==== Proof.Names.lean ====
/-
# The devices' semaphores, waits and payments by name

The semaphores of a device by name (`Kd`) and the rounds of each, the payments (`Ev`) in each device's program
order, the waits in program order, and the levels that make the waits well-founded.
-/
module

public import proofs.«01_k».proof.Proof.Held
public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

/-! ## The semaphores -/

/-- A device's semaphores: the barrier, the send and receive semaphores and the credit semaphore of the reduce-scatter, of
    the broadcast and of the all-gather, and those of the copies to the output. Directions are `Bool`. -/
inductive Kd where
  | bar
  | rsS (d : Bool) (s : Fin 7) (q : Fin 2)
  | rsR (d : Bool) (s : Fin 7) (q : Fin 2)
  | rc (d : Bool) (q : Fin 2)
  | bcS (k : Fin 7)
  | bcR (k : Fin 7)
  | agS (d : Bool) (s : Fin 7)
  | agR (d : Bool) (s : Fin 7)
  | ac (d : Bool)
  | ob (d : Bool)
  | od (d : Bool)
  deriving DecidableEq, Fintype

def b2 (d : Bool) : ℕ := bif d then 1 else 0

def dsem (n : ℕ) : SemLoc sig := .dma (⟨n % 104, Nat.mod_lt _ (by decide)⟩ : Fin 104)
def rsem (n : ℕ) : SemLoc sig := .reg (⟨n % 7, Nat.mod_lt _ (by decide)⟩ : Fin 7)

/-- The semaphore of each kind. -/
def semOf : Kd → SemLoc sig
  | .bar => rsem 6
  | .rsS d s q => dsem (6 + 28 * b2 d + 2 * s.val + q.val)
  | .rsR d s q => dsem (20 + 28 * b2 d + 2 * s.val + q.val)
  | .rc d q => rsem (2 * b2 d + q.val)
  | .bcS k => dsem (90 + k.val)
  | .bcR k => dsem (97 + k.val)
  | .agS d s => dsem (62 + 14 * b2 d + s.val)
  | .agR d s => dsem (69 + 14 * b2 d + s.val)
  | .ac d => rsem (4 + b2 d)
  | .ob d => dsem (2 + b2 d)
  | .od d => dsem (4 + b2 d)

/-- The kind a semaphore number names: DMA semaphores by number, regular ones from 104 on. -/
def kdAt (n : ℕ) : Kd :=
  let dir (b : ℕ) : Bool := decide (b = 1)
  let f7 (i : ℕ) : Fin 7 := ⟨i % 7, Nat.mod_lt _ (by decide)⟩
  let f2 (i : ℕ) : Fin 2 := ⟨i % 2, Nat.mod_lt _ (by decide)⟩
  if n < 4 then .ob (dir (n - 2))
  else if n < 6 then .od (dir (n - 4))
  else if n < 62 then
    (if (n - 6) % 28 < 14 then .rsS (dir ((n - 6) / 28)) (f7 ((n - 6) % 28 / 2)) (f2 n)
      else .rsR (dir ((n - 6) / 28)) (f7 (((n - 6) % 28 - 14) / 2)) (f2 n))
  else if n < 90 then
    (if (n - 62) % 14 < 7 then .agS (dir ((n - 62) / 14)) (f7 ((n - 62) % 14)) else .agR (dir ((n - 62) / 14)) (f7 ((n - 62) % 14)))
  else if n < 97 then .bcS (f7 (n - 90))
  else if n < 104 then .bcR (f7 (n - 97))
  else if n < 108 then .rc (dir ((n - 104) / 2)) (f2 n)
  else if n < 110 then .ac (dir (n - 108))
  else .bar

/-- A semaphore's number: a DMA semaphore's own, a regular one's from 104 on. -/
def numOf : SemLoc sig → ℕ
  | .dma x => x.val
  | .reg x => 104 + x.val

/-- The kind of a semaphore, if it is one of the protocol's. -/
def kindOf (sm : SemLoc sig) : Option Kd := if semOf (kdAt (numOf sm)) = sm then some (kdAt (numOf sm)) else none

theorem kdAt_num : ∀ k : Kd, kdAt (numOf (semOf k)) = k := by decide +kernel

theorem semOf_inj : Function.Injective semOf := fun k k' h => by rw [← kdAt_num k, ← kdAt_num k', h]

theorem kindOf_semOf (k : Kd) : kindOf (semOf k) = some k := by unfold kindOf; rw [kdAt_num, if_pos rfl]

theorem kindOf_some {sm : SemLoc sig} {k : Kd} (h : kindOf sm = some k) : sm = semOf k := by
  unfold kindOf at h
  split at h
  · rename_i h'; rw [← h', Option.some.inj h]
  · cases h

/-- Device `c`'s cell of kind `k`. -/
abbrev cell (c : Dev nD) (k : Kd) : GSem nD τ sig := ((c : Thread nD τ), semOf k)

/-- The kind of a cell, if it is a device's and one of the protocol's. -/
def kindAt (g : GSem nD τ sig) : Option Kd := if g.1.2 = .tc then kindOf g.2 else none

theorem kindAt_cell (c : Dev nD) (k : Kd) : kindAt (cell c k) = some k := by
  unfold kindAt; rw [if_pos rfl]; exact kindOf_semOf k

theorem cell_inj {c c' : Dev nD} {k k' : Kd} (h : cell c k = cell c' k') : c = c' ∧ k = k' :=
  ⟨congrArg (fun g : GSem nD τ sig => g.1.1) h, semOf_inj (congrArg Prod.snd h)⟩

/-! ## Rounds, waits and payments in program order -/

/-- How many rounds a kind's cell goes through. -/
def rounds : Kd → ℕ
  | .rc _ _ => 6
  | .ac _ => 7
  | .ob _ => 7
  | _ => 1

/-- The place of the wait for round `r` of kind `k` in every device's program. -/
def wr (k : Kd) (r : ℕ) : ℕ := match k with
  | .bar => 0
  | .rsS d s q => 1 + 12 * s.val + (if s.val < 6 then 6 else 4) * q.val + 2 * b2 d
  | .rsR d s q => 2 + 12 * s.val + (if s.val < 6 then 6 else 4) * q.val + 2 * b2 d
  | .rc d q => 5 + 12 * r + 6 * q.val + b2 d
  | .bcR k => 81 + k.val
  | .bcS k => 88 + k.val
  | .ac d => (if r = 0 then 95 else 93 + 8 * r + (if 3 ≤ r then 2 else 0)) + b2 d
  | .agS d s => 97 + 8 * s.val + (if 2 ≤ s.val then 2 else 0) + 2 * b2 d
  | .agR d s => 98 + 8 * s.val + (if 2 ≤ s.val then 2 else 0) + 2 * b2 d
  | .od d => 111 + b2 d
  | .ob d => (if r = 6 then 151 else 103 + 8 * r + (if 1 ≤ r then 2 else 0)) + b2 d

/-- Every wait, kind by kind. -/
def waitsL : List (Kd × ℕ) := (List.range 111).flatMap fun n => (List.range (rounds (kdAt n))).map fun r => (kdAt n, r)
/-- The wait at a place. -/
def waitAt (n : ℕ) : Option (Kd × ℕ) := waitsL.find? fun p => wr p.1 p.2 = n

theorem rounds_le (k : Kd) : rounds k ≤ 7 := by cases k <;> simp [rounds]

theorem waitAt_wr (k : Kd) (r : ℕ) (hr : r < rounds k) : waitAt (wr k r) = some (k, r) := by
  have h : ∀ k : Kd, ∀ r : Fin 7, r.val < rounds k → waitAt (wr k r.val) = some (k, r.val) := by decide +kernel
  exact h k ⟨r, lt_of_lt_of_le hr (rounds_le k)⟩ hr

/-- Every wait has its own place. -/
theorem wr_inj (k k' : Kd) (r r' : ℕ) (hr : r < rounds k) (hr' : r' < rounds k') (h : wr k r = wr k' r') : k = k' ∧ r = r' := by
  have := waitAt_wr k r hr
  rw [h, waitAt_wr k' r' hr'] at this
  exact ⟨(congrArg Prod.fst (Option.some.inj this)).symm, (congrArg Prod.snd (Option.some.inj this)).symm⟩

theorem wr_mono : ∀ k : Kd, ∀ r r' : ℕ, r < r' → r' < rounds k → wr k r < wr k r' := by
  have h : ∀ k : Kd, ∀ r r' : Fin 7, r < r' → r'.val < rounds k → wr k r.val < wr k r'.val := by decide +kernel
  intro k r r' hr hr'
  have := rounds_le k
  exact h k ⟨r, by omega⟩ ⟨r', by omega⟩ hr hr'

/-- The payments a device makes: to another device's barrier, receive and credit semaphores. -/
inductive Ev where
  | bar (d : Bool)
  | rs (d : Bool) (s : Fin 7) (q : Fin 2)
  | rc (d : Bool) (s : Fin 6) (q : Fin 2)
  | bc (k : Fin 7)
  | ac (d : Bool) (s : Fin 7)
  | ag (d : Bool) (s : Fin 7)
  deriving DecidableEq, Fintype

/-- The kind of semaphore a payment is to, -/
def evK : Ev → Kd
  | .bar _ => .bar
  | .rs d s q => .rsR d s q
  | .rc d _ q => .rc d q
  | .bc k => .bcR k
  | .ac d _ => .ac d
  | .ag d s => .agR d s
/-- its round there, -/
def evR : Ev → ℕ
  | .rc _ s _ => s.val
  | .ac _ s => s.val
  | _ => 0
/-- its duty, -/
def evD : Ev → Bool
  | .bar d => d
  | _ => false
/-- the device it is to, -/
def evT : Ev → Dev nD → Dev nD
  | .bar d, c => src d c
  | .rs d _ _, c => tgt d c
  | .rc d _ _, c => src d c
  | .bc k, c => devN (c.val + k.val + 1)
  | .ac d _, c => src d c
  | .ag d _, c => tgt d c
/-- and the device it comes from. -/
def evS : Ev → Dev nD → Dev nD
  | .bar d, c => tgt d c
  | .rs d _ _, c => src d c
  | .rc d _ _, c => tgt d c
  | .bc k, c => devN (c.val + 7 - k.val)
  | .ac d _, c => tgt d c
  | .ag d _, c => src d c

theorem evT_evS : ∀ (e : Ev) (c : Dev nD), evT e (evS e c) = c := by decide +kernel
theorem evS_evT : ∀ (e : Ev) (c : Dev nD), evS e (evT e c) = c := by decide +kernel

/-- The place of a payment in every device's program. -/
def prk : Ev → ℕ
  | .bar d => b2 d
  | .rs d s q => if s.val = 0 then 2 + 2 * q.val + b2 d else 8 * s.val + 4 * q.val + b2 d
  | .rc d s q => 6 + 8 * s.val + 4 * q.val + b2 d
  | .bc k => 54 + k.val
  | .ac d s => 61 + 4 * s.val + b2 d
  | .ag d s => 63 + 4 * s.val + b2 d

theorem prk_inj : Function.Injective prk := by
  have h : ∀ e e' : Ev, prk e = prk e' → e = e' := by decide +kernel
  exact fun e e' => h e e'

/-- The level of round `r` of a kind: a wait is at a level below every payment still owed. -/
def levK (k : Kd) (r : ℕ) : ℕ := match k with
  | .bar => 1
  | .rsR _ s q => 10 + 8 * s.val + 4 * q.val
  | .rc _ q => 12 + 8 * r + 4 * q.val
  | .bcR _ => 100
  | .ac _ => 110 + 4 * r
  | .agR _ s => 112 + 4 * s.val
  | _ => 0

/-- The copies to the output, in program order, as (kind, round). -/
def cpK (x : Fin 16) : Kd := if x.val = 0 then .od false else if x.val = 1 then .od true else .ob (decide (x.val % 2 = 1))
def cpR (x : Fin 16) : ℕ := (x.val - 2) / 2

end Cert.KernelIdealProof

end
-- ==== Proof.Protocol.lean ====
/-
# The protocol: every semaphore, who waits on it, who pays it and what the payment hands over

The payloads of every payment, with their contents, and the schedule of all cells.
-/
module

public import proofs.«01_k».proof.Proof.Held
public import proofs.«01_k».proof.Proof.Values
public import proofs.«01_k».proof.Proof.Names
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers and their regions -/

def commM : Bool → Memref sig .tc .vmem S2x512x4096 .bf16
  | false => Memref.whole cc0_scratch0
  | true => Memref.whole cc0_scratch1
def qcM : Bool → Memref sig .tc .vmem S2x512x4096 .i8
  | false => Memref.whole cc0_scratch2
  | true => Memref.whole cc0_scratch3
def pbM : Bool → Memref sig .tc .vmem S512x4096 .bf16
  | false => Memref.whole cc0_scratch4
  | true => Memref.whole cc0_scratch5
abbrev amaxM : Memref sig .tc .vmem S8x8x128 .f32 := Memref.whole cc0_scratch6
abbrev outM : Memref sig .tc .hbm S4096x8192 .bf16 := Memref.whole main_v1
abbrev xM : Memref sig .tc .vmem S4096x512 .bf16 := Memref.whole cc0_stg0_0
abbrev wM : Memref sig .tc .vmem S512x8192 .bf16 := Memref.whole cc0_stg1_0

/-- A slot of a two-slot buffer. -/
def slot (s : ℕ) : Finset S2x512x4096.Idx := Finset.univ.filter fun i => (i 0).val = s % 2
/-- A half of a slot's columns. -/
def piece (s q : ℕ) : Finset S2x512x4096.Idx := Finset.univ.filter fun i => (i 0).val = s % 2 ∧ (i 2).val / 2048 = q
/-- A device's block of the table of maxima. -/
def slab (j : ℕ) : Finset S8x8x128.Idx := Finset.univ.filter fun i => (i 0).val = j % 8
/-- A chunk of one half of the output. -/
def outP (j : ℕ) (d : Bool) : Finset S4096x8192.Idx := Finset.univ.filter fun i => (i 0).val / 512 = j ∧ (i 1).val / 4096 = b2 d

/-- A chunk's contents in a two-slot buffer, the same in either slot. -/
def inSlot {α : Type} (V : ℕ → ℕ → α) : S2x512x4096.Idx → α := fun i => V (i 1).val (i 2).val
/-- A chunk's contents in a one-slot buffer. -/
def inBuf {α : Type} (V : ℕ → ℕ → α) : S512x4096.Idx → α := fun i => V (i 0).val (i 1).val

/-- Device `c` owns a region outright at some contents. -/
def anyH (c : Dev nD) {sp : Space} {s : Shape} {e : EltTy} (m : Memref sig .tc sp s e) (A : Finset s.Idx) : sProp 𝕄 :=
  iprop(∃ X : s.Idx → Elt F e, held (c : Thread nD τ) m fullShare A X)

instance anyH_storable (c : Dev nD) {sp : Space} {s : Shape} {e : EltTy} (m : Memref sig .tc sp s e) (A : Finset s.Idx) :
    BI.Storable (upEmb : UEmb _ 𝕄) (anyH (F := F) c m A) := by unfold anyH; infer_instance

/-- What remains of a full share after `k` halvings, and the half given away at the `k`-th. -/
def remS : ℕ → PosShare TreeShare
  | 0 => fullShare
  | k + 1 => (remS k).right
def giveS (k : ℕ) : PosShare TreeShare := (remS k).left
theorem rem_give (k : ℕ) : remS k ∈ giveS k ·? remS (k + 1) := PosShare.mem_left_op_right (remS k)

/-- The device `n` steps back along direction `d`. -/
def srcN (d : Bool) (n : ℕ) (c : Dev nD) : Dev nD := devN (c.val + n * bif d then 1 else 7)

/-- The blocks of device `o`'s table of maxima still travelling up the ring after `s` hops. -/
def bun (o : Dev nD) (s : ℕ) : sProp 𝕄 := bigSep (Finset.Ico (s + 1) 8) fun k => anyH (F := F) o amaxM (slab (o.val + k))

instance bun_storable (o : Dev nD) (s : ℕ) : BI.Storable (upEmb : UEmb _ 𝕄) (bun (F := F) o s) := by unfold bun; infer_instance

variable (X : Dev nD → S4096x512.Idx → Elt F .bf16) (W : Dev nD → S512x8192.Idx → Elt F .bf16)

/-! ## The payloads -/

/-- What the payment of duty `b` of round `r` of device `c`'s cell of kind `k` hands to `c`. -/
def pay (c : Dev nD) (k : Kd) (r : ℕ) (b : Bool) : sProp 𝕄 := match k with
  | .bar => anyH (tgt b c) (commM b) (slot 1)
  | .rsS d s q => anyH c (commM d) (piece s.val q.val)
  | .rsR d s q => iprop(held (c : Thread nD τ) (commM d) fullShare (piece (s.val + 1) q.val) (inSlot (rsV X W d s.val (src d c)))
      ∗ reached ER (cell (src d c) (.rc d q)) s.val
      ∗ (if d = false ∧ q = 0 then bun (srcN false (s.val + 1) c) s.val else iprop(emp)))
  | .rc d q => anyH (tgt d c) (commM d) (piece r q.val)
  | .bcS k => held (c : Thread nD τ) amaxM (giveS k.val) (slab c.val) (fun _ => omax X W c)
  | .bcR k => held (c : Thread nD τ) amaxM fullShare (slab (c.val + 7 - k.val)) (fun _ => omax X W (devN (c.val + 7 - k.val)))
  | .agS d s => held (c : Thread nD τ) (qcM d) fullShare.left (slot s.val) (inSlot (qV X W d (srcN d s.val c)))
  | .agR d s => iprop(held (c : Thread nD τ) (qcM d) fullShare (slot (s.val + 1)) (inSlot (qV X W d (srcN d (s.val + 1) c)))
      ∗ reached ER (cell (src d c) (.ac d)) (s.val + 1))
  | .ac d => anyH (tgt d c) (qcM d) (slot (r + 1))
  | .ob d => iprop(anyH c (commM d) (slot (r + 1)) ∗ held (c : Thread nD τ) outM fullShare (outP (srcN d (r + 1) c).val d) (outV X W c))
  | .od d => iprop(anyH c (commM d) (slot 0) ∗ held (c : Thread nD τ) outM fullShare (outP c.val d) (outV X W c))

instance pay_storable (c : Dev nD) (k : Kd) (r : ℕ) (b : Bool) : BI.Storable (upEmb : UEmb _ 𝕄) (pay X W c k r b) := by
  cases k <;> unfold pay <;> dsimp only <;> (try split) <;> infer_instance

/-! ## The amounts and the schedule -/

/-- The credit of a reduce-scatter, a broadcast, an all-gather and an output transfer. -/
def nRS : ℕ := sig.dmaCredit .tc _ (commM false).view.buf S512x2048 .bf16
def nBC : ℕ := sig.dmaCredit .tc _ amaxM.view.buf S8x128 .f32
def nAG : ℕ := sig.dmaCredit .tc _ (qcM false).view.buf S512x4096 .i8
def nOB : ℕ := sig.dmaCredit .tc _ outM.view.buf S512x4096 .bf16

theorem nRS_pos : 0 < nRS := sig.dmaCredit_pos _ _ _ _ _ (by decide)
theorem nBC_pos : 0 < nBC := sig.dmaCredit_pos _ _ _ _ _ (by decide)
theorem nAG_pos : 0 < nAG := sig.dmaCredit_pos _ _ _ _ _ (by decide)
theorem nOB_pos : 0 < nOB := sig.dmaCredit_pos _ _ _ _ _ (by decide)

/-- What one payment to a cell of kind `k` amounts to. -/
def amt : Kd → ℕ
  | .rsS _ _ _ => nRS
  | .rsR _ _ _ => nRS
  | .bcS _ => nBC
  | .bcR _ => nBC
  | .agS _ _ => nAG
  | .agR _ _ => nAG
  | .ob _ => nOB
  | .od _ => nOB
  | _ => 1

theorem amt_pos (k : Kd) : 0 < amt k := by
  cases k <;> first | exact Nat.one_pos | exact nRS_pos | exact nBC_pos | exact nAG_pos | exact nOB_pos

/-- The duties of a round of a kind's cell: the barrier has one from either side. -/
def dutiesK (k : Kd) (r : ℕ) : Finset Bool := if r < rounds k then (if k = .bar then Finset.univ else {false}) else ∅

/-- The schedule of all cells. -/
def Rd : Schedule (GSem nD τ sig) Bool 𝕄 where
  duties g r := match kindAt g with
    | some k => dutiesK k r
    | none => ∅
  amount g r d := match kindAt g with
    | some k => amt k
    | none => 1
  payload g r d := match kindAt g with
    | some k => pay X W g.1.1 k r d
    | none => iprop(emp)
  amount_pos g r d _ := by
    show 0 < (match kindAt g with | some k => amt k | none => 1)
    cases kindAt g with
    | none => exact Nat.one_pos
    | some k => exact amt_pos k
  unitless _ := False

end Cert.KernelIdealProof

end
-- ==== Proof.Core.lean ====
/-
# What a device carries through its program, and the rule of each of its synchronising operations

`Core K c p n m`: device `c` has made the payments before place `p`, passed the waits before place `n` and started the
copies to the output before the `m`-th. It holds the tokens of the rest, its position at each of its own semaphores, the
credit of the waits still to come, and what of the output has not been copied to yet.
Each rule takes one operation to the next place: a wait hands over the round's payload, a payment consumes it.
-/
module

public import proofs.«01_k».proof.Proof.Protocol

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep bigSep_insert bigSep_congr bigSep_elim bigSep_singleton bigSep_mono bigSep_sep')
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (X : Dev nD → S4096x512.Idx → Elt F .bf16) (W : Dev nD → S512x8192.Idx → Elt F .bf16)

/-! ## The schedule at a device's cell -/

section Sched
variable (c : Dev nD) (k : Kd) (r : ℕ)

theorem Rd_duties : (Rd X W).duties (cell c k) r = dutiesK k r := by
  show (match kindAt (cell c k) with | some k => dutiesK k r | none => ∅) = _
  rw [kindAt_cell]
theorem Rd_amount (b : Bool) : (Rd X W).amount (cell c k) r b = amt k := by
  show (match kindAt (cell c k) with | some k => amt k | none => 1) = _
  rw [kindAt_cell]
theorem Rd_payload (b : Bool) : (Rd X W).payload (cell c k) r b = pay X W c k r b := by
  show (match kindAt (cell c k) with | some k => pay X W (cell c k).1.1 k r b | none => iprop(emp)) = _
  rw [kindAt_cell]

instance Rd_storable (g : GSem nD τ sig) (r : ℕ) (b : Bool) : BI.Storable (upEmb : UEmb _ 𝕄) ((Rd X W).payload g r b) := by
  show BI.Storable upEmb (match kindAt g with | some k => pay X W g.1.1 k r b | none => iprop(emp))
  split <;> infer_instance

theorem dutiesK_self (hr : r < rounds k) (hk : k ≠ .bar) : dutiesK k r = {false} := by unfold dutiesK; rw [if_pos hr, if_neg hk]
theorem dutiesK_later (hr : rounds k ≤ r) : dutiesK k r = ∅ := by unfold dutiesK; rw [if_neg (Nat.not_lt.mpr hr)]

/-- What a round of a kind's cell amounts to. -/
def tot (k : Kd) : ℕ := if k = .bar then 2 else amt k

theorem Rd_expect (hr : r < rounds k) : (Rd X W).expect (cell c k) r = tot k := by
  unfold Schedule.expect Schedule.amountOf tot
  rw [Rd_duties, Finset.sum_congr rfl fun b _ => Rd_amount X W c k r b]
  by_cases hk : k = .bar
  · subst hk
    have h0 : r = 0 := Nat.lt_one_iff.mp hr
    subst h0; rfl
  · rw [dutiesK_self k r hr hk, Finset.sum_singleton, if_neg hk]

theorem Rd_rest (hr : r < rounds k) (hk : k ≠ .bar) :
    bigSep ((Rd X W).duties (cell c k) r \ ∅) (fun b => (Rd X W).payload (cell c k) r b) = pay X W c k r false := by
  rw [Finset.sdiff_empty, Rd_duties, dutiesK_self k r hr hk, bigSep_singleton, Rd_payload]
theorem Rd_rest_bar :
    bigSep ((Rd X W).duties (cell c .bar) 0 \ ∅) (fun b => (Rd X W).payload (cell c .bar) 0 b) = iprop(pay X W c .bar 0 false ∗ pay X W c .bar 0 true) := by
  rw [Finset.sdiff_empty, Rd_duties, show dutiesK .bar 0 = Finset.univ from rfl,
    Idealize.SL.BI.bigSep_univ_eq_bigSepL [false, true] (by decide) (by decide), Idealize.SL.BI.bigSepL_cons_cons, Idealize.SL.BI.bigSepL_singleton, Rd_payload, Rd_payload]
  rfl

end Sched

/-! ## Levels -/

def L (g : GSem nD τ sig) : Finset ℕ := if g.1.2 = .tc then Finset.range 8 else ∅
def lv (g : GSem nD τ sig) (r : ℕ) : ℕ := match kindAt g with
  | some k => levK k r
  | none => 0

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (c : Dev nD) (k : Kd) (r : ℕ) : lv (cell c k) r = levK k r := by unfold lv; rw [kindAt_cell]

theorem evR_lt (e : Ev) : evR e < rounds (evK e) := by cases e <;> simp [evR, evK, rounds]
theorem evR_lt8 (e : Ev) : evR e < 8 := lt_of_lt_of_le (evR_lt e) (le_trans (rounds_le _) (by decide))

/-! ## What is still owed -/

/-- The payments from place `p` on. -/
def todo (p : ℕ) : Finset Ev := Finset.univ.filter fun e => p ≤ prk e

theorem mem_todo {p : ℕ} {e : Ev} : e ∈ todo p ↔ p ≤ prk e := by unfold todo; simp

theorem todo_step (e : Ev) : todo (prk e) = insert e (todo (prk e + 1)) := by
  ext e'
  rw [Finset.mem_insert, mem_todo, mem_todo]
  constructor
  · intro h
    by_cases he : prk e' = prk e
    · exact .inl (prk_inj he)
    · exact .inr (by omega)
  · rintro (rfl | h) <;> omega

theorem not_mem_todo (e : Ev) : e ∉ todo (prk e + 1) := fun h => by have := mem_todo.mp h; omega

/-- What device `c` owes at place `p`. -/
def owed (c : Dev nD) (p : ℕ) : CellTallies nD τ sig ℕ := ∑ e ∈ todo p, tallyAt (cell (evT e c) (evK e)) (evR e) (amt (evK e))

theorem owed_step (c : Dev nD) (e : Ev) :
    owed c (prk e) = owed c (prk e + 1) + tallyAt (cell (evT e c) (evK e)) (evR e) (amt (evK e)) := by
  unfold owed; rw [todo_step, Finset.sum_insert (not_mem_todo e), add_comm]

theorem owed_pos {c : Dev nD} {p : ℕ} {g : GSem nD τ sig} {u : ℕ} (h : 0 < owed c p g u) :
    ∃ e, p ≤ prk e ∧ g = cell (evT e c) (evK e) ∧ u = evR e := by
  unfold owed at h
  rw [Finset.sum_apply, Finsupp.finset_sum_apply] at h
  obtain ⟨e, he, hpos⟩ := Finset.exists_ne_zero_of_sum_ne_zero (Nat.pos_iff_ne_zero.mp h)
  rw [tallyAt_apply] at hpos
  refine ⟨e, mem_todo.mp he, ?_⟩
  by_contra hn
  exact hpos (if_neg hn)

theorem owed_end (c : Dev nD) : owed c 89 = 0 := by
  unfold owed
  rw [show todo 89 = ∅ from by decide +kernel, Finset.sum_empty]

/-- Every payment still owed at place `p` is at a level above the wait for round `r` of kind `k`. -/
def Below (p : ℕ) (k : Kd) (r : ℕ) : Prop := ∀ e : Ev, p ≤ prk e → levK k r < levK (evK e) (evR e)

instance (p : ℕ) (k : Kd) (r : ℕ) : Decidable (Below p k r) := by unfold Below; infer_instance

theorem mayWait (c : Dev nD) (k : Kd) (r p : ℕ) (hr : r < rounds k) (h : Below p k r) :
    (levAts L lv : sProp 𝕄) ⊢ MayWait (c : Thread nD τ) (semOf k) r (owed c p) :=
  MayOwe.of_cut (L := L) (lev := lv) (levK k r)
    (fun q hq => by rw [Finset.mem_singleton.mp hq, L_tc]; exact Finset.mem_range.mpr (lt_of_lt_of_le hr (le_trans (rounds_le k) (by decide))))
    (fun g u hg => by obtain ⟨e, -, rfl, rfl⟩ := owed_pos hg; rw [L_tc]; exact Finset.mem_range.mpr (evR_lt8 e))
    (fun q hq => by rw [Finset.mem_singleton.mp hq]; exact le_of_eq (lv_cell c k r))
    (fun g u hg => by obtain ⟨e, he, rfl, rfl⟩ := owed_pos hg; rw [lv_cell]; exact h e he)

/-! ## Positions -/

/-- How many rounds of kind `k` are over once the waits before place `n` are. -/
def cnt (n : ℕ) (k : Kd) : ℕ := ((Finset.range (rounds k)).filter fun r => wr k r < n).card

theorem wr_lt_iff (k : Kd) (r r' : ℕ) (hr : r < rounds k) (hr' : r' < rounds k) : wr k r' < wr k r ↔ r' < r := by
  constructor
  · intro h
    by_contra hn
    rcases Nat.lt_or_eq_of_le (Nat.not_lt.mp hn) with h1 | h1
    · have := wr_mono k r r' h1 hr'; omega
    · subst h1; omega
  · intro h; exact wr_mono k r' r h hr

theorem cnt_at (k : Kd) (r : ℕ) (hr : r < rounds k) : cnt (wr k r) k = r := by
  unfold cnt
  rw [show (Finset.range (rounds k)).filter (fun r' => wr k r' < wr k r) = Finset.range r from ?_, Finset.card_range]
  ext r'
  rw [Finset.mem_filter, Finset.mem_range, Finset.mem_range]
  constructor
  · rintro ⟨h1, h2⟩; exact (wr_lt_iff k r r' hr h1).mp h2
  · intro h; have h1 : r' < rounds k := lt_trans h hr; exact ⟨h1, (wr_lt_iff k r r' hr h1).mpr h⟩

theorem cnt_succ (k : Kd) (r : ℕ) (hr : r < rounds k) : cnt (wr k r + 1) k = r + 1 := by
  unfold cnt
  rw [show (Finset.range (rounds k)).filter (fun r' => wr k r' < wr k r + 1) = Finset.range (r + 1) from ?_, Finset.card_range]
  ext r'
  rw [Finset.mem_filter, Finset.mem_range, Finset.mem_range]
  constructor
  · rintro ⟨h1, h2⟩
    rcases Nat.lt_or_eq_of_le (Nat.lt_succ_iff.mp h2) with h | h
    · have := (wr_lt_iff k r r' hr h1).mp h; omega
    · have := (wr_inj k k r' r h1 hr h).2; omega
  · intro h
    have h1 : r' < rounds k := by omega
    refine ⟨h1, ?_⟩
    rcases Nat.lt_or_eq_of_le (Nat.lt_succ_iff.mp h) with h | h
    · have := (wr_lt_iff k r r' hr h1).mpr h; omega
    · subst h; omega

theorem cnt_other (k k' : Kd) (r : ℕ) (hr : r < rounds k) (hk : k' ≠ k) : cnt (wr k r + 1) k' = cnt (wr k r) k' := by
  unfold cnt
  refine congrArg Finset.card (Finset.filter_congr fun r' h => ?_)
  have h1 := Finset.mem_range.mp h
  constructor
  · intro h2
    rcases Nat.lt_or_eq_of_le (Nat.lt_succ_iff.mp h2) with h3 | h3
    · exact h3
    · exact absurd (wr_inj k' k r' r h1 hr h3).1 hk
  · intro h2; omega

theorem cnt_end (k : Kd) : cnt 153 k = rounds k := by revert k; decide +kernel
theorem cnt_zero (k : Kd) : cnt 0 k = 0 := by unfold cnt; simp

/-! ## The records, the tokens, the credit -/

abbrev CK : Type := Dev nD × Kd
abbrev kcell (x : CK) : GSem nD τ sig := cell x.1 x.2

/-- Every cell's invariant, and that each is at round 0 at least. -/
def Recs (K : CK → ℕ) : sProp 𝕄 :=
  iprop((bigSep Finset.univ fun x : CK => cellInv ER (Rd X W) (K x) (kcell x)) ∗ bigSep Finset.univ fun x : CK => reached ER (kcell x) 0)

instance Recs_persistent (K : CK → ℕ) : BI.Persistent (Recs X W K) := by unfold Recs; infer_instance

theorem Recs_inv (K : CK → ℕ) (c : Dev nD) (k : Kd) : Recs X W K ⊢ cellInv ER (Rd X W) (K (c, k)) (cell c k) := by
  unfold Recs
  exact (Idealize.SL.BI.BIBase.Entails.trans (by iintro ⟨H, -⟩; iexact H) (bigSep_elim (Finset.mem_univ (c, k)) : (bigSep Finset.univ fun x : CK => cellInv ER (Rd X W) (K x) (kcell x) : sProp 𝕄) ⊢ _))
theorem Recs_reached (K : CK → ℕ) (c : Dev nD) (k : Kd) : Recs X W K ⊢ reached ER (cell c k) 0 := by
  unfold Recs
  exact (Idealize.SL.BI.BIBase.Entails.trans (by iintro ⟨-, H⟩; iexact H) (bigSep_elim (Finset.mem_univ (c, k)) : (bigSep Finset.univ fun x : CK => reached ER (kcell x) 0 : sProp 𝕄) ⊢ _))

/-- The issuer's own semaphore of a transfer. -/
def selfK : Ev → Option Kd
  | .rs d s q => some (.rsS d s q)
  | .bc k => some (.bcS k)
  | .ag d s => some (.agS d s)
  | _ => none

/-- The tokens device `c` makes payment `e` with. -/
def evTok (c : Dev nD) (e : Ev) : sProp 𝕄 :=
  iprop(dutyTok ER (cell (evT e c) (evK e)) (evR e) (evD e)
    ∗ match selfK e with | some k => dutyTok ER (cell c k) 0 false | none => iprop(emp))

/-- The credit of the wait payment `e` of another device ends. -/
def evCred (c : Dev nD) (e : Ev) : sProp 𝕄 := cred (tallyAt (cell c (evK e)) (evR e) (amt (evK e)))

/-- The payments to a device itself waited for from place `n` on. -/
def wtodo (n : ℕ) : Finset Ev := Finset.univ.filter fun e => n ≤ wr (evK e) (evR e)

/-- The region of the output the `x`-th copy goes to. -/
def cpA (c : Dev nD) (x : Fin 16) : Finset S4096x8192.Idx := match cpK x with
  | .od d => outP c.val d
  | .ob d => outP (srcN d (cpR x + 1) c).val d
  | _ => ∅

/-- The token of a copy to the output and the region it goes to. -/
def cpTok (c : Dev nD) (x : Fin 16) : sProp 𝕄 :=
  iprop(dutyTok ER (cell c (cpK x)) (cpR x) false ∗ anyH (F := F) c outM (cpA c x))

/-- What device `c` carries. -/
def Core (K : CK → ℕ) (c : Dev nD) (p n m : ℕ) : sProp 𝕄 :=
  iprop(Recs X W K ∗ levAts L lv ∗ (∃ V, owes (c : Thread nD τ) (owed c p) V)
    ∗ (bigSep (todo p) fun e => evTok (F := F) c e)
    ∗ (bigSep Finset.univ fun k : Kd => iprop(atPos ER (cell c k) (cnt n k) ∅ 0 ∗ reached ER (cell c k) (cnt n k)))
    ∗ (bigSep (wtodo n) fun e => evCred (F := F) c e)
    ∗ bigSep (Finset.univ.filter fun x : Fin 16 => m ≤ x.val) fun x => cpTok (F := F) c x)

end Cert.KernelIdealProof

end
-- ==== Proof.Ops.lean ====
/-
# The rule of each synchronising operation of a device

A wait takes `Core` from place `n` to `n + 1` and hands over the round's payload; a signal, a remote transfer and a copy
to the output take it to the next payment or copy and consume what they hand on.
-/
module

public import proofs.«01_k».proof.Proof.Core

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep bigSep_insert bigSep_congr bigSep_elim bigSep_singleton bigSep_mono bigSep_sep')
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S4096x512.Idx → Elt F .bf16) (W : Dev nD → S512x8192.Idx → Elt F .bf16)

/-- The weakest precondition of a program on device `c`. -/
abbrev WP (c : Dev nD) {α : Type} (e : Prog (TpuEff nD τ sig (Elt F) Λ₀ .tc) α) (Φ : α → sProp 𝕄) : sProp 𝕄 :=
  wp frame (wpE (defs₀ (F := F)) 𝒱₀ (c : Thread nD τ) none) Set.univ e Φ

abbrev Eff (F : FTy → Type) [FloatOps F] : Type := TpuEff nD τ sig (Elt F) Λ₀ .tc PUnit

/-- The operation is the wait for a round of kind `k`. -/
def Wt (c : Dev nD) (w : Eff F) (k : Kd) : Prop :=
  ∀ Q : PUnit → sProp 𝕄, wpE (defs₀ (F := F)) 𝒱₀ (c : Thread nD τ) none Set.univ w Q = waitSpec (c : Thread nD τ) Set.univ (semOf k) (tot k) Q

theorem bs_insert {I : Type} [DecidableEq I] {S : Finset I} {i : I} (h : i ∉ S) (Φ : I → sProp 𝕄) :
    bigSep (insert i S) Φ = iprop(Φ i ∗ bigSep S Φ) := bigSep_insert h

section Step
variable (K : CK → ℕ) (c : Dev nD) (p m : ℕ)

theorem kds_step (k : Kd) (r : ℕ) (hr : r < rounds k) :
    (bigSep Finset.univ fun k' : Kd => iprop(atPos ER (cell c k') (cnt (wr k r) k') ∅ 0 ∗ reached ER (cell c k') (cnt (wr k r) k')) : sProp 𝕄)
      ⊢ iprop((atPos ER (cell c k) r ∅ 0)
        ∗ ((atPos ER (cell c k) (r + 1) ∅ 0 ∗ reached ER (cell c k) (r + 1))
          -∗ bigSep Finset.univ fun k' : Kd => iprop(atPos ER (cell c k') (cnt (wr k r + 1) k') ∅ 0 ∗ reached ER (cell c k') (cnt (wr k r + 1) k')))) := by
  rw [Idealize.SL.BI.bigSep_univ_at _ k, Idealize.SL.BI.bigSep_univ_at (fun k' : Kd => iprop(atPos ER (cell c k') (cnt (wr k r + 1) k') ∅ 0 ∗ reached ER (cell c k') (cnt (wr k r + 1) k'))) k,
    cnt_at k r hr, cnt_succ k r hr,
    bigSep_congr (s := Finset.univ.erase k) (Φ := fun k' : Kd => iprop(atPos ER (cell c k') (cnt (wr k r + 1) k') ∅ 0 ∗ reached ER (cell c k') (cnt (wr k r + 1) k')))
      (Ψ := fun k' : Kd => iprop(atPos ER (cell c k') (cnt (wr k r) k') ∅ 0 ∗ reached ER (cell c k') (cnt (wr k r) k')))
      (fun k' hk' => by rw [cnt_other k k' r hr (Finset.mem_erase.mp hk').1])]
  iintro ⟨⟨Ha, -⟩, Hr⟩
  isplitl [Ha]; · iexact Ha
  iintro H
  isplitl [H]; · iexact H
  iexact Hr

theorem wtodo_self (k : Kd) (r : ℕ) (hr : r < rounds k) (hs : ∀ e, evK e ≠ k) : wtodo (wr k r) = wtodo (wr k r + 1) := by
  unfold wtodo
  refine Finset.filter_congr fun e _ => ?_
  constructor
  · intro h
    rcases Nat.lt_or_eq_of_le h with h1 | h1
    · exact h1
    · exact absurd (wr_inj _ _ _ _ hr (evR_lt e) h1).1.symm (hs e)
  · intro h; omega

theorem evKR_inj (e e' : Ev) (hb : evK e ≠ .bar) (hk : evK e = evK e') (hr : evR e = evR e') : e = e' := by
  cases e <;> cases e' <;> simp_all [evK, evR]
  all_goals exact Fin.ext hr

theorem wtodo_step (e : Ev) (hb : evK e ≠ .bar) : wtodo (wr (evK e) (evR e)) = insert e (wtodo (wr (evK e) (evR e) + 1)) := by
  unfold wtodo
  ext e'
  rw [Finset.mem_insert, Finset.mem_filter, Finset.mem_filter]
  constructor
  · rintro ⟨-, h⟩
    rcases Nat.lt_or_eq_of_le h with h1 | h1
    · exact .inr ⟨Finset.mem_univ _, h1⟩
    · have := wr_inj _ _ _ _ (evR_lt e) (evR_lt e') h1
      exact .inl (evKR_inj e e' hb this.1 this.2).symm
  · rintro (rfl | h)
    · exact ⟨Finset.mem_univ _, le_refl _⟩
    · exact ⟨Finset.mem_univ _, by omega⟩

theorem not_mem_wtodo (e : Ev) : e ∉ wtodo (wr (evK e) (evR e) + 1) := fun h => by
  unfold wtodo at h; have := (Finset.mem_filter.mp h).2; omega

/-- A wait at the head of a program, its credit found in `C` and what `Core` carries. -/
theorem wait_gen {α : Type} {kt : PUnit → Prog (TpuEff nD τ sig (Elt F) Λ₀ .tc) α} {Φ : α → sProp 𝕄}
    {w : Eff F} {k : Kd} (hw : Wt c w k) (r : ℕ) (hr : r < rounds k) (hb : Below p k r) (C P : sProp 𝕄)
    (hC : iprop(C ∗ bigSep (wtodo (wr k r)) fun e => evCred (F := F) c e)
      ⊢ iprop(cred (tallyAt (cell c k) r (tot k)) ∗ bigSep (wtodo (wr k r + 1)) fun e => evCred (F := F) c e))
    (hP : bigSep ((Rd X W).duties (cell c k) r \ ∅) (fun b => (Rd X W).payload (cell c k) r b) = P) :
    iprop(Core X W K c p (wr k r) m ∗ C)
      ⊢ iprop(((Core X W K c p (wr k r + 1) m ∗ reached ER (cell c k) (r + 1) ∗ P) -∗ WP c (kt ⟨⟩) Φ) -∗ WP c (.op w kt) Φ) := by
  unfold Core
  iintro ⟨⟨#HR, #Hlev, ⟨%V, HO⟩, Htok, Hpos, Hcr, Hcp⟩, Hc⟩ Hk
  ihave Hp := (kds_step (F := F) c k r hr) $$ Hpos
  icases Hp with ⟨Hat, Hback⟩
  ihave Hcc := hC $$ [Hc Hcr]
  · isplitl [Hc] <;> iassumption
  icases Hcc with ⟨Hc, Hcr⟩
  iapply (Rounds.wp_wait_rest_token 𝒱₀ ER (Rd X W) (c : Thread nD τ) none (κ := K (c, k)) (sm := semOf k) (k' := tot k)
      hw (Set.mem_univ _) r (O := owed c p) (W := V) (R := r) (m := 0) (T := ∅)
      (by rw [Nat.zero_add]; exact (Rd_expect X W c k r hr).symm)) $$ [Hc HO Hat]
  · isplitr; · iapply (Recs_inv X W K c k); iexact HR
    isplitl [Hc]; · iexact Hc
    isplitl [HO]; · iexact HO
    isplitr; · iapply (mayWait c k r p hr hb); iexact Hlev
    iexact Hat
  iintro ⟨HO, Hat, #Hre, Hpay⟩
  ihave Hpay := (Entails.of_eq hP) $$ Hpay
  iapply Hk
  isplitr [Hpay]
  · isplitr; · iexact HR
    isplitr; · iexact Hlev
    isplitl [HO]; · iexists _; iexact HO
    isplitl [Htok]; · iexact Htok
    isplitl [Hback Hat]
    · iapply Hback
      isplitl [Hat]; · iexact Hat
      iexact Hre
    isplitl [Hcr]; · iexact Hcr
    iexact Hcp
  isplitr; · iexact Hre
  iexact Hpay

/-- A wait on a device's own semaphore of a transfer it issued. -/
theorem wait_self {α : Type} {kt : PUnit → Prog (TpuEff nD τ sig (Elt F) Λ₀ .tc) α} {Φ : α → sProp 𝕄}
    {w : Eff F} {k : Kd} (hw : Wt c w k) (r : ℕ) {n : ℕ} (hn : wr k r = n) (hr : r < rounds k) (hb : Below p k r)
    (hk : k ≠ .bar) (hs : ∀ e, evK e ≠ k) :
    iprop(Core X W K c p n m ∗ cred (tallyAt (cell c k) r (amt k)))
      ⊢ iprop(((Core X W K c p (n + 1) m ∗ pay X W c k r false) -∗ WP c (kt ⟨⟩) Φ) -∗ WP c (.op w kt) Φ) := by
  subst hn
  iintro H Hk
  iapply (wait_gen X W K c p m hw r hr hb (cred (tallyAt (cell c k) r (amt k))) _
    (by rw [show tot k = amt k from if_neg hk, wtodo_self k r hr hs]) (Rd_rest X W c k r hr hk)) $$ H
  iintro ⟨H, -, HP⟩
  iapply Hk
  isplitl [H] <;> iassumption

/-- A wait for another device's payment. -/
theorem wait_ev {α : Type} {kt : PUnit → Prog (TpuEff nD τ sig (Elt F) Λ₀ .tc) α} {Φ : α → sProp 𝕄}
    {w : Eff F} (e : Ev) {k : Kd} (he : evK e = k) (hw : Wt c w k) {r : ℕ} (her : evR e = r) {n : ℕ} (hn : wr k r = n) (hb : Below p k r)
    (hk : k ≠ .bar) :
    iprop(Core X W K c p n m)
      ⊢ iprop(((Core X W K c p (n + 1) m ∗ reached ER (cell c k) (r + 1) ∗ pay X W c k r false) -∗ WP c (kt ⟨⟩) Φ) -∗ WP c (.op w kt) Φ) := by
  subst hn; subst he; subst her
  iintro H Hk
  iapply (wait_gen X W K c p m hw (evR e) (evR_lt e) hb iprop(emp) _
    (by rw [show tot (evK e) = amt (evK e) from if_neg hk, wtodo_step e hk, bs_insert (not_mem_wtodo e)]
        unfold evCred
        iintro ⟨-, H⟩; iexact H)
    (Rd_rest X W c (evK e) (evR e) (evR_lt e) hk)) $$ [H]
  · isplitl [H]; · iexact H
    iempintro
  iexact Hk

theorem wtodo_bar : wtodo 0 = insert (.bar false) (insert (.bar true) (wtodo 1)) := by decide +kernel

/-- The wait for both neighbours at the barrier. -/
theorem wait_bar {α : Type} {kt : PUnit → Prog (TpuEff nD τ sig (Elt F) Λ₀ .tc) α} {Φ : α → sProp 𝕄}
    {w : Eff F} (hw : Wt c w .bar) (hb : Below p .bar 0) :
    iprop(Core X W K c p 0 m)
      ⊢ iprop(((Core X W K c p 1 m ∗ pay X W c .bar 0 false ∗ pay X W c .bar 0 true) -∗ WP c (kt ⟨⟩) Φ) -∗ WP c (.op w kt) Φ) := by
  iintro H Hk
  iapply (wait_gen X W K c p m hw 0 (by decide) hb iprop(emp) _
    (by rw [show wr .bar 0 = 0 from rfl, wtodo_bar, bs_insert (by decide +kernel), bs_insert (by decide +kernel)]
        unfold evCred
        rw [show tot .bar = 1 + 1 from rfl, ← tallyAt_add]
        iintro ⟨-, H1, H2, H3⟩
        isplitr [H3]
        · iapply (cred_add _ _).2
          isplitl [H1]; · iexact H1
          iexact H2
        iexact H3)
    (Rd_rest_bar X W c)) $$ [H]
  · isplitl [H]; · iexact H
    iempintro
  iintro ⟨H, -, HP⟩
  iapply Hk
  isplitl [H]; · iexact H
  iexact HP

/-- The operation is the signal that makes payment `e`. -/
def Sg (c : Dev nD) (w : Eff F) (e : Ev) : Prop :=
  ∃ sem : Sem sig, SemLoc.reg sem = semOf (evK e) ∧ w = .semSignal ((evT e c : Dev nD) : Thread nD τ) sem 1

/-- A signal. -/
theorem signal_ev {α : Type} {kt : PUnit → Prog (TpuEff nD τ sig (Elt F) Λ₀ .tc) α} {Φ : α → sProp 𝕄}
    {w : Eff F} (e : Ev) (hw : Sg c w e) {n : ℕ} {p : ℕ} (hp : prk e = p) (ha : amt (evK e) = 1) :
    iprop(Core X W K c p n m ∗ reached ER (cell (evT e c) (evK e)) (evR e) ∗ pay X W (evT e c) (evK e) (evR e) (evD e))
      ⊢ iprop((Core X W K c (p + 1) n m -∗ WP c (kt ⟨⟩) Φ) -∗ WP c (.op w kt) Φ) := by
  subst hp
  obtain ⟨sem, hsem, rfl⟩ := hw
  have hd : evD e ∈ (Rd X W).duties (cell (evT e c) (evK e)) (evR e) := by
    rw [Rd_duties]; unfold dutiesK; rw [if_pos (evR_lt e)]
    cases e <;> simp [evD, evK]
  have hO : owed c (prk e) = owed c (prk e + 1) + tallyAt (cell (evT e c) (evK e)) (evR e) 1 := by
    have := owed_step c e; rw [ha] at this; exact this
  have rule : ∀ V, _ := fun V => Rounds.wp_signal (defs := defs₀ (F := F)) (Γ := []) 𝒱₀ ER (Rd X W) (c : Thread nD τ) none (dst := ((evT e c : Dev nD) : Thread nD τ)) (sem := sem)
    (κ := K (evT e c, evK e)) (d := evD e) (r := evR e) (k := kt) (Q := Φ) (Es := Set.univ) (by rw [hsem]; exact hd) (k' := 1)
    (by rw [hsem]; exact (Rd_amount X W (evT e c) (evK e) (evR e) (evD e)).trans ha) (evR e) (owed c (prk e + 1))
    (hO.trans (by rw [hsem])) (W := V)
  rw [hsem] at rule
  unfold Core
  iintro ⟨⟨#HR, #Hlev, ⟨%V, HO⟩, Htok, Hpos, Hcr, Hcp⟩, #Hre, Hpay⟩ Hk
  ihave Htok := (Entails.of_eq (by rw [todo_step e, bs_insert (not_mem_todo e)] : (bigSep (todo (prk e)) fun e => evTok (F := F) c e) = iprop(evTok (F := F) c e ∗ bigSep (todo (prk e + 1)) fun e => evTok (F := F) c e))) $$ Htok
  unfold evTok
  icases Htok with ⟨⟨He, -⟩, Htok⟩
  iapply (rule V) $$ [HO He Hpay]
  · isplitr; · iapply (Recs_inv X W K (evT e c) (evK e)); iexact HR
    isplitl [HO]; · iexact HO
    isplitl [He]; · iexact He
    isplitl [Hpay]; · iapply (Entails.of_eq (Rd_payload X W (evT e c) (evK e) (evR e) (evD e)).symm); iexact Hpay
    iexact Hre
  iintro HO
  iapply Hk
  isplitr; · iexact HR
  isplitr; · iexact Hlev
  isplitl [HO]; · iexists _; iexact HO
  isplitl [Htok]; · iexact Htok
  isplitl [Hpos]; · iexact Hpos
  isplitl [Hcr]; · iexact Hcr
  iexact Hcp

theorem core_reached (n : ℕ) (k : Kd) : Core X W K c p n m ⊢ iprop(Core X W K c p n m ∗ reached ER (cell c k) (cnt n k)) := by
  unfold Core
  iintro ⟨HR, Hlev, HO, Htok, Hpos, Hcr, Hcp⟩
  ihave Hpos := (Entails.of_eq (Idealize.SL.BI.bigSep_univ_at (fun k : Kd => iprop(atPos ER (cell c k) (cnt n k) ∅ 0 ∗ reached ER (cell c k) (cnt n k))) k)) $$ Hpos
  icases Hpos with ⟨⟨Ha, #Hre⟩, Hpos⟩
  isplitl
  · isplitl [HR]; · iexact HR
    isplitl [Hlev]; · iexact Hlev
    isplitl [HO]; · iexact HO
    isplitl [Htok]; · iexact Htok
    isplitl [Ha Hpos]
    · iapply (Entails.of_eq (Idealize.SL.BI.bigSep_univ_at (fun k : Kd => iprop(atPos ER (cell c k) (cnt n k) ∅ 0 ∗ reached ER (cell c k) (cnt n k))) k).symm)
      isplitl [Ha]
      · isplitl [Ha]; · iexact Ha
        iexact Hre
      iexact Hpos
    isplitl [Hcr]; · iexact Hcr
    iexact Hcp
  iexact Hre

/-- Memref `v` shows region `A` of memref `M`, its index `y` being `M`'s `φ y`. -/
def Vw {sp : Space} {s s' : Shape} {e : EltTy} (M : Memref sig .tc sp s e) (A : Finset s.Idx) (v : Memref sig .tc sp s' e) (φ : s'.Idx → s.Idx) : Prop :=
  ∀ (c : Dev nD) (q : PosShare TreeShare) (X : s.Idx → Elt F e),
    (held (c : Thread nD τ) M q A X : sProp 𝕄) = held (c : Thread nD τ) v q Finset.univ (fun y => X (φ y))

/-- The operation is the transfer that makes payment `e`, from the memref `v` to `v'`. -/
def Sd (c : Dev nD) (w : Eff F) (e : Ev) (k : Kd) {sp sp' : Space} {s' : Shape} {el : EltTy} (v : Memref sig .tc sp s' el) (v' : Memref sig .tc sp' s' el) : Prop :=
  ∃ (sS sR : DmaSem sig) (hsc : v'.view.ref.isScScratch = false) (h1 : v.view.WordExact) (h2 : v'.view.WordExact)
    (h3 : DmaTarget.Typed sp (.dma sR) (.remote ((evT e c : Dev nD) : Thread nD τ) v' (.dma sS) hsc)),
    selfK e = some k ∧ SemLoc.dma sS = semOf k ∧ SemLoc.dma sR = semOf (evK e) ∧ v'.view.dmaCredit = amt (evK e) ∧ amt k = amt (evK e)
      ∧ w = .enqueueDma v (.remote ((evT e c : Dev nD) : Thread nD τ) v' (.dma sS) hsc) (.dma sR) h1 h2 h3

/-- A remote transfer. -/
theorem send_ev {α : Type} {kt : PUnit → Prog (TpuEff nD τ sig (Elt F) Λ₀ .tc) α} {Φ : α → sProp 𝕄}
    {w : Eff F} (e : Ev) {k : Kd} {sp sp' : Space} {s₁ s₂ s' : Shape} {el : EltTy} {v : Memref sig .tc sp s' el} {v' : Memref sig .tc sp' s' el}
    (hw : Sd c w e k v v') {M : Memref sig .tc sp s₁ el} {A : Finset s₁.Idx} {φ : s'.Idx → s₁.Idx} (hv : Vw (F := F) M A v φ)
    {M' : Memref sig .tc sp' s₂ el} {A' : Finset s₂.Idx} {φ' : s'.Idx → s₂.Idx} (hv' : Vw (F := F) M' A' v' φ')
    (Y : s₁.Idx → Elt F el) (Y' : s₂.Idx → Elt F el) (hY : ∀ y, Y' (φ' y) = Y (φ y)) (q : PosShare TreeShare) (G : sProp 𝕄)
    (hp₁ : held (c : Thread nD τ) M q A Y ⊢ pay X W c k 0 false)
    (hp₂ : iprop(held ((evT e c : Dev nD) : Thread nD τ) M' fullShare A' Y' ∗ G) ⊢ pay X W (evT e c) (evK e) (evR e) (evD e))
    {n : ℕ} {p : ℕ} (hp : prk e = p) (he : evR e = 0) :
    iprop(Core X W K c p n m ∗ held (c : Thread nD τ) M q A Y ∗ anyH (F := F) (evT e c) M' A' ∗ G)
      ⊢ iprop(((Core X W K c (p + 1) n m ∗ cred (tallyAt (cell c k) 0 (amt k))) -∗ WP c (kt ⟨⟩) Φ) -∗ WP c (.op w kt) Φ) := by
  subst hp
  obtain ⟨sS, sR, hsc, h1, h2, h3, hself, hS, hR, hN, hkk, rfl⟩ := hw
  have hd : evD e ∈ (Rd X W).duties (cell (evT e c) (evK e)) (evR e) := by
    rw [Rd_duties]; unfold dutiesK; rw [if_pos (evR_lt e)]
    cases e <;> simp [evD, evK]
  have hk : k ≠ .bar ∧ 0 < rounds k := by
    cases e <;> simp [selfK] at hself <;> subst hself <;> simp [rounds]
  have hd₁ : false ∈ (Rd X W).duties (cell c k) 0 := by rw [Rd_duties, dutiesK_self k 0 hk.2 hk.1]; exact Finset.mem_singleton_self _
  have rule : ∀ V f g, (∀ y ∈ Finset.univ, v.view.read (Elt F) f y = Y (φ y)) → _ := fun V f g hf =>
    Rounds.wp_send_pointsTo_with (defs := defs₀ (F := F)) (Γ := []) 𝒱₀ ER (Rd X W) (c : Thread nD τ) none (c' := ((evT e c : Dev nD) : Thread nD τ))
    (src := v) (dst := v') (hsc := hsc) (sS := .dma sS) (sem := .dma sR) (hsrc := h1) (hdst := h2) (hsem := h3) (k := kt) (q := q) (fs := f) (fd := g) (F := G)
    (r₁ := 0) (r₂ := evR e) (d₁ := false) (d₂ := evD e) (κ₁ := K (c, k)) (κ₂ := K (evT e c, evK e))
    (Q := Φ) (Es := Set.univ) (by rw [hS]; exact hd₁) (by rw [hR]; exact hd) (evR e) 0 (amt (evK e)) hN
    (by rw [hS]; exact (Rd_amount X W c k 0 false).trans hkk) (by rw [hR]; exact Rd_amount X W (evT e c) (evK e) (evR e) (evD e)) (owed c (prk e + 1))
    ((owed_step c e).trans (by rw [hR])) (W := V)
    (by rw [hS]
        refine Entails.trans ?_ (hp₁.trans (Entails.of_eq (Rd_payload X W c k 0 false).symm))
        rw [hv c q Y]
        unfold held
        rw [View.setOn_univ]
        iintro H
        iexists f
        isplitr; · ipureintro; exact hf
        iexact H)
    (by rw [hR]
        refine Entails.trans ?_ (hp₂.trans (Entails.of_eq (Rd_payload X W (evT e c) (evK e) (evR e) (evD e)).symm))
        rw [hv' (evT e c) fullShare Y']
        unfold held
        rw [View.setOn_univ]
        iintro ⟨H, HG⟩
        isplitl [H]
        · iexists _
          isplitr
          rotate_left
          · iexact H
          ipureintro
          intro y hy
          refine Eq.trans ?_ ((hf y hy).trans (hY y).symm)
          exact View.read_write_of_mem (v := v'.view) g _ (Finset.mem_univ y)
        iexact HG)
  have rule' : ∀ V f g (hf : ∀ y ∈ Finset.univ, v.view.read (Elt F) f y = Y (φ y)), iprop(cellInv ER (Rd X W) (K (c, k)) (cell c k) ∗
      cellInv ER (Rd X W) (K (evT e c, evK e)) (cell (evT e c) (evK e)) ∗ (View.loc (c : Thread nD τ) v.view ↦[v.view.set]{q} f) ∗
      ((View.loc ((evT e c : Dev nD) : Thread nD τ) v'.view ↦[v'.view.set]{fullShare} g) ∗ G) ∗ owes (c : Thread nD τ) (owed c (prk e)) V ∗
      dutyTok ER (cell c k) 0 false ∗ reached ER (cell c k) 0 ∗ dutyTok ER (cell (evT e c) (evK e)) (evR e) (evD e) ∗
      reached ER (cell (evT e c) (evK e)) (evR e)) ⊢ _ := fun V f g hf =>
    (Entails.of_eq (by simp only [cell, ← hS, ← hR])).trans (rule V f g hf)
  have hcr : (cred (tallyAt ((c : Thread nD τ), SemLoc.dma sS) 0 (amt (evK e))) : sProp 𝕄) = cred (tallyAt (cell c k) 0 (amt k)) := by
    rw [hS, hkk]
  unfold Core
  iintro ⟨⟨#HR, #Hlev, ⟨%V, HO⟩, Htok, Hpos, Hcr, Hcp⟩, Hsrc, Hdst, HG⟩ Hk
  ihave Htok := (Entails.of_eq (by rw [todo_step e, bs_insert (not_mem_todo e)] : (bigSep (todo (prk e)) fun e => evTok (F := F) c e) = iprop(evTok (F := F) c e ∗ bigSep (todo (prk e + 1)) fun e => evTok (F := F) c e))) $$ Htok
  icases Htok with ⟨He, Htok⟩
  ihave He := (Entails.of_eq (by unfold evTok; rw [hself] : evTok (F := F) c e = iprop(dutyTok ER (cell (evT e c) (evK e)) (evR e) (evD e) ∗ dutyTok ER (cell c k) 0 false))) $$ He
  icases He with ⟨He, Hs⟩
  ihave Hsrc := (Entails.of_eq (hv c q Y)) $$ Hsrc
  unfold anyH
  icases Hdst with ⟨%Z, Hdst⟩
  ihave Hdst := (Entails.of_eq (hv' (evT e c) fullShare Z)) $$ Hdst
  unfold held
  icases Hsrc with ⟨%f, %hf, Hsrc⟩
  icases Hdst with ⟨%g, -, Hdst⟩
  iapply (rule' V f g hf) $$ [HO He Hs Hsrc Hdst HG]
  · isplitr; · iapply (Recs_inv X W K c k); iexact HR
    isplitr; · iapply (Recs_inv X W K (evT e c) (evK e)); iexact HR
    isplitl [Hsrc]; · iapply (Entails.of_eq (by rw [View.setOn_univ])) $$ Hsrc
    isplitl [Hdst HG]
    · isplitl [Hdst]; · iapply (Entails.of_eq (by rw [View.setOn_univ])) $$ Hdst
      iexact HG
    isplitl [HO]; · iexact HO
    isplitl [Hs]; · iexact Hs
    isplitr; · iapply (Recs_reached X W K c k); iexact HR
    isplitl [He]; · iexact He
    iapply ((Recs_reached X W K (evT e c) (evK e)).trans (Entails.of_eq (by rw [he]))); iexact HR
  iintro ⟨Hc, HO⟩
  iapply Hk
  isplitr [Hc]
  · isplitr; · iexact HR
    isplitr; · iexact Hlev
    isplitl [HO]; · iexists _; iexact HO
    isplitl [Htok]; · iexact Htok
    isplitl [Hpos]; · iexact Hpos
    isplitl [Hcr]; · iexact Hcr
    iexact Hcp
  iapply (Entails.of_eq hcr) $$ Hc

/-- The operation is the copy `x` to the output. -/
def Cp (c : Dev nD) (w : Eff F) (x : Fin 16) {sp sp' : Space} {s' : Shape} {el : EltTy} (v : Memref sig .tc sp s' el) (v' : Memref sig .tc sp' s' el) : Prop :=
  ∃ (sm : DmaSem sig) (h1 : v.view.WordExact) (h2 : v'.view.WordExact) (h3 : DmaTarget.Typed (nD := nD) (p := (c : Thread nD τ).2) sp (.dma sm) (.here v')),
    SemLoc.dma sm = semOf (cpK x) ∧ v'.view.dmaCredit = amt (cpK x) ∧ w = .enqueueDma v (.here v') (.dma sm) h1 h2 h3

/-- A copy to the output. -/
theorem copy_x {α : Type} {kt : PUnit → Prog (TpuEff nD τ sig (Elt F) Λ₀ .tc) α} {Φ : α → sProp 𝕄}
    {w : Eff F} (x : Fin 16) {sp : Space} {s₁ s' : Shape} {v : Memref sig .tc sp s' .bf16} {v' : Memref sig .tc .hbm s' .bf16}
    (hw : Cp c w x v v') {M : Memref sig .tc sp s₁ .bf16} {A : Finset s₁.Idx} {φ : s'.Idx → s₁.Idx} (hv : Vw (F := F) M A v φ)
    {φ' : s'.Idx → S4096x8192.Idx} (hv' : Vw (F := F) outM (cpA c x) v' φ')
    (Y : s₁.Idx → Elt F .bf16) (Y' : S4096x8192.Idx → Elt F .bf16) (hY : ∀ y, Y' (φ' y) = Y (φ y)) (q : PosShare TreeShare)
    (hp : iprop(held (c : Thread nD τ) outM fullShare (cpA c x) Y' ∗ held (c : Thread nD τ) M q A Y) ⊢ pay X W c (cpK x) (cpR x) false)
    {n : ℕ} {p : ℕ} (hm : x.val = m) (hn : cnt n (cpK x) = cpR x) :
    iprop(Core X W K c p n m ∗ held (c : Thread nD τ) M q A Y)
      ⊢ iprop(((Core X W K c p n (m + 1) ∗ cred (tallyAt (cell c (cpK x)) (cpR x) (amt (cpK x)))) -∗ WP c (kt ⟨⟩) Φ) -∗ WP c (.op w kt) Φ) := by
  subst hm
  obtain ⟨sm, h1, h2, h3, hS, hN, rfl⟩ := hw
  have hd : false ∈ (Rd X W).duties (cell c (cpK x)) (cpR x) := by
    have : ∀ x : Fin 16, false ∈ dutiesK (cpK x) (cpR x) := by decide +kernel
    rw [Rd_duties]; exact this x
  have rule : ∀ f g, (∀ y ∈ Finset.univ, v.view.read (Elt F) f y = Y (φ y)) → _ := fun f g hf =>
    Rounds.wp_copy_pointsTo (defs := defs₀ (F := F)) (Γ := []) 𝒱₀ ER (Rd X W) (c : Thread nD τ) none
    (src := v) (dst := v') (sem := .dma sm) (hsrc := h1) (hdst := h2) (hsem := h3) (k := kt) (q := q) (fs := f) (fd := g)
    (r := cpR x) (d := false) (κ := K (c, cpK x)) (Q := Φ) (Es := Set.univ) (by rw [hS]; exact hd) (cpR x) (amt (cpK x)) hN
    (by rw [hS]; exact Rd_amount X W c (cpK x) (cpR x) false)
    (by rw [hS]
        refine Entails.trans ?_ (hp.trans (Entails.of_eq (Rd_payload X W c (cpK x) (cpR x) false).symm))
        rw [hv' c fullShare Y', hv c q Y]
        unfold held
        rw [View.setOn_univ, View.setOn_univ]
        iintro ⟨H, HG⟩
        isplitl [H]
        · iexists _
          isplitr
          rotate_left
          · iexact H
          ipureintro
          intro y hy
          refine Eq.trans ?_ ((hf y hy).trans (hY y).symm)
          exact View.read_write_of_mem (v := v'.view) g _ (Finset.mem_univ y)
        iexists f
        isplitr; · ipureintro; exact hf
        iexact HG)
  have rule' : ∀ f g (hf : ∀ y ∈ Finset.univ, v.view.read (Elt F) f y = Y (φ y)), iprop(cellInv ER (Rd X W) (K (c, cpK x)) (cell c (cpK x)) ∗
      (View.loc (c : Thread nD τ) v.view ↦[v.view.set]{q} f) ∗
      (View.loc (c : Thread nD τ) v'.view ↦[v'.view.set]{fullShare} g) ∗
      dutyTok ER (cell c (cpK x)) (cpR x) false ∗ reached ER (cell c (cpK x)) (cpR x)) ⊢ _ := fun f g hf =>
    (Entails.of_eq (by simp only [cell, ← hS])).trans (rule f g hf)
  have hcr : (cred (tallyAt ((c : Thread nD τ), SemLoc.dma sm) (cpR x) (amt (cpK x))) : sProp 𝕄) = cred (tallyAt (cell c (cpK x)) (cpR x) (amt (cpK x))) := by
    rw [hS]
  have hstep : (Finset.univ.filter fun y : Fin 16 => x.val ≤ y.val) = insert x (Finset.univ.filter fun y : Fin 16 => x.val + 1 ≤ y.val) := by
    ext y; simp only [Finset.mem_filter, Finset.mem_univ, true_and, Finset.mem_insert, Fin.ext_iff]; omega
  have hnot : x ∉ (Finset.univ.filter fun y : Fin 16 => x.val + 1 ≤ y.val) := by simp
  iintro ⟨HC, Hsrc⟩ Hk
  ihave HC := (core_reached X W K c p x.val n (cpK x)) $$ HC
  icases HC with ⟨HC, #Hre⟩
  ihave Hre := (Entails.of_eq (by rw [hn] : (reached ER (cell c (cpK x)) (cnt n (cpK x)) : sProp 𝕄) = reached ER (cell c (cpK x)) (cpR x))) $$ Hre
  unfold Core
  icases HC with ⟨#HR, #Hlev, HO, Htok, Hpos, Hcr, Hcp⟩
  ihave Hcp := (Entails.of_eq (by rw [hstep, bs_insert hnot] : (bigSep (Finset.univ.filter fun y : Fin 16 => x.val ≤ y.val) fun y => cpTok (F := F) c y) = iprop(cpTok (F := F) c x ∗ bigSep (Finset.univ.filter fun y : Fin 16 => x.val + 1 ≤ y.val) fun y => cpTok (F := F) c y))) $$ Hcp
  icases Hcp with ⟨Hx, Hcp⟩
  ihave Hsrc := (Entails.of_eq (hv c q Y)) $$ Hsrc
  unfold cpTok anyH
  icases Hx with ⟨Hx, %Z, Hdst⟩
  ihave Hdst := (Entails.of_eq (hv' c fullShare Z)) $$ Hdst
  unfold held
  icases Hsrc with ⟨%f, %hf, Hsrc⟩
  icases Hdst with ⟨%g, -, Hdst⟩
  iapply (rule' f g hf) $$ [Hx Hsrc Hdst]
  · isplitr; · iapply (Recs_inv X W K c (cpK x)); iexact HR
    isplitl [Hsrc]; · iapply (Entails.of_eq (by rw [View.setOn_univ])) $$ Hsrc
    isplitl [Hdst]; · iapply (Entails.of_eq (by rw [View.setOn_univ])) $$ Hdst
    isplitl [Hx]; · iexact Hx
    iexact Hre
  iintro Hc
  iapply Hk
  isplitr [Hc]
  · isplitr; · iexact HR
    isplitr; · iexact Hlev
    isplitl [HO]; · iexact HO
    isplitl [Htok]; · iexact Htok
    isplitl [Hpos]; · iexact Hpos
    isplitl [Hcr]; · iexact Hcr
    iexact Hcp
  iapply (Entails.of_eq hcr) $$ Hc

end Step

end Cert.KernelIdealProof

end
-- ==== Proof.Tiles.lean ====
/-
# Loads and stores of tiles

A tile is 128 rows of a buffer. A load of a tile reads the buffer's contents there; a store of a tile extends by its rows
the part of the buffer that is rewritten.
-/
module

public import proofs.«01_k».proof.Proof.Ops

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- Columns `c0 … c0 + w - 1` of slot `s`. -/
def reg (s c0 w : ℕ) : Finset S2x512x4096.Idx :=
  Finset.univ.filter fun i => (i 0).val = s ∧ c0 ≤ (i 2).val ∧ (i 2).val < c0 + w

theorem mem_reg {s c0 w : ℕ} {i : S2x512x4096.Idx} : i ∈ reg s c0 w ↔ (i 0).val = s ∧ c0 ≤ (i 2).val ∧ (i 2).val < c0 + w := by
  simp [reg]

theorem slot_reg (s : ℕ) : slot s = reg (s % 2) 0 4096 := by
  ext i
  have : (i 2).val < 4096 := (i 2).isLt
  simp only [slot, reg, Finset.mem_filter, Finset.mem_univ, true_and]
  omega

theorem piece_reg (s q : ℕ) : piece s q = reg (s % 2) (2048 * q) 2048 := by
  ext i
  simp only [piece, reg, Finset.mem_filter, Finset.mem_univ, true_and]
  omega

theorem rect_mem {s : Shape} {off size : Fin s.rank → ℕ} {inb : ∀ a, off a + size a ≤ s.size a} {i : s.Idx} :
    i ∈ (Rect.unit off size inb).set ↔ ∀ a, off a ≤ (i a).val ∧ (i a).val < off a + size a := by
  rw [LoadRect.mem_set]
  refine forall_congr' fun a => ⟨?_, fun h => ⟨(i a).val - off a, ?_, ?_⟩⟩
  · rintro ⟨j, hj, h⟩
    have hj' : j < size a := hj
    have h' : (i a).val = off a + 1 * j := h
    omega
  · show _ < size a; omega
  · show (i a).val = off a + 1 * ((i a).val - off a); omega

theorem rect_emb {s : Shape} {off size : Fin s.rank → ℕ} {inb : ∀ a, off a + size a ≤ s.size a} (x : (Rect.unit off size inb).shape.Idx) (a : Fin s.rank) :
    ((Rect.unit off size inb).emb x a).val = off a + (x a).val := by
  show off a + 1 * (x a).val = _
  omega

/-- The first `128 t` rows at `N`, the rest at `O`. -/
def mix3 {α : Type} (t : ℕ) (N O : S2x512x4096.Idx → α) : S2x512x4096.Idx → α := fun i => if (i 1).val < 128 * t then N i else O i
/-- The same of a one-slot buffer. -/
def mix2 {α : Type} (t : ℕ) (N O : S512x4096.Idx → α) : S512x4096.Idx → α := fun i => if (i 0).val < 128 * t then N i else O i

theorem mix3_zero {α : Type} (N O : S2x512x4096.Idx → α) : mix3 0 N O = O := by funext i; simp [mix3]
theorem mix2_zero {α : Type} (N O : S512x4096.Idx → α) : mix2 0 N O = O := by funext i; simp [mix2]
theorem mix3_four {α : Type} (N O : S2x512x4096.Idx → α) : mix3 4 N O = N := by
  funext i; have : (i 1).val < 512 := (i 1).isLt; exact if_pos (by omega)
theorem mix2_four {α : Type} (N O : S512x4096.Idx → α) : mix2 4 N O = N := by
  funext i; have : (i 0).val < 512 := (i 0).isLt; exact if_pos (by omega)

section Rules
variable {c : Dev nD}

/-- A load at a rectangle of a memref. -/
theorem ld {α : Type} {sp : CoreSpace} {s : Shape} {e : EltTy} {M : Memref sig .tc sp s e} {off size : Fin s.rank → ℕ}
    {inb : ∀ a, off a + size a ≤ s.size a} {hl : M.view.LoadsAt (Rect.unit off size inb).toLoadRect}
    {kt : ((Rect.unit off size inb).shape.Idx → Elt F e) → Prog (TpuEff nD τ sig (Elt F) Λ₀ .tc) α} {Φ : α → sProp 𝕄}
    (A : Finset s.Idx) (q : PosShare TreeShare) (X : s.Idx → Elt F e) (v : (Rect.unit off size inb).shape.Idx → Elt F e)
    (hA : ∀ i : s.Idx, (∀ a, off a ≤ (i a).val ∧ (i a).val < off a + size a) → i ∈ A)
    (hv : ∀ j, X ((Rect.unit off size inb).emb j) = v j) :
    (held (c : Thread nD τ) M q A X : sProp 𝕄)
      ⊢ iprop((held (c : Thread nD τ) M q A X -∗ WP c (kt v) Φ) -∗ WP c (.op (.load M (Rect.unit off size inb).toLoadRect hl) kt) Φ) := by
  obtain rfl : (fun j => X ((Rect.unit off size inb).emb j)) = v := funext hv
  have hb : (Prog.op (TpuEff.load M (Rect.unit off size inb).toLoadRect hl) kt : Prog (TpuEff nD τ sig (Elt F) Λ₀ .tc) α)
      = (Prog.lift (TpuEff.load M (Rect.unit off size inb).toLoadRect hl) >>= kt) := rfl
  rw [hb]
  unfold WP
  rw [wp_bind]
  exact held_load (c := (c : Thread nD τ)) (defs := defs₀ (F := F)) 𝒱₀ none Set.univ M q (r := Rect.unit off size inb) (hl := hl)
    (A := A) (fun i hi => hA i (rect_mem.mp hi)) X (fun v => WP c (kt v) Φ)

/-- A store at a rectangle of a memref. -/
theorem st {α : Type} {sp : CoreSpace} {s : Shape} {e : EltTy} {M : Memref sig .tc sp s e} {off size : Fin s.rank → ℕ}
    {inb : ∀ a, off a + size a ≤ s.size a} {w : (Rect.unit off size inb).shape.Idx → Elt F e}
    {hx : (M.access (Rect.unit off size inb)).Stores Finset.univ}
    {hm : (Finset.univ : Finset (Rect.unit off size inb).shape.Idx) = Finset.univ ∨ ∀ a, (Rect.unit off size inb).stride a = 1}
    {kt : PUnit → Prog (TpuEff nD τ sig (Elt F) Λ₀ .tc) α} {Φ : α → sProp 𝕄}
    (A : Finset s.Idx) (X Y : s.Idx → Elt F e)
    (hA : ∀ i : s.Idx, (∀ a, off a ≤ (i a).val ∧ (i a).val < off a + size a) → i ∈ A)
    (hw : ∀ j, Y ((Rect.unit off size inb).emb j) = w j)
    (hY : ∀ i ∈ A, ¬(∀ a, off a ≤ (i a).val ∧ (i a).val < off a + size a) → Y i = X i) :
    (held (c : Thread nD τ) M fullShare A X : sProp 𝕄)
      ⊢ iprop((held (c : Thread nD τ) M fullShare A Y -∗ WP c (kt ⟨⟩) Φ) -∗ WP c (.op (.store M (Rect.unit off size inb) w Finset.univ hx hm) kt) Φ) := by
  have h := held_store (c := (c : Thread nD τ)) (defs := defs₀ (F := F)) 𝒱₀ none Set.univ M (r := Rect.unit off size inb) (hx := hx) (hm := hm)
    (A := A) (fun i hi => hA i (rect_mem.mp hi)) X Y hw (fun i hi hn => hY i hi fun h => hn (rect_mem.mpr h)) (fun _ => WP c (kt ⟨⟩) Φ)
  refine h.trans ?_
  iintro H Hk
  have hb : WP c (Prog.op (TpuEff.store M (Rect.unit off size inb) w Finset.univ hx hm) kt) Φ
      = wp frame (wpE (defs₀ (F := F)) 𝒱₀ (c : Thread nD τ) none) Set.univ (Prog.lift (.store M (Rect.unit off size inb) w Finset.univ hx hm)) (fun _ => WP c (kt ⟨⟩) Φ) :=
    wp_bind frame (wpE (defs₀ (F := F)) 𝒱₀ (c : Thread nD τ) none) Set.univ (Prog.lift (.store M (Rect.unit off size inb) w Finset.univ hx hm)) kt Φ
  iapply (Entails.of_eq hb.symm)
  iapply H
  iexact Hk

/-- The shape of a 128-row tile of a slot. -/
abbrev T3 (w : ℕ) : Shape := ⟨3, ![1, 128, w]⟩
/-- The shape of a 128-row tile of a one-slot buffer. -/
abbrev T2 (w : ℕ) : Shape := ⟨2, ![128, w]⟩

/-- A load of a tile of a slot. -/
theorem ld3 {α : Type} {e : EltTy} {M : Memref sig .tc .vmem S2x512x4096 e} {off : Fin 3 → ℕ} {w : ℕ}
    {inb : ∀ a, off a + (T3 w).size a ≤ S2x512x4096.size a} {hl : M.view.LoadsAt (Rect.unit (s := S2x512x4096) off (T3 w).size inb).toLoadRect}
    {kt : ((T3 w).Idx → Elt F e) → Prog (TpuEff nD τ sig (Elt F) Λ₀ .tc) α} {Φ : α → sProp 𝕄}
    (s t c0 c1 w1 : ℕ) (ho : off = ![s, 128 * t, c0]) (hc : c1 ≤ c0 ∧ c0 + w ≤ c1 + w1) (q : PosShare TreeShare) (X : S2x512x4096.Idx → Elt F e) (V : ℕ → ℕ → Elt F e)
    (hX : ∀ i : S2x512x4096.Idx, 128 * t ≤ (i 1).val → (i 1).val < 128 * t + 128 → X i = V (i 1).val (i 2).val) :
    (held (c : Thread nD τ) M q (reg s c1 w1) X : sProp 𝕄)
      ⊢ iprop((held (c : Thread nD τ) M q (reg s c1 w1) X -∗ WP c (kt (fun j => V (128 * t + (j 1).val) (c0 + (j 2).val))) Φ)
        -∗ WP c (.op (.load M (Rect.unit (s := S2x512x4096) off (T3 w).size inb).toLoadRect hl) kt) Φ) := by
  subst ho
  refine ld (s := S2x512x4096) (size := (T3 w).size) (inb := inb) (reg s c1 w1) q X _ (fun i hi => mem_reg.mpr ?_) (fun j => ?_)
  · have h0 : s ≤ (i 0).val ∧ (i 0).val < s + 1 := hi 0
    have h2 : c0 ≤ (i 2).val ∧ (i 2).val < c0 + w := hi 2
    omega
  · have hj : (j 1).val < 128 := (j 1).isLt
    have h1' : ((Rect.unit (s := S2x512x4096) ![s, 128 * t, c0] (T3 w).size inb).emb j 1).val = 128 * t + (j 1).val := rect_emb (inb := inb) j 1
    have h2' : ((Rect.unit (s := S2x512x4096) ![s, 128 * t, c0] (T3 w).size inb).emb j 2).val = c0 + (j 2).val := rect_emb (inb := inb) j 2
    exact (hX _ (h1'.symm ▸ Nat.le_add_right _ _) (by have := h1'; omega)).trans (congrArg₂ V h1' h2')

/-- A load of a tile of a one-slot buffer. -/
theorem ld2 {α : Type} {e : EltTy} {M : Memref sig .tc .vmem S512x4096 e} {off : Fin 2 → ℕ} {w : ℕ}
    {inb : ∀ a, off a + (T2 w).size a ≤ S512x4096.size a} {hl : M.view.LoadsAt (Rect.unit (s := S512x4096) off (T2 w).size inb).toLoadRect}
    {kt : ((T2 w).Idx → Elt F e) → Prog (TpuEff nD τ sig (Elt F) Λ₀ .tc) α} {Φ : α → sProp 𝕄}
    (t c0 : ℕ) (ho : off = ![128 * t, c0]) (q : PosShare TreeShare) (V : ℕ → ℕ → Elt F e) :
    (held (c : Thread nD τ) M q Finset.univ (inBuf V) : sProp 𝕄)
      ⊢ iprop((held (c : Thread nD τ) M q Finset.univ (inBuf V) -∗ WP c (kt (fun j => V (128 * t + (j 0).val) (c0 + (j 1).val))) Φ)
        -∗ WP c (.op (.load M (Rect.unit (s := S512x4096) off (T2 w).size inb).toLoadRect hl) kt) Φ) := by
  subst ho
  refine ld (s := S512x4096) (size := (T2 w).size) (inb := inb) Finset.univ q (inBuf V) _ (fun i hi => Finset.mem_univ i) (fun j => ?_)
  have h1' : ((Rect.unit (s := S512x4096) ![128 * t, c0] (T2 w).size inb).emb j 0).val = 128 * t + (j 0).val := rect_emb (inb := inb) j 0
  have h2' : ((Rect.unit (s := S512x4096) ![128 * t, c0] (T2 w).size inb).emb j 1).val = c0 + (j 1).val := rect_emb (inb := inb) j 1
  exact congrArg₂ V h1' h2'

/-- A load whose result is not used. -/
theorem ld_any {α : Type} {sp : CoreSpace} {s : Shape} {e : EltTy} {M : Memref sig .tc sp s e} {off size : Fin s.rank → ℕ}
    {inb : ∀ a, off a + size a ≤ s.size a} {hl : M.view.LoadsAt (Rect.unit off size inb).toLoadRect}
    {kt : Prog (TpuEff nD τ sig (Elt F) Λ₀ .tc) α} {Φ : α → sProp 𝕄}
    (A : Finset s.Idx) (q : PosShare TreeShare) (X : s.Idx → Elt F e)
    (hA : ∀ i : s.Idx, (∀ a, off a ≤ (i a).val ∧ (i a).val < off a + size a) → i ∈ A) :
    (held (c : Thread nD τ) M q A X : sProp 𝕄)
      ⊢ iprop((held (c : Thread nD τ) M q A X -∗ WP c kt Φ) -∗ WP c (.op (.load M (Rect.unit off size inb).toLoadRect hl) fun _ => kt) Φ) :=
  ld (kt := fun _ => kt) A q X _ hA (fun _ => rfl)

/-- A store of a tile of a slot. -/
theorem st3 {α : Type} {e : EltTy} {M : Memref sig .tc .vmem S2x512x4096 e} {off : Fin 3 → ℕ} {w : ℕ}
    {inb : ∀ a, off a + (T3 w).size a ≤ S2x512x4096.size a} {v : (T3 w).Idx → Elt F e}
    {hx : (M.access (Rect.unit (s := S2x512x4096) off (T3 w).size inb)).Stores Finset.univ}
    {hm : (Finset.univ : Finset (Rect.unit (s := S2x512x4096) off (T3 w).size inb).shape.Idx) = Finset.univ ∨ ∀ a, (Rect.unit (s := S2x512x4096) off (T3 w).size inb).stride a = 1}
    {kt : PUnit → Prog (TpuEff nD τ sig (Elt F) Λ₀ .tc) α} {Φ : α → sProp 𝕄}
    (s t c0 : ℕ) (ho : off = ![s, 128 * t, c0]) (V : ℕ → ℕ → Elt F e) (O : S2x512x4096.Idx → Elt F e)
    (hv : ∀ j : (T3 w).Idx, V (128 * t + (j 1).val) (c0 + (j 2).val) = v j) :
    (held (c : Thread nD τ) M fullShare (reg s c0 w) (mix3 t (inSlot V) O) : sProp 𝕄)
      ⊢ iprop((held (c : Thread nD τ) M fullShare (reg s c0 w) (mix3 (t + 1) (inSlot V) O) -∗ WP c (kt ⟨⟩) Φ)
        -∗ WP c (.op (.store M (Rect.unit (s := S2x512x4096) off (T3 w).size inb) v Finset.univ hx hm) kt) Φ) := by
  subst ho
  refine st (s := S2x512x4096) (size := (T3 w).size) (inb := inb) (reg s c0 w) _ _ (fun i hi => mem_reg.mpr ?_) (fun j => ?_) (fun i hi hn => ?_)
  · have h0 : s ≤ (i 0).val ∧ (i 0).val < s + 1 := hi 0
    have h2 : c0 ≤ (i 2).val ∧ (i 2).val < c0 + w := hi 2
    omega
  · have h1 : ((Rect.unit (s := S2x512x4096) ![s, 128 * t, c0] (T3 w).size inb).emb j 1).val = 128 * t + (j 1).val := rect_emb (inb := inb) j 1
    have h2 : ((Rect.unit (s := S2x512x4096) ![s, 128 * t, c0] (T3 w).size inb).emb j 2).val = c0 + (j 2).val := rect_emb (inb := inb) j 2
    have hj : (j 1).val < 128 := (j 1).isLt
    unfold mix3
    rw [if_pos (by omega)]
    show V _ _ = _
    rw [h1, h2]; exact hv j
  · have hi := mem_reg.mp hi
    have hn' : ¬(128 * t ≤ (i 1).val ∧ (i 1).val < 128 * t + 128) := by
      intro h1
      apply hn
      intro a
      fin_cases a
      · simp; omega
      · simpa using h1
      · simp; omega
    unfold mix3
    by_cases h : (i 1).val < 128 * t
    · rw [if_pos h, if_pos (by omega)]
    · rw [if_neg h, if_neg (by omega)]

/-- A store of a full-width tile of a one-slot buffer. -/
theorem st2 {α : Type} {e : EltTy} {M : Memref sig .tc .vmem S512x4096 e} {off : Fin 2 → ℕ}
    {inb : ∀ a, off a + (T2 4096).size a ≤ S512x4096.size a} {v : (T2 4096).Idx → Elt F e}
    {hx : (M.access (Rect.unit (s := S512x4096) off (T2 4096).size inb)).Stores Finset.univ}
    {hm : (Finset.univ : Finset (Rect.unit (s := S512x4096) off (T2 4096).size inb).shape.Idx) = Finset.univ ∨ ∀ a, (Rect.unit (s := S512x4096) off (T2 4096).size inb).stride a = 1}
    {kt : PUnit → Prog (TpuEff nD τ sig (Elt F) Λ₀ .tc) α} {Φ : α → sProp 𝕄}
    (t : ℕ) (ho : off = ![128 * t, 0]) (V : ℕ → ℕ → Elt F e) (O : S512x4096.Idx → Elt F e)
    (hv : ∀ j : (T2 4096).Idx, V (128 * t + (j 0).val) (j 1).val = v j) :
    (held (c : Thread nD τ) M fullShare Finset.univ (mix2 t (inBuf V) O) : sProp 𝕄)
      ⊢ iprop((held (c : Thread nD τ) M fullShare Finset.univ (mix2 (t + 1) (inBuf V) O) -∗ WP c (kt ⟨⟩) Φ)
        -∗ WP c (.op (.store M (Rect.unit (s := S512x4096) off (T2 4096).size inb) v Finset.univ hx hm) kt) Φ) := by
  subst ho
  refine st (s := S512x4096) (size := (T2 4096).size) (inb := inb) Finset.univ _ _ (fun i hi => Finset.mem_univ i) (fun j => ?_) (fun i hi hn => ?_)
  · have h1 : ((Rect.unit (s := S512x4096) ![128 * t, 0] (T2 4096).size inb).emb j 0).val = 128 * t + (j 0).val := rect_emb (inb := inb) j 0
    have h2 : ((Rect.unit (s := S512x4096) ![128 * t, 0] (T2 4096).size inb).emb j 1).val = 0 + (j 1).val := rect_emb (inb := inb) j 1
    have hj : (j 0).val < 128 := (j 0).isLt
    unfold mix2
    rw [if_pos (by omega)]
    show V _ _ = _
    rw [h1, h2, Nat.zero_add]; exact hv j
  · have hn' : ¬(128 * t ≤ (i 0).val ∧ (i 0).val < 128 * t + 128) := by
      intro h1
      apply hn
      have h2 : (i 1).val < 4096 := (i 1).isLt
      intro a
      fin_cases a
      · simpa using h1
      · simpa using h2
    unfold mix2
    by_cases h : (i 0).val < 128 * t
    · rw [if_pos h, if_pos (by omega)]
    · rw [if_neg h, if_neg (by omega)]

end Rules

end Cert.KernelIdealProof

end
-- ==== Proof.Loops.lean ====
/-
# The counted loops

Each loop runs over the four 128-row tiles of a chunk: the partial products, the additions of the reduce-scatter, its last
step with the running maximum, the quantiser and the dequantiser. A rule for one direction's half of a trip, then one for the
trip, then one for the loop.
-/
module

public import proofs.«01_k».proof.Proof.Tiles

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The payloads, entry by entry -/

theorem cons_succ {w : ℕ} (j : (T3 w).Idx) : (Fin.cons ⟨0, Nat.one_pos⟩ (fun i : Fin 2 => j i.succ) : (T3 w).Idx) = j := by
  funext i
  refine Fin.cases ?_ (fun i => rfl) i
  exact Fin.ext (by have : (j 0).val < 1 := (j 0).isLt; show 0 = (j 0).val; omega)

/-- A computation by entries on tiles, moved to the shape of a slot's tile, is one on each entry. -/
theorem entry {α β γ : Type} {w : ℕ} (T : ((T2 w).Idx → α) → ((T2 w).Idx → β) → (T2 w).Idx → γ)
    (hT : ∀ u u' v v' i i', u i = u' i' → v i = v' i' → T u v i = T u' v' i') (a : (T3 w).Idx → α) (b : (T2 w).Idx → β)
    (h₁ : (T3 w).ShapeCasts (T2 w)) (h₂ : (T2 w).ShapeCasts (T3 w)) (j z : (T3 w).Idx) :
    shapeCast (T3 w) (T (shapeCast (T2 w) a h₁) b) h₂ j
      = shapeCast (T3 w) (T (shapeCast (T2 w) (fun _ => a j) h₁) fun _ => b fun i => j i.succ) h₂ z := by
  refine (shapeCast_addUnit_apply ![128, w] _ h₂ j).trans (Eq.trans ?_ (shapeCast_addUnit_apply ![128, w] _ h₂ z).symm)
  refine hT _ _ _ _ _ _ ?_ rfl
  exact (shapeCast_dropUnit_apply ![128, w] a h₁ _).trans ((congrArg a (cons_succ j)).trans (shapeCast_dropUnit_apply ![128, w] (fun _ => a j) h₁ _).symm)

theorem addE_eq (a : Vec F S1x128x2048 .bf16) (b : Vec F S128x2048 .bf16) (j : S1x128x2048.Idx) :
    k0_pay22 a b j = addE (a j) (b fun i => j i.succ) :=
  entry (w := 2048) (fun u v => truncf .bf16 (addf (extf .f32 u bitsLt_bf16_f32) (extf .f32 v bitsLt_bf16_f32)) bitsLt_bf16_f32)
    (fun u u' v v' i i' h h' => by simp only [truncf, addf, extf, h, h']) a b _ _ j _

theorem gemm_eq (a : Vec F S128x512 .bf16) (b : Vec F S512x4096 .bf16) (j : S1x128x4096.Idx) :
    k0_pay18 a b j = k0_pay20 a b fun i => j i.succ :=
  shapeCast_addUnit_apply ![128, 4096] (k0_pay20 a b) _ j

/-- The quantiser before its conversion to integers, on a tile. -/
def qT (inv : F .f32) (u : FVec F S128x4096 .bf16) : FVec F S128x4096 .f32 :=
  minimumf (broadcast S128x4096 (Scalar.ofBits .f32 0x42FE0000#32 : F .f32)) (maximumf (broadcast S128x4096 (Scalar.ofBits .f32 0x00000000#32 : F .f32))
    (roundeven (mulf (maximumf (extf .f32 u bitsLt_bf16_f32) (broadcast S128x4096 (Scalar.ofBits .f32 0x00000000#32 : F .f32))) (broadcast S128x4096 inv))))

theorem qT_at (inv : F .f32) (u u' : FVec F S128x4096 .bf16) (i i' : S128x4096.Idx) (h : u i = u' i') : qT inv u i = qT inv u' i' := by
  simp only [qT, minimumf, maximumf, roundeven, mulf, broadcast, extf, h]

/-- The quantiser, entry by entry. -/
theorem quant_eq (inv : F .f32) (v : Vec F S1x128x4096 .bf16) (j : S1x128x4096.Idx) : k0_pay14 inv v j = k0_pay14 inv (fun _ => v j) z3 :=
  entry (w := 4096) (β := Unit) (fun u _ => fptosi 8 (qT inv u)) (fun u u' w w' i i' h h' => by
    simp only [fptosi, qT_at inv u u' i i' h]) v (fun _ => ()) shapeCasts_S1x128x4096_S128x4096 shapeCasts_S128x4096_S1x128x4096 j z3

theorem own_eq (sc inv : F .f32) (v : Vec F S1x128x4096 .bf16) (j : S1x128x4096.Idx) : k0_pay15 sc inv v j = k0_pay15 sc inv (fun _ => v j) z3 :=
  entry (w := 4096) (β := Unit) (fun u _ => truncf .bf16 (mulf (qT inv u) (broadcast S128x4096 sc)) bitsLt_bf16_f32) (fun u u' w w' i i' h h' => by
    simp only [truncf, mulf, broadcast, qT_at inv u u' i i' h]) v (fun _ => ()) shapeCasts_S1x128x4096_S128x4096 shapeCasts_S128x4096_S1x128x4096 j z3

theorem deq_eq (sc : F .f32) (v : Vec F S1x128x4096 .i8) (j : S1x128x4096.Idx) : k0_pay67 sc v j = k0_pay67 sc (fun _ => v j) z3 :=
  entry (w := 4096) (β := Unit) (fun u _ => truncf .bf16 (mulf (sitofp (F := F) .f32 u) (broadcast S128x4096 sc)) bitsLt_bf16_f32) (fun u u' w w' i i' h h' => by
    simp only [truncf, sitofp, mulf, broadcast, h]) v (fun _ => ()) shapeCasts_S1x128x4096_S128x4096 shapeCasts_S128x4096_S1x128x4096 j z3

/-! ## Half trips -/

section Trips
variable (X : Dev nD → S4096x512.Idx → Elt F .bf16) (W : Dev nD → S512x8192.Idx → Elt F .bf16) {c : Dev nD}

/-- A load of 128 rows of the left input. -/
theorem ldx {α : Type} {off : Fin 2 → ℕ} {inb : ∀ a, off a + S128x512.size a ≤ S4096x512.size a}
    {hl : xM.view.LoadsAt (Rect.unit (s := S4096x512) off S128x512.size inb).toLoadRect}
    {kt : (S128x512.Idx → Elt F .bf16) → Prog (TpuEff nD τ sig (Elt F) Λ₀ .tc) α} {Φ : α → sProp 𝕄}
    (r0 : ℕ) (ho : off = ![r0, 0]) (q : PosShare TreeShare) (x : S4096x512.Idx → Elt F .bf16) :
    (held (c : Thread nD τ) xM q Finset.univ x : sProp 𝕄)
      ⊢ iprop((held (c : Thread nD τ) xM q Finset.univ x -∗ WP c (kt (xTile x r0)) Φ)
        -∗ WP c (.op (.load xM (Rect.unit (s := S4096x512) off S128x512.size inb).toLoadRect hl) kt) Φ) := by
  subst ho
  refine ld (s := S4096x512) (size := S128x512.size) (inb := inb) Finset.univ q x (xTile x r0) (fun i _ => Finset.mem_univ i) (fun j => ?_)
  refine congrArg x (ixN_eq (s := S4096x512) _ _ _ fun a => ?_).symm
  refine Eq.trans ?_ (rect_emb (inb := inb) j a).symm
  fin_cases a
  · rfl
  · exact (Nat.zero_add _).symm

/-- A load of 4096 columns of the right input. -/
theorem ldw {α : Type} {off : Fin 2 → ℕ} {inb : ∀ a, off a + S512x4096.size a ≤ S512x8192.size a}
    {hl : wM.view.LoadsAt (Rect.unit (s := S512x8192) off S512x4096.size inb).toLoadRect}
    {kt : (S512x4096.Idx → Elt F .bf16) → Prog (TpuEff nD τ sig (Elt F) Λ₀ .tc) α} {Φ : α → sProp 𝕄}
    (c0 : ℕ) (ho : off = ![0, c0]) (q : PosShare TreeShare) (w : S512x8192.Idx → Elt F .bf16) :
    (held (c : Thread nD τ) wM q Finset.univ w : sProp 𝕄)
      ⊢ iprop((held (c : Thread nD τ) wM q Finset.univ w -∗ WP c (kt (wTile w c0)) Φ)
        -∗ WP c (.op (.load wM (Rect.unit (s := S512x8192) off S512x4096.size inb).toLoadRect hl) kt) Φ) := by
  subst ho
  refine ld (s := S512x8192) (size := S512x4096.size) (inb := inb) Finset.univ q w (wTile w c0) (fun i _ => Finset.mem_univ i) (fun j => ?_)
  refine congrArg w (ixN_eq (s := S512x8192) _ _ _ fun a => ?_).symm
  refine Eq.trans ?_ (rect_emb (inb := inb) j a).symm
  fin_cases a
  · exact (Nat.zero_add _).symm
  · rfl

theorem gemmV_tile (x : S4096x512.Idx → Elt F .bf16) (w : S512x8192.Idx → Elt F .bf16) (r0 c0 t : ℕ) (j : S128x4096.Idx) :
    gemmV x w r0 c0 (128 * t + (j 0).val) (j 1).val = k0_pay20 (xTile x (r0 + 128 * t)) (wTile w c0) j := by
  have hj : (j 0).val < 128 := (j 0).isLt
  unfold gemmV
  rw [show (128 * t + (j 0).val) / 128 * 128 = 128 * t by omega, ixN_eq (s := S128x4096) _ _ j]
  intro a
  fin_cases a
  · show (128 * t + (j 0).val) % 128 = (j 0).val; omega
  · rfl

/-- The step-`n` partial product of direction `d`: one tile into the partial-product buffer. -/
theorem gemm_half {α : Type} {kt : PUnit → Prog (TpuEff nD τ sig (Elt F) Λ₀ .tc) α} {Φ : α → sProp 𝕄} (d : Bool) (n t : ℕ)
    {ox ow o : Fin 2 → ℕ} {ix iw i hlx hlw hl hx hm} {pf : Vec F S128x512 .bf16 → Vec F S512x4096 .bf16 → S128x4096.Idx → Elt F .bf16}
    (hox : ox = ![512 * chunk d n c + 128 * t, 0]) (how : ow = ![0, half d]) (ho : o = ![128 * t, 0]) (hpf : pf = k0_pay20 (F := F))
    (O : S512x4096.Idx → Elt F .bf16) :
    iprop(held (c : Thread nD τ) xM fullShare Finset.univ (X c) ∗ held (c : Thread nD τ) wM fullShare Finset.univ (W c)
        ∗ held (c : Thread nD τ) (pbM d) fullShare Finset.univ (mix2 t (inBuf (pgV X W d n c)) O))
      ⊢ iprop((iprop(held (c : Thread nD τ) xM fullShare Finset.univ (X c) ∗ held (c : Thread nD τ) wM fullShare Finset.univ (W c)
        ∗ held (c : Thread nD τ) (pbM d) fullShare Finset.univ (mix2 (t + 1) (inBuf (pgV X W d n c)) O)) -∗ WP c (kt ⟨⟩) Φ)
        -∗ WP c (.op (.load xM (Rect.unit (s := S4096x512) ox S128x512.size ix).toLoadRect hlx) fun a =>
            .op (.load wM (Rect.unit (s := S512x8192) ow S512x4096.size iw).toLoadRect hlw) fun b =>
            .op (.load (pbM d) (Rect.unit (s := S512x4096) o S128x4096.size i).toLoadRect hl) fun _ =>
            .op (.store (pbM d) (Rect.unit (s := S512x4096) o S128x4096.size i) (pf a b) Finset.univ hx hm) kt) Φ) := by
  subst hpf
  iintro ⟨Hx, Hw, Hp⟩ Hk
  iapply (ldx _ hox fullShare (X c)) $$ Hx
  iintro Hx
  iapply (ldw _ how fullShare (W c)) $$ Hw
  iintro Hw
  iapply (ld_any Finset.univ fullShare _ (fun i _ => Finset.mem_univ i)) $$ Hp
  iintro Hp
  iapply (st2 t ho (pgV X W d n c) O (gemmV_tile _ _ _ _ t)) $$ Hp
  iintro Hp
  iapply Hk
  isplitl [Hx]; · iexact Hx
  isplitl [Hw]; · iexact Hw
  iexact Hp

/-- The step-0 partial product of direction `d`: one tile into slot 0. -/
theorem gemm0_half {α : Type} {kt : PUnit → Prog (TpuEff nD τ sig (Elt F) Λ₀ .tc) α} {Φ : α → sProp 𝕄} (d : Bool) (t : ℕ)
    {ox ow : Fin 2 → ℕ} {o : Fin 3 → ℕ} {ix iw i hlx hlw hx hm} {pf : Vec F S128x512 .bf16 → Vec F S512x4096 .bf16 → S1x128x4096.Idx → Elt F .bf16} {v : Memref sig .tc .vmem S512x4096 .bf16} {φ : S512x4096.Idx → S2x512x4096.Idx}
    (hv : Vw (F := F) (commM d) (reg 0 0 4096) v φ) {r : LoadRect S512x4096} {hl : v.view.LoadsAt r} {o' sz' i'} (hr : r = (Rect.unit o' sz' i').toLoadRect)
    (hox : ox = ![512 * chunk d 0 c + 128 * t, 0]) (how : ow = ![0, half d]) (ho : o = ![0, 128 * t, 0]) (hpf : ∀ a b, pf a b = k0_pay18 (F := F) a b)
    (O : S2x512x4096.Idx → Elt F .bf16) :
    iprop(held (c : Thread nD τ) xM fullShare Finset.univ (X c) ∗ held (c : Thread nD τ) wM fullShare Finset.univ (W c)
        ∗ held (c : Thread nD τ) (commM d) fullShare (reg 0 0 4096) (mix3 t (inSlot (pgV X W d 0 c)) O))
      ⊢ iprop((iprop(held (c : Thread nD τ) xM fullShare Finset.univ (X c) ∗ held (c : Thread nD τ) wM fullShare Finset.univ (W c)
        ∗ held (c : Thread nD τ) (commM d) fullShare (reg 0 0 4096) (mix3 (t + 1) (inSlot (pgV X W d 0 c)) O)) -∗ WP c (kt ⟨⟩) Φ)
        -∗ WP c (.op (.load xM (Rect.unit (s := S4096x512) ox S128x512.size ix).toLoadRect hlx) fun a =>
            .op (.load wM (Rect.unit (s := S512x8192) ow S512x4096.size iw).toLoadRect hlw) fun b =>
            .op (.load v r hl) fun _ =>
            .op (.store (commM d) (Rect.unit (s := S2x512x4096) o S1x128x4096.size i) (pf a b) Finset.univ hx hm) kt) Φ) := by
  subst hr
  iintro ⟨Hx, Hw, Hp⟩ Hk
  iapply (ldx _ hox fullShare (X c)) $$ Hx
  iintro Hx
  iapply (ldw _ how fullShare (W c)) $$ Hw
  iintro Hw
  ihave Hp := (Entails.of_eq (hv c fullShare _)) $$ Hp
  iapply (ld_any Finset.univ fullShare _ (fun i _ => Finset.mem_univ i)) $$ Hp
  iintro Hp
  ihave Hp := (Entails.of_eq (hv c fullShare _).symm) $$ Hp
  iapply (st3 (w := 4096) 0 t 0 ho (pgV X W d 0 c) O (fun j => by
    rw [hpf, gemm_eq, Nat.zero_add]
    exact gemmV_tile (X c) (W c) (512 * chunk d 0 c) (half d) t fun i => j i.succ)) $$ Hp
  iintro Hp
  iapply Hk
  isplitl [Hx]; · iexact Hx
  isplitl [Hw]; · iexact Hw
  iexact Hp

/-- One tile of the sum of direction `d` after step `s` of the reduce-scatter. -/
theorem add_half {α : Type} {kt : PUnit → Prog (TpuEff nD τ sig (Elt F) Λ₀ .tc) α} {Φ : α → sProp 𝕄} (d : Bool) (s q t : ℕ)
    {o : Fin 3 → ℕ} {o' : Fin 2 → ℕ} {i i' hl hl' hl'' hx hm} {pf : Vec F S1x128x2048 .bf16 → Vec F S128x2048 .bf16 → S1x128x2048.Idx → Elt F .bf16}
    (ho : o = ![(s + 1) % 2, 128 * t, 2048 * q]) (ho' : o' = ![128 * t, 2048 * q]) (hpf : ∀ a b, pf a b = k0_pay22 (F := F) a b) :
    iprop(held (c : Thread nD τ) (commM d) fullShare (piece (s + 1) q) (mix3 t (inSlot (rsV X W d (s + 1) c)) (inSlot (rsV X W d s (src d c))))
        ∗ held (c : Thread nD τ) (pbM d) fullShare Finset.univ (inBuf (pgV X W d (s + 1) c)))
      ⊢ iprop((iprop(held (c : Thread nD τ) (commM d) fullShare (piece (s + 1) q) (mix3 (t + 1) (inSlot (rsV X W d (s + 1) c)) (inSlot (rsV X W d s (src d c))))
        ∗ held (c : Thread nD τ) (pbM d) fullShare Finset.univ (inBuf (pgV X W d (s + 1) c))) -∗ WP c (kt ⟨⟩) Φ)
        -∗ WP c (.op (.load (commM d) (Rect.unit (s := S2x512x4096) o S1x128x2048.size i).toLoadRect hl) fun a =>
            .op (.load (pbM d) (Rect.unit (s := S512x4096) o' S128x2048.size i').toLoadRect hl') fun b =>
            .op (.load (commM d) (Rect.unit (s := S2x512x4096) o S1x128x2048.size i).toLoadRect hl'') fun _ =>
            .op (.store (commM d) (Rect.unit (s := S2x512x4096) o S1x128x2048.size i) (pf a b) Finset.univ hx hm) kt) Φ) := by
  rw [piece_reg]
  iintro ⟨Hc, Hp⟩ Hk
  iapply (ld3 (w := 2048) ((s + 1) % 2) t (2048 * q) (2048 * q) 2048 ho ⟨le_rfl, le_rfl⟩ fullShare (mix3 t (inSlot (rsV X W d (s + 1) c)) (inSlot (rsV X W d s (src d c)))) (rsV X W d s (src d c)) (fun i h1 h2 => if_neg (by omega))) $$ Hc
  iintro Hc
  iapply (ld2 (w := 2048) t _ ho' fullShare (pgV X W d (s + 1) c)) $$ Hp
  iintro Hp
  iapply (ld3 (w := 2048) ((s + 1) % 2) t (2048 * q) (2048 * q) 2048 ho ⟨le_rfl, le_rfl⟩ fullShare (mix3 t (inSlot (rsV X W d (s + 1) c)) (inSlot (rsV X W d s (src d c)))) (rsV X W d s (src d c)) (fun i h1 h2 => if_neg (by omega))) $$ Hc
  iintro Hc
  iapply (st3 (w := 2048) _ t _ ho (rsV X W d (s + 1) c) _ (fun j => by rw [hpf, addE_eq]; rfl)) $$ Hc
  iintro Hc
  iapply Hk
  isplitl [Hc]; · iexact Hc
  iexact Hp

/-- One tile of the last sum of direction `d`, from slot 1 into slot 0. -/
theorem last_half {α : Type} {Φ : α → sProp 𝕄} (d : Bool) (q t : ℕ)
    {o o₁ : Fin 3 → ℕ} {o' : Fin 2 → ℕ} {i i₁ i' hl hl' hl'' hx hm} {pf : Vec F S1x128x2048 .bf16 → Vec F S128x2048 .bf16 → S1x128x2048.Idx → Elt F .bf16}
    {kt : Vec F S1x128x2048 .bf16 → Vec F S128x2048 .bf16 → PUnit → Prog (TpuEff nD τ sig (Elt F) Λ₀ .tc) α}
    (ho : o = ![1, 128 * t, 2048 * q]) (ho' : o' = ![128 * t, 2048 * q]) (ho₁ : o₁ = ![0, 128 * t, 2048 * q]) (hpf : ∀ a b, pf a b = k0_pay22 (F := F) a b)
    (O : S2x512x4096.Idx → Elt F .bf16) :
    iprop(held (c : Thread nD τ) (commM d) fullShare (piece 7 q) (inSlot (rsV X W d 6 (src d c)))
        ∗ held (c : Thread nD τ) (commM d) fullShare (piece 0 q) (mix3 t (inSlot (rsV X W d 7 c)) O)
        ∗ held (c : Thread nD τ) (pbM d) fullShare Finset.univ (inBuf (pgV X W d 7 c)))
      ⊢ iprop((iprop(held (c : Thread nD τ) (commM d) fullShare (piece 7 q) (inSlot (rsV X W d 6 (src d c)))
        ∗ held (c : Thread nD τ) (commM d) fullShare (piece 0 q) (mix3 (t + 1) (inSlot (rsV X W d 7 c)) O)
        ∗ held (c : Thread nD τ) (pbM d) fullShare Finset.univ (inBuf (pgV X W d 7 c)))
          -∗ WP c (kt (tileA (rsV X W d 6 (src d c)) t q) (tileB (pgV X W d 7 c) t q) ⟨⟩) Φ)
        -∗ WP c (.op (.load (commM d) (Rect.unit (s := S2x512x4096) o S1x128x2048.size i).toLoadRect hl) fun a =>
            .op (.load (pbM d) (Rect.unit (s := S512x4096) o' S128x2048.size i').toLoadRect hl') fun b =>
            .op (.load (commM d) (Rect.unit (s := S2x512x4096) o₁ S1x128x2048.size i₁).toLoadRect hl'') fun _ =>
            .op (.store (commM d) (Rect.unit (s := S2x512x4096) o₁ S1x128x2048.size i₁) (pf a b) Finset.univ hx hm) (kt a b)) Φ) := by
  rw [piece_reg, piece_reg]
  iintro ⟨Hc, Hz, Hp⟩ Hk
  iapply (ld3 (w := 2048) (7 % 2) t (2048 * q) (2048 * q) 2048 ho ⟨le_rfl, le_rfl⟩ fullShare (inSlot (rsV X W d 6 (src d c))) (rsV X W d 6 (src d c)) (fun i h1 h2 => rfl)) $$ Hc
  iintro Hc
  iapply (ld2 (w := 2048) t _ ho' fullShare (pgV X W d 7 c)) $$ Hp
  iintro Hp
  iapply (ld_any (s := S2x512x4096) (size := S1x128x2048.size) (reg (0 % 2) (2048 * q) 2048) fullShare _ (fun k hk => mem_reg.mpr (by
    subst ho₁
    have h0 : 0 ≤ (k 0).val ∧ (k 0).val < 0 + 1 := hk 0
    have h2 : 2048 * q ≤ (k 2).val ∧ (k 2).val < 2048 * q + 2048 := hk 2
    omega))) $$ Hz
  iintro Hz
  iapply (st3 (w := 2048) _ t _ ho₁ (rsV X W d 7 c) O (fun j => by rw [hpf, addE_eq]; rfl)) $$ Hz
  iintro Hz
  iapply Hk
  isplitl [Hc]; · iexact Hc
  isplitl [Hz]; · iexact Hz
  iexact Hp

/-- One tile of the quantised chunk of direction `d`, and of the output computed from it. -/
theorem quant_half {α : Type} {kt : PUnit → Prog (TpuEff nD τ sig (Elt F) Λ₀ .tc) α} {Φ : α → sProp 𝕄} (d : Bool) (t : ℕ)
    {o : Fin 3 → ℕ} {i hl hl' hl'' hx hm hx' hm'} {pq : Vec F S1x128x4096 .bf16 → S1x128x4096.Idx → Elt F .i8} {po : Vec F S1x128x4096 .bf16 → S1x128x4096.Idx → Elt F .bf16}
    (ho : o = ![0, 128 * t, 0]) (hpq : ∀ v, pq v = k0_pay14 (invV X W) v) (hpo : ∀ v, po v = k0_pay15 (scV X W) (invV X W) v)
    (O : S2x512x4096.Idx → Elt F .i8) :
    iprop(held (c : Thread nD τ) (commM d) fullShare (slot 0) (mix3 t (inSlot (ownOutV X W d c)) (inSlot (rsV X W d 7 c)))
        ∗ held (c : Thread nD τ) (qcM d) fullShare (slot 0) (mix3 t (inSlot (qV X W d c)) O))
      ⊢ iprop((iprop(held (c : Thread nD τ) (commM d) fullShare (slot 0) (mix3 (t + 1) (inSlot (ownOutV X W d c)) (inSlot (rsV X W d 7 c)))
        ∗ held (c : Thread nD τ) (qcM d) fullShare (slot 0) (mix3 (t + 1) (inSlot (qV X W d c)) O)) -∗ WP c (kt ⟨⟩) Φ)
        -∗ WP c (.op (.load (commM d) (Rect.unit (s := S2x512x4096) o S1x128x4096.size i).toLoadRect hl) fun a =>
            .op (.load (qcM d) (Rect.unit (s := S2x512x4096) o S1x128x4096.size i).toLoadRect hl') fun _ =>
            .op (.store (qcM d) (Rect.unit (s := S2x512x4096) o S1x128x4096.size i) (pq a) Finset.univ hx hm) fun _ =>
            .op (.load (commM d) (Rect.unit (s := S2x512x4096) o S1x128x4096.size i).toLoadRect hl'') fun _ =>
            .op (.store (commM d) (Rect.unit (s := S2x512x4096) o S1x128x4096.size i) (po a) Finset.univ hx' hm') kt) Φ) := by
  rw [slot_reg]
  iintro ⟨Hc, Hq⟩ Hk
  have hin : ∀ k : S2x512x4096.Idx, (∀ a, o a ≤ (k a).val ∧ (k a).val < o a + S1x128x4096.size a) → k ∈ reg (0 % 2) 0 4096 := fun k hk => mem_reg.mpr (by
    subst ho
    have h0 : 0 ≤ (k 0).val ∧ (k 0).val < 0 + 1 := hk 0
    have h2 : 0 ≤ (k 2).val ∧ (k 2).val < 0 + 4096 := hk 2
    omega)
  iapply (ld3 (w := 4096) (0 % 2) t 0 0 4096 ho ⟨le_rfl, le_rfl⟩ fullShare (mix3 t (inSlot (ownOutV X W d c)) (inSlot (rsV X W d 7 c))) (rsV X W d 7 c) (fun i h1 h2 => if_neg (by omega))) $$ Hc
  iintro Hc
  iapply (ld_any (s := S2x512x4096) (size := S1x128x4096.size) (reg (0 % 2) 0 4096) fullShare _ hin) $$ Hq
  iintro Hq
  iapply (st3 (w := 4096) _ t _ ho (qV X W d c) O (fun j => by rw [hpq, quant_eq]; rfl)) $$ Hq
  iintro Hq
  iapply (ld_any (s := S2x512x4096) (size := S1x128x4096.size) (reg (0 % 2) 0 4096) fullShare _ hin) $$ Hc
  iintro Hc
  iapply (st3 (w := 4096) _ t _ ho (ownOutV X W d c) _ (fun j => by rw [hpo, own_eq]; rfl)) $$ Hc
  iintro Hc
  iapply Hk
  isplitl [Hc]; · iexact Hc
  iexact Hq

/-- One tile of the output computed from the quantised chunk received at step `s` of the all-gather. -/
theorem deq_half {α : Type} {kt : PUnit → Prog (TpuEff nD τ sig (Elt F) Λ₀ .tc) α} {Φ : α → sProp 𝕄} (d : Bool) (s t : ℕ) (j : Dev nD)
    {o : Fin 3 → ℕ} {i hl hl' hx hm} {pf : Vec F S1x128x4096 .i8 → S1x128x4096.Idx → Elt F .bf16} (q : PosShare TreeShare)
    (ho : o = ![s % 2, 128 * t, 0]) (hpf : ∀ v, pf v = k0_pay67 (scV X W) v)
    (O : S2x512x4096.Idx → Elt F .bf16) :
    iprop(held (c : Thread nD τ) (qcM d) q (slot s) (inSlot (qV X W d j))
        ∗ held (c : Thread nD τ) (commM d) fullShare (slot s) (mix3 t (inSlot (deqV X W d j)) O))
      ⊢ iprop((iprop(held (c : Thread nD τ) (qcM d) q (slot s) (inSlot (qV X W d j))
        ∗ held (c : Thread nD τ) (commM d) fullShare (slot s) (mix3 (t + 1) (inSlot (deqV X W d j)) O)) -∗ WP c (kt ⟨⟩) Φ)
        -∗ WP c (.op (.load (qcM d) (Rect.unit (s := S2x512x4096) o S1x128x4096.size i).toLoadRect hl) fun a =>
            .op (.load (commM d) (Rect.unit (s := S2x512x4096) o S1x128x4096.size i).toLoadRect hl') fun _ =>
            .op (.store (commM d) (Rect.unit (s := S2x512x4096) o S1x128x4096.size i) (pf a) Finset.univ hx hm) kt) Φ) := by
  rw [slot_reg]
  iintro ⟨Hq, Hc⟩ Hk
  iapply (ld3 (w := 4096) (s % 2) t 0 0 4096 ho ⟨le_rfl, le_rfl⟩ q (inSlot (qV X W d j)) (qV X W d j) (fun i h1 h2 => rfl)) $$ Hq
  iintro Hq
  iapply (ld_any (s := S2x512x4096) (size := S1x128x4096.size) (reg (s % 2) 0 4096) fullShare _ (fun k hk => mem_reg.mpr (by
    subst ho
    have h0 : s % 2 ≤ (k 0).val ∧ (k 0).val < s % 2 + 1 := hk 0
    have h2 : 0 ≤ (k 2).val ∧ (k 2).val < 0 + 4096 := hk 2
    omega))) $$ Hc
  iintro Hc
  iapply (st3 (w := 4096) _ t _ ho (deqV X W d j) _ (fun j' => by rw [hpf, deq_eq]; rfl)) $$ Hc
  iintro Hc
  iapply Hk
  isplitl [Hq]; · iexact Hq
  iexact Hc

end Trips

end Cert.KernelIdealProof

end
-- ==== Proof.Sweeps.lean ====
/-
# The counted loops, whole

A rule for a loop of four trips, and one for each kind of loop: its trip is two half trips, one per direction.
-/
module

public import proofs.«01_k».proof.Proof.Loops

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- A loop of four trips at the head of a program. -/
theorem loop4 {c : Dev nD} {σ α : Type} {lb ub st : BitVec 32} {hok : Scf.OK lb ub st} {init : σ}
    {body : Fin (Scf.trips lb ub st) → σ → Prog (TpuEff nD τ sig (Elt F) Λ₀ .tc) σ} {kk : σ → Prog (TpuEff nD τ sig (Elt F) Λ₀ .tc) α} {Φ : α → sProp 𝕄}
    (I : ℕ → σ → sProp 𝕄) (h4 : Scf.trips lb ub st = 4) (hbody : ∀ (k : Fin (Scf.trips lb ub st)) acc, I k.val acc ⊢ WP c (body k acc) (I (k.val + 1))) :
    I 0 init ⊢ iprop((∀ acc, I 4 acc -∗ WP c (kk acc) Φ) -∗ WP c (Scf.for lb ub st hok init body >>= kk) Φ) := by
  have h := Scf.wp_for_bind (M := 𝕄) frame (wpE (defs₀ (F := F)) 𝒱₀ (c : Thread nD τ) none) Set.univ lb ub st hok init body I hbody (kk := kk) (Q := Φ)
  rw [h4] at h
  exact h

/-- The end of a trip. -/
theorem ret {c : Dev nD} {α : Type} (a : α) (Φ : α → sProp 𝕄) : Φ a ⊢ WP c (Prog.ret a) Φ := by
  unfold WP
  rw [wp_ret]
  iintro H
  imodintro
  iexact H

/-- A trip of two halves, each with its own memory. -/
theorem trip {c : Dev nD} {α : Type} {e k : Prog (TpuEff nD τ sig (Elt F) Λ₀ .tc) α} {a : α} {Φ : α → sProp 𝕄} {P₀ Q₀ P₁ Q₁ : sProp 𝕄} (h₀ : ∀ Φ : α → sProp 𝕄, P₀ ⊢ iprop((Q₀ -∗ WP c k Φ) -∗ WP c e Φ))
    (h₁ : ∀ Φ : α → sProp 𝕄, P₁ ⊢ iprop((Q₁ -∗ WP c (Prog.ret a) Φ) -∗ WP c k Φ)) (h : iprop(Q₀ ∗ Q₁) ⊢ Φ a) :
    iprop(P₀ ∗ P₁) ⊢ WP c e Φ := by
  iintro ⟨H0, H1⟩
  iapply (h₀ Φ) $$ H0
  iintro H0
  iapply (h₁ Φ) $$ H1
  iintro H1
  iapply (ret a Φ)
  iapply h
  isplitl [H0]; · iexact H0
  iexact H1

/-- A trip of two halves that share some memory. -/
theorem trip_shared {c : Dev nD} {α : Type} {e k : Prog (TpuEff nD τ sig (Elt F) Λ₀ .tc) α} {a : α} {Φ : α → sProp 𝕄} {S T P₀ Q₀ P₁ Q₁ : sProp 𝕄} (h₀ : ∀ Φ : α → sProp 𝕄, iprop(S ∗ T ∗ P₀) ⊢ iprop((iprop(S ∗ T ∗ Q₀) -∗ WP c k Φ) -∗ WP c e Φ))
    (h₁ : ∀ Φ : α → sProp 𝕄, iprop(S ∗ T ∗ P₁) ⊢ iprop((iprop(S ∗ T ∗ Q₁) -∗ WP c (Prog.ret a) Φ) -∗ WP c k Φ))
    (h : iprop(S ∗ T ∗ Q₀ ∗ Q₁) ⊢ Φ a) : iprop(S ∗ T ∗ P₀ ∗ P₁) ⊢ WP c e Φ := by
  iintro ⟨HS, HT, H0, H1⟩
  iapply (h₀ Φ) $$ [HS HT H0]
  · isplitl [HS]; · iexact HS
    isplitl [HT]; · iexact HT
    iexact H0
  iintro ⟨HS, HT, H0⟩
  iapply (h₁ Φ) $$ [HS HT H1]
  · isplitl [HS]; · iexact HS
    isplitl [HT]; · iexact HT
    iexact H1
  iintro ⟨HS, HT, H1⟩
  iapply (ret a Φ)
  iapply h
  isplitl [HS]; · iexact HS
  isplitl [HT]; · iexact HT
  isplitl [H0]; · iexact H0
  iexact H1

section Loops
variable (X : Dev nD → S4096x512.Idx → Elt F .bf16) (W : Dev nD → S512x8192.Idx → Elt F .bf16) {c : Dev nD}

/-- A buffer of direction `d`, `t` tiles of it at `V` and the rest at `O`. -/
abbrev pbAt (c : Dev nD) (V : Bool → ℕ → ℕ → Elt F .bf16) (O : Bool → S512x4096.Idx → Elt F .bf16) (d : Bool) (t : ℕ) : sProp 𝕄 :=
  held (c : Thread nD τ) (pbM d) fullShare Finset.univ (mix2 t (inBuf (V d)) (O d))
/-- A region of the slots of direction `d`, `t` tiles of it at `V` and the rest at `O`. -/
abbrev cmAt (c : Dev nD) (R : Finset S2x512x4096.Idx) (V : Bool → ℕ → ℕ → Elt F .bf16) (O : Bool → S2x512x4096.Idx → Elt F .bf16) (d : Bool) (t : ℕ) : sProp 𝕄 :=
  held (c : Thread nD τ) (commM d) fullShare R (mix3 t (inSlot (V d)) (O d))
abbrev qcAt (c : Dev nD) (R : Finset S2x512x4096.Idx) (V : Bool → ℕ → ℕ → Elt F .i8) (O : Bool → S2x512x4096.Idx → Elt F .i8) (d : Bool) (t : ℕ) : sProp 𝕄 :=
  held (c : Thread nD τ) (qcM d) fullShare R (mix3 t (inSlot (V d)) (O d))

/-- The loop that computes the step-`n` partial products. -/
theorem gemm_loop {α : Type} {lb ub st : BitVec 32} {hok : Scf.OK lb ub st} {Φ : α → sProp 𝕄} {body : Fin (Scf.trips lb ub st) → Unit → Prog (TpuEff nD τ sig (Elt F) Λ₀ .tc) Unit} {kk : Unit → Prog (TpuEff nD τ sig (Elt F) Λ₀ .tc) α}
    (n : ℕ) (O : Bool → S512x4096.Idx → Elt F .bf16) (h4 : Scf.trips lb ub st = 4)
    (hb : ∀ (k : Fin (Scf.trips lb ub st)) a,
      iprop(held (c : Thread nD τ) xM fullShare Finset.univ (X c) ∗ held (c : Thread nD τ) wM fullShare Finset.univ (W c)
        ∗ pbAt c (fun d => pgV X W d n c) O false k.val ∗ pbAt c (fun d => pgV X W d n c) O true k.val)
      ⊢ WP c (body k a) fun _ => iprop(held (c : Thread nD τ) xM fullShare Finset.univ (X c) ∗ held (c : Thread nD τ) wM fullShare Finset.univ (W c)
        ∗ pbAt c (fun d => pgV X W d n c) O false (k.val + 1) ∗ pbAt c (fun d => pgV X W d n c) O true (k.val + 1))) :
    iprop(held (c : Thread nD τ) xM fullShare Finset.univ (X c) ∗ held (c : Thread nD τ) wM fullShare Finset.univ (W c)
        ∗ held (c : Thread nD τ) (pbM false) fullShare Finset.univ (O false) ∗ held (c : Thread nD τ) (pbM true) fullShare Finset.univ (O true))
      ⊢ iprop((iprop(held (c : Thread nD τ) xM fullShare Finset.univ (X c) ∗ held (c : Thread nD τ) wM fullShare Finset.univ (W c)
        ∗ held (c : Thread nD τ) (pbM false) fullShare Finset.univ (inBuf (pgV X W false n c))
        ∗ held (c : Thread nD τ) (pbM true) fullShare Finset.univ (inBuf (pgV X W true n c))) -∗ WP c (kk ⟨⟩) Φ)
        -∗ WP c (Scf.for lb ub st hok ⟨⟩ body >>= kk) Φ) := by
  have h := loop4 (hok := hok) (kk := kk) (Φ := Φ) (init := ⟨⟩) (fun t (_ : Unit) => iprop(held (c : Thread nD τ) xM fullShare Finset.univ (X c) ∗ held (c : Thread nD τ) wM fullShare Finset.univ (W c)
        ∗ pbAt c (fun d => pgV X W d n c) O false t ∗ pbAt c (fun d => pgV X W d n c) O true t)) h4 hb
  simp only [pbAt, mix2_zero, mix2_four] at h
  refine h.trans ?_
  iintro H Hk
  iapply H
  iintro %a Hi
  iapply Hk
  iexact Hi

/-- The loop that computes the step-0 partial products into slot 0. -/
theorem gemm0_loop {α : Type} {lb ub st : BitVec 32} {hok : Scf.OK lb ub st} {Φ : α → sProp 𝕄} {body : Fin (Scf.trips lb ub st) → Unit → Prog (TpuEff nD τ sig (Elt F) Λ₀ .tc) Unit} {kk : Unit → Prog (TpuEff nD τ sig (Elt F) Λ₀ .tc) α}
    (O : Bool → S2x512x4096.Idx → Elt F .bf16) (h4 : Scf.trips lb ub st = 4)
    (hb : ∀ (k : Fin (Scf.trips lb ub st)) a,
      iprop(held (c : Thread nD τ) xM fullShare Finset.univ (X c) ∗ held (c : Thread nD τ) wM fullShare Finset.univ (W c)
        ∗ cmAt c (reg 0 0 4096) (fun d => pgV X W d 0 c) O false k.val ∗ cmAt c (reg 0 0 4096) (fun d => pgV X W d 0 c) O true k.val)
      ⊢ WP c (body k a) fun _ => iprop(held (c : Thread nD τ) xM fullShare Finset.univ (X c) ∗ held (c : Thread nD τ) wM fullShare Finset.univ (W c)
        ∗ cmAt c (reg 0 0 4096) (fun d => pgV X W d 0 c) O false (k.val + 1) ∗ cmAt c (reg 0 0 4096) (fun d => pgV X W d 0 c) O true (k.val + 1))) :
    iprop(held (c : Thread nD τ) xM fullShare Finset.univ (X c) ∗ held (c : Thread nD τ) wM fullShare Finset.univ (W c)
        ∗ held (c : Thread nD τ) (commM false) fullShare (reg 0 0 4096) (O false) ∗ held (c : Thread nD τ) (commM true) fullShare (reg 0 0 4096) (O true))
      ⊢ iprop((iprop(held (c : Thread nD τ) xM fullShare Finset.univ (X c) ∗ held (c : Thread nD τ) wM fullShare Finset.univ (W c)
        ∗ held (c : Thread nD τ) (commM false) fullShare (reg 0 0 4096) (inSlot (pgV X W false 0 c))
        ∗ held (c : Thread nD τ) (commM true) fullShare (reg 0 0 4096) (inSlot (pgV X W true 0 c))) -∗ WP c (kk ⟨⟩) Φ)
        -∗ WP c (Scf.for lb ub st hok ⟨⟩ body >>= kk) Φ) := by
  have h := loop4 (hok := hok) (kk := kk) (Φ := Φ) (init := ⟨⟩) (fun t (_ : Unit) => iprop(held (c : Thread nD τ) xM fullShare Finset.univ (X c) ∗ held (c : Thread nD τ) wM fullShare Finset.univ (W c)
        ∗ cmAt c (reg 0 0 4096) (fun d => pgV X W d 0 c) O false t ∗ cmAt c (reg 0 0 4096) (fun d => pgV X W d 0 c) O true t)) h4 hb
  simp only [cmAt, mix3_zero, mix3_four] at h
  refine h.trans ?_
  iintro H Hk
  iapply H
  iintro %a Hi
  iapply Hk
  iexact Hi

/-- One direction's memory in the additions after step `s`, half-columns `q`, `t` tiles in. -/
abbrev addAt (c : Dev nD) (s q : ℕ) (d : Bool) (t : ℕ) : sProp 𝕄 :=
  iprop(held (c : Thread nD τ) (commM d) fullShare (piece (s + 1) q) (mix3 t (inSlot (rsV X W d (s + 1) c)) (inSlot (rsV X W d s (src d c))))
    ∗ held (c : Thread nD τ) (pbM d) fullShare Finset.univ (inBuf (pgV X W d (s + 1) c)))

/-- The loop of additions after step `s`. -/
theorem add_loop {α : Type} {lb ub st : BitVec 32} {hok : Scf.OK lb ub st} {Φ : α → sProp 𝕄} {body : Fin (Scf.trips lb ub st) → Unit → Prog (TpuEff nD τ sig (Elt F) Λ₀ .tc) Unit} {kk : Unit → Prog (TpuEff nD τ sig (Elt F) Λ₀ .tc) α}
    (s q : ℕ) (h4 : Scf.trips lb ub st = 4)
    (hb : ∀ (k : Fin (Scf.trips lb ub st)) a, iprop(addAt X W c s q false k.val ∗ addAt X W c s q true k.val)
      ⊢ WP c (body k a) fun _ => iprop(addAt X W c s q false (k.val + 1) ∗ addAt X W c s q true (k.val + 1))) :
    iprop((held (c : Thread nD τ) (commM false) fullShare (piece (s + 1) q) (inSlot (rsV X W false s (src false c)))
        ∗ held (c : Thread nD τ) (pbM false) fullShare Finset.univ (inBuf (pgV X W false (s + 1) c)))
        ∗ (held (c : Thread nD τ) (commM true) fullShare (piece (s + 1) q) (inSlot (rsV X W true s (src true c)))
        ∗ held (c : Thread nD τ) (pbM true) fullShare Finset.univ (inBuf (pgV X W true (s + 1) c))))
      ⊢ iprop((iprop((held (c : Thread nD τ) (commM false) fullShare (piece (s + 1) q) (inSlot (rsV X W false (s + 1) c))
        ∗ held (c : Thread nD τ) (pbM false) fullShare Finset.univ (inBuf (pgV X W false (s + 1) c)))
        ∗ (held (c : Thread nD τ) (commM true) fullShare (piece (s + 1) q) (inSlot (rsV X W true (s + 1) c))
        ∗ held (c : Thread nD τ) (pbM true) fullShare Finset.univ (inBuf (pgV X W true (s + 1) c)))) -∗ WP c (kk ⟨⟩) Φ)
        -∗ WP c (Scf.for lb ub st hok ⟨⟩ body >>= kk) Φ) := by
  have h := loop4 (hok := hok) (kk := kk) (Φ := Φ) (init := ⟨⟩) (fun t (_ : Unit) => iprop(addAt X W c s q false t ∗ addAt X W c s q true t)) h4 hb
  simp only [addAt, mix3_zero, mix3_four] at h
  refine h.trans ?_
  iintro H Hk
  iapply H
  iintro %a Hi
  iapply Hk
  iexact Hi

/-- One direction's memory in the last additions, half-columns `q`, `t` tiles in. -/
abbrev lastAt (c : Dev nD) (O : Bool → S2x512x4096.Idx → Elt F .bf16) (q : ℕ) (d : Bool) (t : ℕ) : sProp 𝕄 :=
  iprop(held (c : Thread nD τ) (commM d) fullShare (piece 7 q) (inSlot (rsV X W d 6 (src d c)))
    ∗ held (c : Thread nD τ) (commM d) fullShare (piece 0 q) (mix3 t (inSlot (rsV X W d 7 c)) (O d))
    ∗ held (c : Thread nD τ) (pbM d) fullShare Finset.univ (inBuf (pgV X W d 7 c)))

/-- The last loop of additions, which carries the running maximum. -/
theorem last_loop {α : Type} {lb ub st : BitVec 32} {hok : Scf.OK lb ub st} {Φ : α → sProp 𝕄} {z : F .f32} {body : Fin (Scf.trips lb ub st) → F .f32 → Prog (TpuEff nD τ sig (Elt F) Λ₀ .tc) (F .f32)} {kk : F .f32 → Prog (TpuEff nD τ sig (Elt F) Λ₀ .tc) α}
    (q : ℕ) (O : Bool → S2x512x4096.Idx → Elt F .bf16) (h4 : Scf.trips lb ub st = 4)
    (hb : ∀ (k : Fin (Scf.trips lb ub st)), iprop(lastAt X W c O q false k.val ∗ lastAt X W c O q true k.val)
      ⊢ WP c (body k (mxs X W c q z k.val)) fun a => iprop(⌜a = mxs X W c q z (k.val + 1)⌝ ∗ lastAt X W c O q false (k.val + 1) ∗ lastAt X W c O q true (k.val + 1))) :
    iprop(lastAt X W c O q false 0 ∗ lastAt X W c O q true 0)
      ⊢ iprop((iprop(lastAt X W c O q false 4 ∗ lastAt X W c O q true 4) -∗ WP c (kk (mxs X W c q z 4)) Φ)
        -∗ WP c (Scf.for lb ub st hok z body >>= kk) Φ) := by
  have h := loop4 (hok := hok) (kk := kk) (Φ := Φ) (init := z) (body := body) (fun t a => iprop(⌜a = mxs X W c q z t⌝ ∗ lastAt X W c O q false t ∗ lastAt X W c O q true t)) h4
    (fun k acc => by
      iintro ⟨%hacc, H⟩
      subst hacc
      iapply (hb k)
      iexact H)
  iintro H Hk
  iapply h $$ [H]
  · isplitr
    · ipureintro; rfl
    iexact H
  iintro %a ⟨%ha, Hi⟩
  subst ha
  iapply Hk
  iexact Hi

/-- One direction's memory in the quantiser's loop, `t` tiles in. -/
abbrev quantAt (c : Dev nD) (O : Bool → S2x512x4096.Idx → Elt F .i8) (d : Bool) (t : ℕ) : sProp 𝕄 :=
  iprop(held (c : Thread nD τ) (commM d) fullShare (slot 0) (mix3 t (inSlot (ownOutV X W d c)) (inSlot (rsV X W d 7 c)))
    ∗ held (c : Thread nD τ) (qcM d) fullShare (slot 0) (mix3 t (inSlot (qV X W d c)) (O d)))

/-- The quantiser's loop. -/
theorem quant_loop {α : Type} {lb ub st : BitVec 32} {hok : Scf.OK lb ub st} {Φ : α → sProp 𝕄} {body : Fin (Scf.trips lb ub st) → Unit → Prog (TpuEff nD τ sig (Elt F) Λ₀ .tc) Unit} {kk : Unit → Prog (TpuEff nD τ sig (Elt F) Λ₀ .tc) α}
    (O : Bool → S2x512x4096.Idx → Elt F .i8) (h4 : Scf.trips lb ub st = 4)
    (hb : ∀ (k : Fin (Scf.trips lb ub st)) a, iprop(quantAt X W c O false k.val ∗ quantAt X W c O true k.val)
      ⊢ WP c (body k a) fun _ => iprop(quantAt X W c O false (k.val + 1) ∗ quantAt X W c O true (k.val + 1))) :
    iprop(quantAt X W c O false 0 ∗ quantAt X W c O true 0)
      ⊢ iprop((iprop(quantAt X W c O false 4 ∗ quantAt X W c O true 4) -∗ WP c (kk ⟨⟩) Φ)
        -∗ WP c (Scf.for lb ub st hok ⟨⟩ body >>= kk) Φ) := by
  have h := loop4 (hok := hok) (kk := kk) (Φ := Φ) (init := ⟨⟩) (fun t (_ : Unit) => iprop(quantAt X W c O false t ∗ quantAt X W c O true t)) h4 hb
  refine h.trans ?_
  iintro H Hk
  iapply H
  iintro %a Hi
  iapply Hk
  iexact Hi

/-- One direction's memory in the dequantiser's loop over slot `s`, which holds device `j`'s chunk, `t` tiles in. -/
abbrev deqAt (c : Dev nD) (sh : PosShare TreeShare) (O : Bool → S2x512x4096.Idx → Elt F .bf16) (s : ℕ) (j : Bool → Dev nD) (d : Bool) (t : ℕ) : sProp 𝕄 :=
  iprop(held (c : Thread nD τ) (qcM d) sh (slot s) (inSlot (qV X W d (j d)))
    ∗ held (c : Thread nD τ) (commM d) fullShare (slot s) (mix3 t (inSlot (deqV X W d (j d))) (O d)))

/-- The dequantiser's loop. -/
theorem deq_loop {α : Type} {lb ub st : BitVec 32} {hok : Scf.OK lb ub st} {Φ : α → sProp 𝕄} {body : Fin (Scf.trips lb ub st) → Unit → Prog (TpuEff nD τ sig (Elt F) Λ₀ .tc) Unit} {kk : Unit → Prog (TpuEff nD τ sig (Elt F) Λ₀ .tc) α}
    (sh : PosShare TreeShare) (O : Bool → S2x512x4096.Idx → Elt F .bf16) (s : ℕ) (j : Bool → Dev nD) (h4 : Scf.trips lb ub st = 4)
    (hb : ∀ (k : Fin (Scf.trips lb ub st)) a, iprop(deqAt X W c sh O s j false k.val ∗ deqAt X W c sh O s j true k.val)
      ⊢ WP c (body k a) fun _ => iprop(deqAt X W c sh O s j false (k.val + 1) ∗ deqAt X W c sh O s j true (k.val + 1))) :
    iprop(deqAt X W c sh O s j false 0 ∗ deqAt X W c sh O s j true 0)
      ⊢ iprop((iprop(deqAt X W c sh O s j false 4 ∗ deqAt X W c sh O s j true 4) -∗ WP c (kk ⟨⟩) Φ)
        -∗ WP c (Scf.for lb ub st hok ⟨⟩ body >>= kk) Φ) := by
  have h := loop4 (hok := hok) (kk := kk) (Φ := Φ) (init := ⟨⟩) (fun t (_ : Unit) => iprop(deqAt X W c sh O s j false t ∗ deqAt X W c sh O s j true t)) h4 hb
  refine h.trans ?_
  iintro H Hk
  iapply H
  iintro %a Hi
  iapply Hk
  iexact Hi

end Loops

end Cert.KernelIdealProof

end
-- ==== Proof.Meet.lean ====
/-
# Which operation of the protocol an operation of the program is

A memref cut from a buffer shows a region of it; a wait, a signal, a transfer or a copy of the program is the one of the
protocol with its semaphore and its device.
-/
module

public import proofs.«01_k».proof.Proof.Sweeps

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Regions shown by cut memrefs -/

theorem at_cons {n1 n2 : ℕ} (h : (⟨2, ![n1, n2]⟩ : Shape).numel = (⟨3, ![1, n1, n2]⟩ : Shape).numel) (y : (⟨2, ![n1, n2]⟩ : Shape).Idx) :
    (∀ a : Fin 2, ((Shape.reshapeEquiv h y) a.succ).val = (y a).val) ∧ ((Shape.reshapeEquiv h y) 0).val = 0 := by
  have e := Shape.reshapeEquiv_cons_one (n := 2) (d := ![n1, n2]) h y
  exact ⟨fun a => congrArg (fun z : (⟨3, ![1, n1, n2]⟩ : Shape).Idx => (z a.succ).val) e, congrArg (fun z : (⟨3, ![1, n1, n2]⟩ : Shape).Idx => (z 0).val) e⟩

/-- A block of one plane of a buffer of rank 3, its unit axis dropped. -/
theorem vwSq {sp : Space} {e : EltTy} {n0 n1 n2 m1 m2 : ℕ} (hpos : ∀ a, 0 < (![n0, n1, n2] : Fin 3 → ℕ) a) (M : Memref sig .tc sp ⟨3, ![n0, n1, n2]⟩ e) (A : Finset (⟨3, ![n0, n1, n2]⟩ : Shape).Idx) {o : Fin 3 → ℕ} (s r0 c0 : ℕ)
    (ho : o = ![s, r0, c0]) {inb : ∀ a, o a + (![1, m1, m2] : Fin 3 → ℕ) a ≤ (⟨3, ![n0, n1, n2]⟩ : Shape).size a}
    {hr : ∀ a, (Rect.unit (s := ⟨3, ![n0, n1, n2]⟩) o ![1, m1, m2] inb).stride a = 1}
    {hs : (Rect.unit (s := ⟨3, ![n0, n1, n2]⟩) o ![1, m1, m2] inb).shape.Squeezes (⟨2, ![m1, m2]⟩ : Shape)}
    (hA : ∀ i : (⟨3, ![n0, n1, n2]⟩ : Shape).Idx, i ∈ A ↔ (i 0).val = s ∧ (r0 ≤ (i 1).val ∧ (i 1).val < r0 + m1) ∧ c0 ≤ (i 2).val ∧ (i 2).val < c0 + m2) :
    Vw (F := F) M A ((M.slice (Rect.unit (s := ⟨3, ![n0, n1, n2]⟩) o ![1, m1, m2] inb) hr).squeeze (⟨2, ![m1, m2]⟩ : Shape) hs)
      (fun y => ixN ⟨3, ![n0, n1, n2]⟩ hpos ![s, r0 + (y 0).val, c0 + (y 1).val]) := by
  subst ho
  intro c q X
  have hset : A = (Rect.unit (s := ⟨3, ![n0, n1, n2]⟩) ![s, r0, c0] ![1, m1, m2] inb).set := by
    ext i
    rw [rect_mem, hA]
    constructor
    · rintro ⟨h0, h1, h2⟩ a
      fin_cases a
      · exact ⟨le_of_eq h0.symm, by show (i 0).val < s + 1; omega⟩
      · exact h1
      · exact h2
    · intro h
      have h0 : s ≤ (i 0).val ∧ (i 0).val < s + 1 := h 0
      exact ⟨by omega, h 1, h 2⟩
  rw [hset, held_slice (c : Thread nD τ) M q _ hr _ hs]
  refine congrArg _ (funext fun y => congrArg X ?_)
  symm
  refine ixN_eq _ _ _ fun a => ?_
  refine Eq.trans ?_ (rect_emb (inb := inb) _ a).symm
  have hc := at_cons (n1 := m1) (n2 := m2) hs.numel_eq y
  fin_cases a
  · exact (congrArg (s + ·) hc.2).symm
  · exact (congrArg (r0 + ·) (hc.1 0)).symm
  · exact (congrArg (c0 + ·) (hc.1 1)).symm

/-- The index of a two-slot buffer at slot `s`, row `y 0`, column `c0 + y 1`. -/
def at3 (s c0 : ℕ) {w : ℕ} (y : (⟨2, ![512, w]⟩ : Shape).Idx) : S2x512x4096.Idx :=
  ixN S2x512x4096 (pos3 (by decide) (by decide) (by decide)) ![s, 0 + (y 0).val, c0 + (y 1).val]

theorem vw3 {sp : Space} {e : EltTy} (M : Memref sig .tc sp S2x512x4096 e) (s c0 w : ℕ) {inb : ∀ a, (![s, 0, c0] : Fin 3 → ℕ) a + (![1, 512, w] : Fin 3 → ℕ) a ≤ S2x512x4096.size a}
    {hr : ∀ a, (Rect.unit (s := S2x512x4096) ![s, 0, c0] ![1, 512, w] inb).stride a = 1}
    {hs : (Rect.unit (s := S2x512x4096) ![s, 0, c0] ![1, 512, w] inb).shape.Squeezes (⟨2, ![512, w]⟩ : Shape)} :
    Vw (F := F) M (reg s c0 w) ((M.slice (Rect.unit (s := S2x512x4096) ![s, 0, c0] ![1, 512, w] inb) hr).squeeze (⟨2, ![512, w]⟩ : Shape) hs) (at3 s c0) :=
  vwSq _ M (reg s c0 w) s 0 c0 rfl fun i => by
    rw [mem_reg]
    have h1 : (i 1).val < 512 := (i 1).isLt
    omega

/-- The row `j` of the table of maxima, at entry `y`. -/
def atA (j : ℕ) (y : (⟨2, ![8, 128]⟩ : Shape).Idx) : S8x8x128.Idx :=
  ixN S8x8x128 (pos3 (by decide) (by decide) (by decide)) ![j, 0 + (y 0).val, 0 + (y 1).val]

theorem vwA {sp : Space} {e : EltTy} (M : Memref sig .tc sp S8x8x128 e) (j : ℕ) (hj : j < 8) {o : Fin 3 → ℕ} (ho : o = ![j, 0, 0]) {inb : ∀ a, o a + (![1, 8, 128] : Fin 3 → ℕ) a ≤ S8x8x128.size a}
    {hr : ∀ a, (Rect.unit (s := S8x8x128) o ![1, 8, 128] inb).stride a = 1}
    {hs : (Rect.unit (s := S8x8x128) o ![1, 8, 128] inb).shape.Squeezes (⟨2, ![8, 128]⟩ : Shape)} :
    Vw (F := F) M (slab j) ((M.slice (Rect.unit (s := S8x8x128) o ![1, 8, 128] inb) hr).squeeze (⟨2, ![8, 128]⟩ : Shape) hs) (atA j) :=
  vwSq _ M (slab j) j 0 0 ho fun i => by
    have h1 : (i 1).val < 8 := (i 1).isLt
    have h2 : (i 2).val < 128 := (i 2).isLt
    simp only [slab, Finset.mem_filter, Finset.mem_univ, true_and]
    omega

/-- The entry `y` of chunk `j` of direction `d`'s half of the output. -/
def atO (j : ℕ) (d : Bool) (y : (⟨2, ![512, 4096]⟩ : Shape).Idx) : S4096x8192.Idx :=
  ixN S4096x8192 (pos2 (by decide) (by decide)) ![512 * j + (y 0).val, 4096 * b2 d + (y 1).val]

theorem vwO (j : ℕ) (d : Bool) {o : Fin 2 → ℕ} (ho : o = ![512 * j, 4096 * b2 d]) {inb : ∀ a, o a + (![512, 4096] : Fin 2 → ℕ) a ≤ S4096x8192.size a}
    {hr : ∀ a, (Rect.unit (s := S4096x8192) o ![512, 4096] inb).stride a = 1} :
    Vw (F := F) outM (outP j d) (outM.slice (Rect.unit (s := S4096x8192) o ![512, 4096] inb) hr) (atO j d) := by
  subst ho
  intro c q X
  have hset : outP j d = (Rect.unit (s := S4096x8192) ![512 * j, 4096 * b2 d] ![512, 4096] inb).set := by
    ext i
    have h1 : (i 1).val < 8192 := (i 1).isLt
    have hd : b2 d ≤ 1 := by cases d <;> decide
    rw [rect_mem]
    simp only [outP, Finset.mem_filter, Finset.mem_univ, true_and]
    constructor
    · rintro ⟨h0, h2⟩ a
      fin_cases a
      · exact ⟨by show 512 * j ≤ (i 0).val; omega, by show (i 0).val < 512 * j + 512; omega⟩
      · exact ⟨by show 4096 * b2 d ≤ (i 1).val; omega, by show (i 1).val < 4096 * b2 d + 4096; omega⟩
    · intro h
      have h0 : 512 * j ≤ (i 0).val ∧ (i 0).val < 512 * j + 512 := h 0
      have h2 : 4096 * b2 d ≤ (i 1).val ∧ (i 1).val < 4096 * b2 d + 4096 := h 1
      omega
  have hs : (outM.slice (Rect.unit (s := S4096x8192) ![512 * j, 4096 * b2 d] ![512, 4096] inb) hr).view.setOn Finset.univ
      = outM.view.setOn (Rect.unit (s := S4096x8192) ![512 * j, 4096 * b2 d] ![512, 4096] inb).set := by
    rw [View.setOn_univ]
    exact View.set_slice outM.view _
  have hat : ∀ y : (⟨2, ![512, 4096]⟩ : Shape).Idx, atO j d y = (Rect.unit (s := S4096x8192) ![512 * j, 4096 * b2 d] ![512, 4096] inb).emb y := fun y =>
    ixN_eq _ _ _ fun a => by
      refine Eq.trans ?_ (rect_emb (inb := inb) y a).symm
      fin_cases a <;> rfl
  rw [hset]
  unfold held
  rw [hs]
  refine congrArg _ (funext fun f => ?_)
  refine congrArg (fun P : Prop => iprop(⌜P⌝ ∗ (outM.view.loc (c : Thread nD τ) ↦[outM.view.setOn (Rect.unit (s := S4096x8192) ![512 * j, 4096 * b2 d] ![512, 4096] inb).set]{q} f)))
    (propext ⟨fun hf y _ => ?_, fun hf i hi => ?_⟩)
  · exact (hf _ ((Rect.unit (s := S4096x8192) ![512 * j, 4096 * b2 d] ![512, 4096] inb).toLoadRect.idx_mem _)).trans (congrArg X (hat y).symm)
  · obtain ⟨x, rfl⟩ := (Rect.unit (s := S4096x8192) ![512 * j, 4096 * b2 d] ![512, 4096] inb).toLoadRect.exists_idx_of_mem hi
    exact (hf x (Finset.mem_univ _)).trans (congrArg X (hat x))

/-! ## The operations -/

section Ops
variable {c : Dev nD}

/-- A wait on a transfer semaphore. -/
theorem wtD {sp sp' : Space} {s : Shape} {e : EltTy} {m : Memref sig .tc sp s e} {m' : Memref sig .tc sp' s e} {h1 h2} {sm : DmaSem sig} (k : Kd)
    (hS : SemLoc.dma sm = semOf k) (hN : m'.view.dmaCredit = tot k) :
    Wt (F := F) c (.waitDma2 sm m m' h1 h2) k := fun Q => by
  rw [← hS, ← hN]; exact wpE_waitDma2_eq ..

/-- A wait on a regular semaphore. -/
theorem wtR {sm : Sem sig} {n : ℤ} (k : Kd) (hS : SemLoc.reg sm = semOf k) (hN : n = (tot k : ℕ)) :
    Wt (F := F) c (.semWait sm n) k := fun Q => by
  subst hN
  rw [← hS]; exact wpE_semWait_eq ..

/-- A signal. -/
theorem sgR {sm : Sem sig} {n : ℤ} {t : Dev nD → Dev nD} (e : Ev) (hS : SemLoc.reg sm = semOf (evK e)) (hn : n = 1) (ht : ∀ c, t c = evT e c) :
    Sg (F := F) c (.semSignal ((t c : Dev nD) : Thread nD τ) sm n) e := by
  subst hn
  exact ⟨sm, hS, by rw [ht]⟩

/-- A remote transfer. -/
theorem sdR {sp sp' : Space} {s : Shape} {el : EltTy} {v : Memref sig .tc sp s el} {v' : Memref sig .tc sp' s el} {sS sR : DmaSem sig} {t : Dev nD → Dev nD}
    {hsc h1 h2} {h3 : DmaTarget.Typed sp (.dma sR) (.remote ((t c : Dev nD) : Thread nD τ) v' (.dma sS) hsc)} (e : Ev) (k : Kd)
    (hself : selfK e = some k) (hS : SemLoc.dma sS = semOf k) (hR : SemLoc.dma sR = semOf (evK e)) (hN : v'.view.dmaCredit = amt (evK e)) (ha : amt k = amt (evK e))
    (ht : ∀ c, t c = evT e c) :
    Sd (F := F) c (.enqueueDma v (.remote ((t c : Dev nD) : Thread nD τ) v' (.dma sS) hsc) (.dma sR) h1 h2 h3) e k v v' := by
  have h := ht c
  revert h3
  generalize t c = z at h
  subst h
  intro h3
  exact ⟨sS, sR, hsc, h1, h2, h3, hself, hS, hR, hN, ha, rfl⟩

/-- A copy to the output. -/
theorem cpR' {sp sp' : Space} {s : Shape} {el : EltTy} {v : Memref sig .tc sp s el} {v' : Memref sig .tc sp' s el} {sm : DmaSem sig}
    {h1 h2} {h3 : DmaTarget.Typed (nD := nD) (p := (c : Thread nD τ).2) sp (.dma sm) (.here v')} (x : Fin 16)
    (hS : SemLoc.dma sm = semOf (cpK x)) (hN : v'.view.dmaCredit = amt (cpK x)) :
    Cp (F := F) c (.enqueueDma v (.here v') (.dma sm) h1 h2 h3) x v v' :=
  ⟨sm, h1, h2, h3, hS, hN, rfl⟩

end Ops

end Cert.KernelIdealProof

end
-- ==== Proof.Scatter.lean ====
/-
# The reduce-scatter, step by step

Rules for what one step of the reduce-scatter does: the four waits, the credits returned, the additions, the waits for
credit and the next transfers. Each takes the device's whole state at a place to its state at the next.
-/
module

public import proofs.«01_k».proof.Proof.Meet

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (X : Dev nD → S4096x512.Idx → Elt F .bf16) (W : Dev nD → S512x8192.Idx → Elt F .bf16)

/-- A rule at the head of a program, then the rest. -/
theorem step {P Q T G : sProp 𝕄} (h : P ⊢ iprop((Q -∗ T) -∗ G)) (hk : Q ⊢ T) : P ⊢ G := by
  iintro H
  iapply h $$ H
  iintro H
  iapply hk
  iexact H

/-- The credit of a device's own wait for round `r` of kind `k`. -/
abbrev crK (c : Dev nD) (k : Kd) (r : ℕ) : sProp 𝕄 := cred (tallyAt (cell c k) r (amt k))

/-- The blocks of the table of maxima that travel with transfer `d`, `q` of the reduce-scatter. -/
def bunI (d : Bool) (q : Fin 2) (o : Dev nD) (s : ℕ) : sProp 𝕄 := if d = false ∧ q = 0 then bun (F := F) o s else iprop(emp)

theorem below_zero (p : ℕ) (k : Kd) (r : ℕ) (h : levK k r = 0) : Below p k r := fun e _ => by
  have : ∀ e : Ev, 0 < levK (evK e) (evR e) := by decide +kernel
  rw [h]; exact this e

theorem srcN_tgt (s : ℕ) (d : Bool) (c : Dev nD) : srcN d (s + 1) (tgt d c) = srcN d s c := by
  refine Fin.ext ?_
  have := c.isLt
  cases d <;> simp only [srcN, devN, tgt, cond_true, cond_false] <;> omega
theorem srcN_src (s : ℕ) (d : Bool) (c : Dev nD) : srcN d s (src d c) = srcN d (s + 1) c := by
  have := srcN_tgt s d (src d c)
  rw [tgt_src] at this; exact this.symm
theorem srcN_zero (d : Bool) (c : Dev nD) : srcN d 0 c = c := by
  refine Fin.ext ?_
  have : c.val < 8 := c.isLt
  simp only [srcN, devN]; omega

theorem wr_rs (s : Fin 7) (q : Fin 2) : wr (.rsR false s q) 0 = wr (.rsS false s q) 0 + 1 ∧ wr (.rsS true s q) 0 = wr (.rsS false s q) 0 + 1 + 1
    ∧ wr (.rsR true s q) 0 = wr (.rsS false s q) 0 + 1 + 1 + 1 := by revert s q; decide +kernel

section
variable (K : CK → ℕ) {c : Dev nD} {p m : ℕ}

/-- What device `c` has of transfer `d`, `s`, `q` once its own has gone and its neighbour's has come. -/
def Rcv (c : Dev nD) (d : Bool) (s : Fin 7) (q : Fin 2) : sProp 𝕄 :=
  iprop(anyH (F := F) c (commM d) (piece s.val q.val)
    ∗ held (c : Thread nD τ) (commM d) fullShare (piece (s.val + 1) q.val) (inSlot (rsV X W d s.val (src d c)))
    ∗ reached ER (cell (src d c) (.rc d q)) s.val ∗ bunI (F := F) d q (srcN false (s.val + 1) c) s.val)

theorem pay_rsS (d : Bool) (s : Fin 7) (q : Fin 2) : pay X W c (.rsS d s q) 0 false = anyH (F := F) c (commM d) (piece s.val q.val) := rfl
theorem pay_rsR (d : Bool) (s : Fin 7) (q : Fin 2) : pay X W c (evK (.rs d s q)) (evR (.rs d s q)) false
    = iprop(held (c : Thread nD τ) (commM d) fullShare (piece (s.val + 1) q.val) (inSlot (rsV X W d s.val (src d c)))
      ∗ reached ER (cell (src d c) (.rc d q)) s.val ∗ bunI (F := F) d q (srcN false (s.val + 1) c) s.val) := rfl
theorem pay_rc (d : Bool) (r : ℕ) (q : Fin 2) : pay X W c (.rc d q) r false = anyH (F := F) (tgt d c) (commM d) (piece r q.val) := rfl

/-- The four waits of half a step. -/
theorem rs_waits {α : Type} {Φ : α → sProp 𝕄} (s : Fin 7) (q : Fin 2) {n : ℕ} (hn : wr (.rsS false s q) 0 = n) (hb : ∀ d, Below p (.rsR d s q) 0)
    {w₁ w₂ w₃ w₄ : Eff F} {kt : PUnit → Prog (TpuEff nD τ sig (Elt F) Λ₀ .tc) α}
    (h₁ : Wt c w₁ (.rsS false s q)) (h₂ : Wt c w₂ (.rsR false s q)) (h₃ : Wt c w₃ (.rsS true s q)) (h₄ : Wt c w₄ (.rsR true s q)) :
    iprop(Core X W K c p n m ∗ crK c (.rsS false s q) 0 ∗ crK c (.rsS true s q) 0)
      ⊢ iprop(((Core X W K c p (n + 4) m ∗ Rcv X W c false s q ∗ Rcv X W c true s q) -∗ WP c (kt ⟨⟩) Φ)
        -∗ WP c (.op w₁ fun _ => .op w₂ fun _ => .op w₃ fun _ => .op w₄ kt) Φ) := by
  subst hn
  obtain ⟨e₂, e₃, e₄⟩ := wr_rs s q
  iintro ⟨H, H1, H3⟩ Hk
  iapply (wait_self X W K c p m h₁ 0 rfl Nat.one_pos (below_zero p _ 0 rfl) (by intro h; cases h) (by intro e; cases e <;> simp [evK])) $$ [H H1]
  · isplitl [H]; · iexact H
    iexact H1
  iintro ⟨H, P1⟩
  iapply (wait_ev X W K c p m (.rs false s q) rfl h₂ rfl e₂ (hb false) (by intro h; cases h)) $$ H
  iintro ⟨H, -, P2⟩
  iapply (wait_self X W K c p m h₃ 0 e₃ Nat.one_pos (below_zero p _ 0 rfl) (by intro h; cases h) (by intro e; cases e <;> simp [evK])) $$ [H H3]
  · isplitl [H]; · iexact H
    iexact H3
  iintro ⟨H, P3⟩
  iapply (wait_ev X W K c p m (.rs true s q) rfl h₄ rfl e₄ (hb true) (by intro h; cases h)) $$ H
  iintro ⟨H, -, P4⟩
  iapply Hk
  isplitl [H]; · iexact H
  unfold Rcv
  isplitl [P1 P2]
  · isplitl [P1]; · iapply (Entails.of_eq (pay_rsS X W false s q)) $$ P1
    iapply (Entails.of_eq (pay_rsR X W false s q)) $$ P2
  isplitl [P3]; · iapply (Entails.of_eq (pay_rsS X W true s q)) $$ P3
  iapply (Entails.of_eq (pay_rsR X W true s q)) $$ P4

/-- A transfer of the reduce-scatter. -/
theorem rs_send {α : Type} {Φ : α → sProp 𝕄} (d : Bool) (s : Fin 7) (q : Fin 2) {n : ℕ} (hp : prk (.rs d s q) = p) {w : Eff F} {kt : PUnit → Prog (TpuEff nD τ sig (Elt F) Λ₀ .tc) α}
    {v v' : Memref sig .tc .vmem ⟨2, ![512, 2048]⟩ .bf16} {a a' c0 : ℕ}
    (hw : Sd c w (.rs d s q) (.rsS d s q) v v') (hv : Vw (F := F) (commM d) (piece s.val q.val) v (at3 a c0))
    (hv' : Vw (F := F) (commM d) (piece (s.val + 1) q.val) v' (at3 a' c0)) :
    iprop(Core X W K c p n m ∗ held (c : Thread nD τ) (commM d) fullShare (piece s.val q.val) (inSlot (rsV X W d s.val c))
        ∗ anyH (F := F) (tgt d c) (commM d) (piece (s.val + 1) q.val) ∗ reached ER (cell c (.rc d q)) s.val ∗ bunI (F := F) d q (srcN false s.val c) s.val)
      ⊢ iprop(((Core X W K c (p + 1) n m ∗ crK c (.rsS d s q) 0) -∗ WP c (kt ⟨⟩) Φ) -∗ WP c (.op w kt) Φ) := by
  have h := send_ev X W K c (kt := kt) (Φ := Φ) (m := m) (n := n) (.rs d s q) hw hv hv' (inSlot (rsV X W d s.val c)) (inSlot (rsV X W d s.val c)) (fun y => rfl) fullShare
    (iprop(reached ER (cell c (.rc d q)) s.val ∗ bunI (F := F) d q (srcN false s.val c) s.val))
    (by show _ ⊢ anyH (F := F) c (commM d) (piece s.val q.val)
        unfold anyH; iintro H; iexists _; iexact H)
    (by show _ ⊢ iprop(held ((tgt d c : Dev nD) : Thread nD τ) (commM d) fullShare (piece (s.val + 1) q.val) (inSlot (rsV X W d s.val (src d (tgt d c))))
          ∗ reached ER (cell (src d (tgt d c)) (.rc d q)) s.val ∗ bunI (F := F) d q (srcN false (s.val + 1) (tgt d c)) s.val)
        rw [src_tgt]
        have : bunI (F := F) d q (srcN false (s.val + 1) (tgt d c)) s.val = bunI (F := F) d q (srcN false s.val c) s.val := by
          unfold bunI
          cases d
          · rw [srcN_tgt]
          · simp
        rw [this]
        exact Entails.rfl) hp rfl
  exact h

/-- The blocks of the table of maxima that have come to device `c` to write its own maximum into, `j` hops in. -/
def KP (c : Dev nD) (j : ℕ) : sProp 𝕄 := bigSep (Finset.range (j + 1)) fun i => anyH (F := F) (srcN false i c) amaxM (slab c.val)

/-- One more block of the table is kept, and the others go on. -/
theorem keep (s : ℕ) (hs : s < 7) (c : Dev nD) :
    iprop(KP (F := F) c s ∗ bun (F := F) (srcN false (s + 1) c) s) ⊢ iprop(KP (F := F) c (s + 1) ∗ bun (F := F) (srcN false (s + 1) c) (s + 1)) := by
  have h1 : Finset.Ico (s + 1) 8 = insert (s + 1) (Finset.Ico (s + 1 + 1) 8) := by ext x; simp only [Finset.mem_Ico, Finset.mem_insert]; omega
  have h2 : slab ((srcN false (s + 1) c).val + (s + 1)) = slab c.val := by
    unfold slab srcN devN
    have := c.isLt
    refine Finset.filter_congr fun i _ => ?_
    simp only [cond_false]
    omega
  unfold KP bun
  rw [h1, bs_insert (by simp), Finset.range_add_one (n := s + 1), bs_insert (by simp), h2]
  iintro ⟨H1, H2, H3⟩
  isplitr [H3]
  · isplitl [H2]; · iexact H2
    iexact H1
  iexact H3

/-- How far the blocks kept have come before half step `q` of step `s`. -/
def kq (s : ℕ) (q : Fin 2) : ℕ := if q = 0 then s else s + 1

theorem keepI (s : ℕ) (hs : s < 7) (q : Fin 2) (c : Dev nD) :
    iprop(KP (F := F) c (kq s q) ∗ bunI (F := F) false q (srcN false (s + 1) c) s) ⊢ iprop(KP (F := F) c (s + 1) ∗ bunI (F := F) false q (srcN false (s + 1) c) (s + 1)) := by
  unfold kq bunI
  by_cases hq : q = 0
  · simp only [hq, and_self, if_true]; exact keep s hs c
  · simp only [hq, and_false, if_false]; exact Entails.rfl

/-- The partial products of step `n`. -/
def PB (c : Dev nD) (n : ℕ) : sProp 𝕄 :=
  iprop(held (c : Thread nD τ) (pbM false) fullShare Finset.univ (inBuf (pgV X W false n c)) ∗ held (c : Thread nD τ) (pbM true) fullShare Finset.univ (inBuf (pgV X W true n c)))

/-- The credit of both directions' own transfers of half step `s`, `q`. -/
def CR (c : Dev nD) (s : Fin 7) (q : Fin 2) : sProp 𝕄 := iprop(crK (F := F) c (.rsS false s q) 0 ∗ crK (F := F) c (.rsS true s q) 0)

theorem wr_rc (s : Fin 6) (q : Fin 2) : wr (.rc false q) s.val = wr (.rsS false s.castSucc q) 0 + 4 ∧ wr (.rc true q) s.val = wr (.rsS false s.castSucc q) 0 + 4 + 1 := by
  revert s q; decide +kernel
theorem prk_rs (s : Fin 6) (q : Fin 2) : prk (.rc true s q) = prk (.rc false s q) + 1 ∧ prk (.rs false s.succ q) = prk (.rc false s q) + 1 + 1
    ∧ prk (.rs true s.succ q) = prk (.rc false s q) + 1 + 1 + 1 := by revert s q; decide +kernel
theorem below_rs : ∀ (d : Bool) (s : Fin 6) (q : Fin 2), Below (prk (.rc false s q)) (.rsR d s.castSucc q) 0 ∧ Below (prk (.rc false s q) + 2) (.rc d q) s.val := by
  decide +kernel
theorem below_rs6 : ∀ (d : Bool) (q : Fin 2), Below 54 (.rsR d 6 q) 0 := by decide +kernel

theorem pay_next (d : Bool) (s : Fin 6) (q : Fin 2) : pay X W c (evK (.rc d s q)) (evR (.rc d s q)) false = anyH (F := F) (tgt d c) (commM d) (piece (s.succ.val + 1) q.val) := by
  show anyH (F := F) (tgt d c) (commM d) (piece s.val q.val) = anyH (F := F) (tgt d c) (commM d) (piece (s.val + 1 + 1) q.val)
  unfold piece; rw [Nat.add_assoc, Nat.add_mod_right]

/-- Half a step of the reduce-scatter, all but the last. -/
theorem rs_block {α : Type} {Φ : α → sProp 𝕄} (s : Fin 6) (q : Fin 2) {n : ℕ} (C R : sProp 𝕄) (hp : prk (.rc false s q) = p) (hn : wr (.rsS false s.castSucc q) 0 = n)
    {w₁ w₂ w₃ w₄ g₁ g₂ w₅ w₆ x₁ x₂ : Eff F} {kt : PUnit → Prog (TpuEff nD τ sig (Elt F) Λ₀ .tc) α}
    {lb ub st : BitVec 32} {hok : Scf.OK lb ub st} {body : Fin (Scf.trips lb ub st) → Unit → Prog (TpuEff nD τ sig (Elt F) Λ₀ .tc) Unit}
    {v₁ v₁' v₂ v₂' : Memref sig .tc .vmem ⟨2, ![512, 2048]⟩ .bf16} {a₁ a₁' c₁ a₂ a₂' c₂ : ℕ}
    (h₁ : Wt c w₁ (.rsS false s.castSucc q)) (h₂ : Wt c w₂ (.rsR false s.castSucc q)) (h₃ : Wt c w₃ (.rsS true s.castSucc q)) (h₄ : Wt c w₄ (.rsR true s.castSucc q))
    (hg₁ : Sg c g₁ (.rc false s q)) (hg₂ : Sg c g₂ (.rc true s q))
    (h4 : Scf.trips lb ub st = 4)
    (hb : ∀ (k : Fin (Scf.trips lb ub st)) a, iprop(addAt X W c s.val q.val false k.val ∗ addAt X W c s.val q.val true k.val)
      ⊢ WP c (body k a) fun _ => iprop(addAt X W c s.val q.val false (k.val + 1) ∗ addAt X W c s.val q.val true (k.val + 1)))
    (h₅ : Wt c w₅ (.rc false q)) (h₆ : Wt c w₆ (.rc true q))
    (hx₁ : Sd c x₁ (.rs false s.succ q) (.rsS false s.succ q) v₁ v₁') (hv₁ : Vw (F := F) (commM false) (piece (s.val + 1) q.val) v₁ (at3 a₁ c₁))
    (hv₁' : Vw (F := F) (commM false) (piece (s.val + 1 + 1) q.val) v₁' (at3 a₁' c₁))
    (hx₂ : Sd c x₂ (.rs true s.succ q) (.rsS true s.succ q) v₂ v₂') (hv₂ : Vw (F := F) (commM true) (piece (s.val + 1) q.val) v₂ (at3 a₂ c₂))
    (hv₂' : Vw (F := F) (commM true) (piece (s.val + 1 + 1) q.val) v₂' (at3 a₂' c₂)) :
    iprop(Core X W K c p n m ∗ CR c s.castSucc q ∗ C ∗ PB X W c (s.val + 1) ∗ KP c (kq s.val q) ∗ R)
      ⊢ iprop((iprop(Core X W K c (p + 4) (n + 6) m ∗ C ∗ CR c s.succ q ∗ PB X W c (s.val + 1) ∗ KP c (s.val + 1) ∗ R) -∗ WP c (kt ⟨⟩) Φ)
        -∗ WP c (.op w₁ fun _ => .op w₂ fun _ => .op w₃ fun _ => .op w₄ fun _ => .op g₁ fun _ => .op g₂ fun _ =>
          Scf.for lb ub st hok ⟨⟩ body >>= fun _ => .op w₅ fun _ => .op w₆ fun _ => .op x₁ fun _ => .op x₂ kt) Φ) := by
  subst hp; subst hn
  obtain ⟨e₅, e₆⟩ := wr_rc s q
  obtain ⟨p₂, p₃, p₄⟩ := prk_rs s q
  unfold CR PB
  iintro ⟨H, ⟨C1, C2⟩, HC, ⟨B1, B2⟩, HK, HR⟩ Hk
  iapply (rs_waits X W K s.castSucc q rfl (fun d => (below_rs d s q).1) h₁ h₂ h₃ h₄) $$ [H C1 C2]
  · isplitl [H]; · iexact H
    isplitl [C1]; · iexact C1
    iexact C2
  unfold Rcv
  iintro ⟨H, ⟨A1, V1, #R1, N1⟩, ⟨A2, V2, #R2, -⟩⟩
  iapply (signal_ev X W K c m (.rc false s q) hg₁ rfl rfl) $$ [H A1]
  · isplitl [H]; · iexact H
    isplitr; · iexact R1
    iapply (Entails.of_eq (by show _ = anyH (F := F) (tgt false (src false c)) (commM false) (piece s.val q.val); rw [tgt_src]; rfl)) $$ A1
  iintro H
  iapply (signal_ev X W K c m (.rc true s q) hg₂ p₂ rfl) $$ [H A2]
  · isplitl [H]; · iexact H
    isplitr; · iexact R2
    iapply (Entails.of_eq (by show _ = anyH (F := F) (tgt true (src true c)) (commM true) (piece s.val q.val); rw [tgt_src]; rfl)) $$ A2
  iintro H
  iapply (add_loop X W s.val q.val h4 hb) $$ [V1 V2 B1 B2]
  · isplitl [V1 B1]
    · isplitl [V1]; · iexact V1
      iexact B1
    isplitl [V2]; · iexact V2
    iexact B2
  iintro ⟨⟨V1, B1⟩, ⟨V2, B2⟩⟩
  iapply (wait_ev X W K c _ m (.rc false s q) rfl h₅ rfl e₅ ((below_rs false s q).2) (by intro h; cases h)) $$ H
  iintro ⟨H, #R3, A1⟩
  iapply (wait_ev X W K c _ m (.rc true s q) rfl h₆ rfl e₆ ((below_rs true s q).2) (by intro h; cases h)) $$ H
  iintro ⟨H, #R4, A2⟩
  ihave HK := (keepI (F := F) s.val (by omega) q c) $$ [HK N1]
  · isplitl [HK]; · iexact HK
    iexact N1
  icases HK with ⟨HK, N1⟩
  iapply (rs_send X W K false s.succ q p₃ hx₁ hv₁ hv₁') $$ [H V1 A1 N1]
  · isplitl [H]; · iexact H
    isplitl [V1]; · iexact V1
    isplitl [A1]; · iapply (Entails.of_eq (pay_next X W false s q)) $$ A1
    isplitr; · iexact R3
    iexact N1
  iintro ⟨H, C1⟩
  iapply (rs_send X W K true s.succ q p₄ hx₂ hv₂ hv₂') $$ [H V2 A2]
  · isplitl [H]; · iexact H
    isplitl [V2]; · iexact V2
    isplitl [A2]; · iapply (Entails.of_eq (pay_next X W true s q)) $$ A2
    isplitr; · iexact R4
    unfold bunI
    iapply (Entails.of_eq (by simp : (iprop(emp) : sProp 𝕄) = _))
    iempintro
  iintro ⟨H, C2⟩
  iapply Hk
  isplitl [H]; · iexact H
  isplitl [HC]; · iexact HC
  isplitl [C1 C2]
  · isplitl [C1]; · iexact C1
    iexact C2
  isplitl [B1 B2]
  · isplitl [B1]; · iexact B1
    iexact B2
  isplitl [HK]; · iexact HK
  iexact HR

/-- What half a step leaves at the end of the reduce-scatter: slot 1 free, slot 0 the sum. -/
def LP (c : Dev nD) (q : ℕ) : sProp 𝕄 :=
  iprop((anyH (F := F) c (commM false) (piece 1 q) ∗ held (c : Thread nD τ) (commM false) fullShare (piece 0 q) (inSlot (rsV X W false 7 c)))
    ∗ (anyH (F := F) c (commM true) (piece 1 q) ∗ held (c : Thread nD τ) (commM true) fullShare (piece 0 q) (inSlot (rsV X W true 7 c))))

/-- The last half steps, with the running maximum. -/
theorem rs_last {α : Type} {Φ : α → sProp 𝕄} (q : Fin 2) {n : ℕ} (C R : sProp 𝕄) {z : F .f32} (hp : p = 54) (hn : wr (.rsS false 6 q) 0 = n)
    {w₁ w₂ w₃ w₄ : Eff F} {kk : F .f32 → Prog (TpuEff nD τ sig (Elt F) Λ₀ .tc) α}
    {lb ub st : BitVec 32} {hok : Scf.OK lb ub st} {body : Fin (Scf.trips lb ub st) → F .f32 → Prog (TpuEff nD τ sig (Elt F) Λ₀ .tc) (F .f32)}
    (h₁ : Wt c w₁ (.rsS false 6 q)) (h₂ : Wt c w₂ (.rsR false 6 q)) (h₃ : Wt c w₃ (.rsS true 6 q)) (h₄ : Wt c w₄ (.rsR true 6 q))
    (h4 : Scf.trips lb ub st = 4)
    (hb : ∀ O (k : Fin (Scf.trips lb ub st)), iprop(lastAt X W c O q.val false k.val ∗ lastAt X W c O q.val true k.val)
      ⊢ WP c (body k (mxs X W c q.val z k.val)) fun a => iprop(⌜a = mxs X W c q.val z (k.val + 1)⌝ ∗ lastAt X W c O q.val false (k.val + 1) ∗ lastAt X W c O q.val true (k.val + 1))) :
    iprop(Core X W K c p n m ∗ CR c 6 q ∗ C ∗ PB X W c 7 ∗ KP c (kq 6 q) ∗ R)
      ⊢ iprop((iprop(Core X W K c p (n + 4) m ∗ C ∗ LP X W c q.val ∗ PB X W c 7 ∗ KP c 7 ∗ R) -∗ WP c (kk (mxs X W c q.val z 4)) Φ)
        -∗ WP c (.op w₁ fun _ => .op w₂ fun _ => .op w₃ fun _ => .op w₄ fun _ => Scf.for lb ub st hok z body >>= kk) Φ) := by
  subst hp; subst hn
  unfold CR PB
  iintro ⟨H, ⟨C1, C2⟩, HC, ⟨B1, B2⟩, HK, HR⟩ Hk
  iapply (rs_waits X W K 6 q rfl (fun d => below_rs6 d q) h₁ h₂ h₃ h₄) $$ [H C1 C2]
  · isplitl [H]; · iexact H
    isplitl [C1]; · iexact C1
    iexact C2
  unfold Rcv
  iintro ⟨H, ⟨A1, V1, -, N1⟩, ⟨A2, V2, -, -⟩⟩
  ihave HK := (keepI (F := F) 6 (by omega) q c) $$ [HK N1]
  · isplitl [HK]; · iexact HK
    iexact N1
  icases HK with ⟨HK, -⟩
  unfold anyH
  icases A1 with ⟨%O1, A1⟩
  icases A2 with ⟨%O2, A2⟩
  have e0 : ∀ d O, mix3 0 (inSlot (rsV X W d 7 c)) O = O := fun d O => mix3_zero _ _
  iapply (last_loop X W q.val (fun d => bif d then O2 else O1) h4 (hb _)) $$ [V1 V2 A1 A2 B1 B2]
  · simp only [lastAt, mix3_zero]
    isplitl [V1 A1 B1]
    · isplitl [V1]; · iexact V1
      isplitl [A1]; · iexact A1
      iexact B1
    isplitl [V2]; · iexact V2
    isplitl [A2]; · iexact A2
    iexact B2
  simp only [lastAt, mix3_four]
  iintro ⟨⟨V1, A1, B1⟩, ⟨V2, A2, B2⟩⟩
  iapply Hk
  isplitl [H]; · iexact H
  isplitl [HC]; · iexact HC
  isplitl [V1 A1 V2 A2]
  · unfold LP anyH
    isplitl [V1 A1]
    · isplitl [V1]; · iexists _; iexact V1
      iexact A1
    isplitl [V2]; · iexists _; iexact V2
    iexact A2
  isplitl [B1 B2]
  · isplitl [B1]; · iexact B1
    iexact B2
  isplitl [HK]; · iexact HK
  iexact HR

end

end

end Cert.KernelIdealProof

end
-- ==== Proof.Table.lean ====
/-
# The maxima, exchanged

A device writes its own maximum to its block of the table, sends the block to the seven others, waits for theirs, and
holds the whole table.
-/
module

public import proofs.«01_k».proof.Proof.Scatter

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (X : Dev nD → S4096x512.Idx → Elt F .bf16) (W : Dev nD → S512x8192.Idx → Elt F .bf16)

/-- The transfers of the broadcast before the `k`-th. -/
def flt (k : ℕ) : Finset (Fin 7) := Finset.univ.filter fun i => i.val < k
theorem flt_zero : flt 0 = ∅ := by decide
theorem flt_all : flt 7 = Finset.univ := by decide
theorem flt_succ (k : Fin 7) : flt (k.val + 1) = insert k (flt k.val) := by revert k; decide
theorem not_mem_flt (k : Fin 7) : k ∉ flt k.val := by revert k; decide

theorem mem_slab {j : ℕ} {i : S8x8x128.Idx} : i ∈ slab j ↔ (i 0).val = j % 8 := by simp [slab]
theorem slab_mod {a b : ℕ} (h : a % 8 = b % 8) : slab a = slab b := by unfold slab; rw [h]

/-- Device `c`'s own block of the table at `q` of its share, its maximum in it. -/
abbrev ownB (c : Dev nD) (q : PosShare TreeShare) : sProp 𝕄 := held (c : Thread nD τ) amaxM q (slab c.val) (fun _ => omax X W c)
/-- The blocks on other devices still to be written. -/
def KQ (c : Dev nD) (k : ℕ) : sProp 𝕄 := bigSep (Finset.Ico 1 (8 - k)) fun i => anyH (F := F) (srcN false i c) amaxM (slab c.val)
/-- The credit of the first `k` transfers of the broadcast. -/
def BC (c : Dev nD) (k : ℕ) : sProp 𝕄 := bigSep (flt k) fun i => crK (F := F) c (.bcS i) 0
/-- The blocks of the first `k` devices heard from. -/
def BR (c : Dev nD) (k : ℕ) : sProp 𝕄 := bigSep (flt k) fun i => held (c : Thread nD τ) amaxM fullShare (slab (c.val + 7 - i.val)) (fun _ => omax X W (devN (c.val + 7 - i.val)))
/-- The shares of the first `k` transfers back. -/
def BS (c : Dev nD) (k : ℕ) : sProp 𝕄 := bigSep (flt k) fun i => ownB X W c (giveS i.val)

theorem bc_tgt : ∀ (c : Dev nD) (k : Fin 7), srcN false (7 - k.val) c = evT (.bc k) c := by decide
theorem pay_bcR (c : Dev nD) (k : Fin 7) : pay X W c (evK (.bc k)) (evR (.bc k)) false
    = held (c : Thread nD τ) amaxM fullShare (slab (c.val + 7 - k.val)) (fun _ => omax X W (devN (c.val + 7 - k.val))) := rfl
theorem pay_bcS (c : Dev nD) (k : Fin 7) : pay X W c (.bcS k) 0 false = ownB X W c (giveS k.val) := rfl
theorem pay_bcT (c : Dev nD) (k : Fin 7) : pay X W (evT (.bc k) c) (evK (.bc k)) (evR (.bc k)) false
    = held ((evT (.bc k) c : Dev nD) : Thread nD τ) amaxM fullShare (slab c.val) (fun _ => omax X W c) := by
  have h0 : ((evT (.bc k) c).val + 7 - k.val) % 8 = c.val % 8 := by
    have : c.val < 8 := c.isLt
    show ((c.val + k.val + 1) % 8 + 7 - k.val) % 8 = c.val % 8
    omega
  have h1 : slab ((evT (.bc k) c).val + 7 - k.val) = slab c.val := slab_mod h0
  have h2 : devN ((evT (.bc k) c).val + 7 - k.val) = c := Fin.ext (h0.trans (Nat.mod_eq_of_lt c.isLt))
  rw [pay_bcR, h1, h2]
theorem flt_rest : ∀ k : Fin 7, Finset.univ \ flt k.val = insert k (Finset.univ \ flt (k.val + 1)) := by decide
theorem not_mem_rest : ∀ k : Fin 7, k ∉ Finset.univ \ flt (k.val + 1) := by decide

section
variable (K : CK → ℕ) {c : Dev nD} {m : ℕ}

/-- The own maximum written to the table. -/
theorem amax_store {α : Type} {Φ : α → sProp 𝕄} {p n : ℕ} (R : sProp 𝕄) {off : Fin 3 → ℕ} (ho : off = ![c.val, 0, 0]) {i i' hl hx hm}
    {kt : PUnit → Prog (TpuEff nD τ sig (Elt F) Λ₀ .tc) α} :
    iprop(Core X W K c p n m ∗ KP c 7 ∗ R)
      ⊢ iprop((iprop(Core X W K c p n m ∗ ownB X W c (remS 0) ∗ KQ c 0 ∗ R) -∗ WP c (kt ⟨⟩) Φ)
        -∗ WP c (.op (.load amaxM (Rect.unit (s := S8x8x128) off S1x8x128.size i).toLoadRect hl) fun _ =>
          .op (.store amaxM (Rect.unit (s := S8x8x128) off S1x8x128.size i') (k0_pay61 (k0_pay60 (omax X W c))) Finset.univ hx hm) kt) Φ) := by
  subst ho
  have hmem : ∀ i : S8x8x128.Idx, (∀ a, (![c.val, 0, 0] : Fin 3 → ℕ) a ≤ (i a).val ∧ (i a).val < (![c.val, 0, 0] : Fin 3 → ℕ) a + S1x8x128.size a) ↔ i ∈ slab c.val := fun i => by
    have hc : c.val < 8 := c.isLt
    have h1 : (i 1).val < 8 := (i 1).isLt
    have h2 : (i 2).val < 128 := (i 2).isLt
    simp only [slab, Finset.mem_filter, Finset.mem_univ, _root_.true_and]
    constructor
    · intro h
      have h0 : c.val ≤ (i 0).val ∧ (i 0).val < c.val + 1 := h 0
      omega
    · intro h a
      fin_cases a
      · exact ⟨by show c.val ≤ (i 0).val; omega, by show (i 0).val < c.val + 1; omega⟩
      · exact ⟨Nat.zero_le _, by show (i 1).val < 0 + 8; omega⟩
      · exact ⟨Nat.zero_le _, by show (i 2).val < 0 + 128; omega⟩
  have hk : KP (F := F) c 7 = iprop(anyH (F := F) c amaxM (slab c.val) ∗ KQ c 0) := by
    unfold KP KQ
    rw [show Finset.range (7 + 1) = insert 0 (Finset.Ico 1 (8 - 0)) by decide, bs_insert (by decide), srcN_zero]
  rw [hk]
  unfold anyH
  iintro ⟨H, ⟨⟨%Y, HY⟩, HQ⟩, HR⟩ Hk
  iapply (ld_any (slab c.val) fullShare _ (fun i hi => (hmem i).mp hi)) $$ HY
  iintro HY
  iapply (st (slab c.val) Y (fun _ => omax X W c) (fun i hi => (hmem i).mp hi) (fun _ => rfl) (fun i hi hn => absurd ((hmem i).mpr hi) hn)) $$ HY
  iintro HY
  iapply Hk
  isplitl [H]; · iexact H
  isplitl [HY]; · iexact HY
  isplitl [HQ]; · iexact HQ
  iexact HR

/-- A transfer of the broadcast. -/
theorem bc_send {α : Type} {Φ : α → sProp 𝕄} (k : Fin 7) {n : ℕ} (R : sProp 𝕄) {w : Eff F} {v v' : Memref sig .tc .vmem ⟨2, ![8, 128]⟩ .f32}
    {kt : PUnit → Prog (TpuEff nD τ sig (Elt F) Λ₀ .tc) α} (hw : Sd c w (.bc k) (.bcS k) v v')
    (hv : Vw (F := F) amaxM (slab c.val) v (atA c.val)) (hv' : Vw (F := F) amaxM (slab c.val) v' (atA c.val)) :
    iprop(Core X W K c (54 + k.val) n m ∗ ownB X W c (remS k.val) ∗ KQ c k.val ∗ BC c k.val ∗ R)
      ⊢ iprop((iprop(Core X W K c (54 + (k.val + 1)) n m ∗ ownB X W c (remS (k.val + 1)) ∗ KQ c (k.val + 1) ∗ BC c (k.val + 1) ∗ R) -∗ WP c (kt ⟨⟩) Φ)
        -∗ WP c (.op w kt) Φ) := by
  have hq : KQ (F := F) c k.val = iprop(anyH (F := F) (evT (.bc k) c) amaxM (slab c.val) ∗ KQ c (k.val + 1)) := by
    unfold KQ
    have : Finset.Ico 1 (8 - k.val) = insert (7 - k.val) (Finset.Ico 1 (8 - (k.val + 1))) := by ext x; have := k.isLt; simp only [Finset.mem_Ico, Finset.mem_insert]; omega
    rw [this, bs_insert (by have := k.isLt; simp only [Finset.mem_Ico]; omega)]
    rw [bc_tgt]
  have h := send_ev X W K c (kt := kt) (Φ := Φ) (m := m) (n := n) (.bc k) hw hv hv' (fun _ => omax X W c) (fun _ => omax X W c) (fun y => rfl) (giveS k.val)
    (iprop(emp)) (by show _ ⊢ ownB X W c (giveS k.val); exact Entails.rfl)
    (by refine .trans ?_ (Entails.of_eq (pay_bcT X W c k).symm)
        iintro ⟨H, -⟩
        iexact H) (p := 54 + k.val) rfl rfl
  rw [hq]
  iintro ⟨H, HO, ⟨HA, HQ⟩, HC, HR⟩ Hk
  ihave HO := (held_share (c : Thread nD τ) amaxM (remS k.val) (rem_give k.val) (slab c.val) (fun _ => omax X W c)) $$ HO
  icases HO with ⟨HG, HO⟩
  iapply h $$ [H HG HA]
  · isplitl [H]; · iexact H
    isplitl [HG]; · iexact HG
    isplitl [HA]; · iexact HA
    iempintro
  iintro ⟨H, C⟩
  iapply Hk
  isplitl [H]; · iexact H
  isplitl [HO]; · iexact HO
  isplitl [HQ]; · iexact HQ
  isplitr [HR]
  · unfold BC
    rw [flt_succ, bs_insert (not_mem_flt k)]
    isplitl [C]; · iexact C
    iexact HC
  iexact HR

theorem below_bc : ∀ k : Fin 7, Below 61 (.bcR k) 0 := by decide +kernel

/-- A wait for another device's maximum. -/
theorem bc_recv {α : Type} {Φ : α → sProp 𝕄} (k : Fin 7) (R : sProp 𝕄) {w : Eff F} {kt : PUnit → Prog (TpuEff nD τ sig (Elt F) Λ₀ .tc) α} (hw : Wt c w (.bcR k)) :
    iprop(Core X W K c 61 (81 + k.val) m ∗ BR X W c k.val ∗ R)
      ⊢ iprop((iprop(Core X W K c 61 (81 + (k.val + 1)) m ∗ BR X W c (k.val + 1) ∗ R) -∗ WP c (kt ⟨⟩) Φ) -∗ WP c (.op w kt) Φ) := by
  iintro ⟨H, HB, HR⟩ Hk
  iapply (wait_ev X W K c 61 m (.bc k) rfl hw rfl (n := 81 + k.val) rfl (below_bc k) (by intro h; cases h)) $$ H
  iintro ⟨H, -, HP⟩
  ihave HP := (Entails.of_eq (pay_bcR X W c k)) $$ HP
  iapply Hk
  isplitl [H]; · iexact H
  isplitr [HR]
  · unfold BR
    rw [flt_succ, bs_insert (not_mem_flt k)]
    isplitl [HP]; · iexact HP
    iexact HB
  iexact HR

/-- A wait for a transfer of the broadcast to have gone. -/
theorem bc_sent {α : Type} {Φ : α → sProp 𝕄} (k : Fin 7) (R : sProp 𝕄) {w : Eff F} {kt : PUnit → Prog (TpuEff nD τ sig (Elt F) Λ₀ .tc) α} (hw : Wt c w (.bcS k)) :
    iprop(Core X W K c 61 (88 + k.val) m ∗ (bigSep (Finset.univ \ flt k.val) fun i => crK (F := F) c (.bcS i) 0) ∗ BS X W c k.val ∗ R)
      ⊢ iprop((iprop(Core X W K c 61 (88 + (k.val + 1)) m ∗ (bigSep (Finset.univ \ flt (k.val + 1)) fun i => crK (F := F) c (.bcS i) 0) ∗ BS X W c (k.val + 1) ∗ R)
          -∗ WP c (kt ⟨⟩) Φ) -∗ WP c (.op w kt) Φ) := by
  rw [flt_rest, bs_insert (not_mem_rest k)]
  iintro ⟨H, ⟨C, HC⟩, HB, HR⟩ Hk
  iapply (wait_self X W K c 61 m hw 0 (n := 88 + k.val) rfl Nat.one_pos (below_zero 61 _ 0 rfl) (by intro h; cases h) (by intro e; cases e <;> simp [evK])) $$ [H C]
  · isplitl [H]; · iexact H
    iexact C
  iintro ⟨H, HP⟩
  ihave HP := (Entails.of_eq (pay_bcS X W c k)) $$ HP
  iapply Hk
  isplitl [H]; · iexact H
  isplitl [HC]; · iexact HC
  isplitr [HR]
  · unfold BS
    rw [flt_succ, bs_insert (not_mem_flt k)]
    isplitl [HP]; · iexact HP
    iexact HB
  iexact HR

/-- The shares put together again. -/
theorem unshare (k : ℕ) (hk : k ≤ 7) : iprop(ownB X W c (remS k) ∗ BS X W c k) ⊢ (ownB X W c fullShare : sProp 𝕄) := by
  induction k with
  | zero => iintro ⟨H, -⟩; iexact H
  | succ k ih =>
    have h : BS X W c (k + 1) = iprop(ownB X W c (giveS k) ∗ BS X W c k) := by
      unfold BS
      rw [flt_succ ⟨k, by omega⟩, bs_insert (not_mem_flt ⟨k, by omega⟩)]
    rw [h]
    iintro ⟨H, HG, HB⟩
    iapply (ih (by omega))
    isplitl [H HG]
    · iapply (held_unshare (c : Thread nD τ) amaxM (remS k) (rem_give k) (slab c.val) (fun _ => omax X W c) (fun _ => omax X W c))
      isplitl [HG]; · iexact HG
      iexact H
    iexact HB

/-- The blocks of the devices at most `k` behind. -/
def behind (c : Dev nD) (k : ℕ) : Finset S8x8x128.Idx := Finset.univ.filter fun i => (c.val + 8 - (i 0).val) % 8 ≤ k

theorem amaxV_of (j : Dev nD) (i : S8x8x128.Idx) (hi : i ∈ slab j.val) : omax X W j = amaxV X W i := by
  unfold amaxV
  congr 1
  have hj : j.val < 8 := j.isLt
  simp only [slab, Finset.mem_filter, Finset.mem_univ, _root_.true_and] at hi
  refine Fin.ext ?_
  simp only [devN]; omega

/-- The blocks put together. -/
theorem table (k : ℕ) (hk : k ≤ 7) : iprop(ownB X W c fullShare ∗ BR X W c k) ⊢ (held (c : Thread nD τ) amaxM fullShare (behind c k) (amaxV X W) : sProp 𝕄) := by
  have hc : c.val < 8 := c.isLt
  induction k with
  | zero =>
    have : behind c 0 = slab c.val := by
      ext i
      have h0 : (i 0).val < 8 := (i 0).isLt
      simp only [behind, mem_slab, Finset.mem_filter, Finset.mem_univ, _root_.true_and]
      exact (fun a b (ha : a < 8) (hb : b < 8) => (by omega : (a + 8 - b) % 8 ≤ 0 ↔ b = a % 8)) c.val (i 0).val hc h0
    rw [this]
    iintro ⟨H, -⟩
    iapply (held_congr (c : Thread nD τ) amaxM fullShare (fun i hi => amaxV_of X W c i hi))
    iexact H
  | succ k ih =>
    have h : BR X W c (k + 1) = iprop(held (c : Thread nD τ) amaxM fullShare (slab (c.val + 7 - k)) (fun _ => omax X W (devN (c.val + 7 - k))) ∗ BR X W c k) := by
      unfold BR
      rw [flt_succ ⟨k, by omega⟩, bs_insert (not_mem_flt ⟨k, by omega⟩)]
    have hs : slab (c.val + 7 - k) = slab (devN (c.val + 7 - k)).val := slab_mod (by simp [devN])
    have hu : behind c (k + 1) = slab (devN (c.val + 7 - k)).val ∪ behind c k := by
      ext i
      have h0 : (i 0).val < 8 := (i 0).isLt
      simp only [behind, devN, Finset.mem_filter, Finset.mem_univ, _root_.true_and, Finset.mem_union, mem_slab]
      exact (fun a b (ha : a < 8) (hb : b < 8) => (by omega : (a + 8 - b) % 8 ≤ k + 1 ↔ b = (a + 7 - k) % 8 % 8 ∨ (a + 8 - b) % 8 ≤ k)) c.val (i 0).val hc h0
    have hd : Disjoint (slab (devN (c.val + 7 - k)).val) (behind c k) := by
      rw [Finset.disjoint_left]
      intro i
      have h0 : (i 0).val < 8 := (i 0).isLt
      simp only [behind, devN, mem_slab, Finset.mem_filter, Finset.mem_univ, _root_.true_and]
      exact (fun a b (ha : a < 8) (hb : b < 8) => (by omega : b = (a + 7 - k) % 8 % 8 → ¬ (a + 8 - b) % 8 ≤ k)) c.val (i 0).val hc h0
    rw [h, hs, hu]
    iintro ⟨H, HB, HR⟩
    iapply (held_join (c : Thread nD τ) amaxM fullShare hd (amaxV X W))
    isplitl [HB]
    · iapply (held_congr (c : Thread nD τ) amaxM fullShare (fun i hi => amaxV_of X W (devN (c.val + 7 - k)) i hi))
      iexact HB
    iapply (ih (by omega))
    isplitl [H]; · iexact H
    iexact HR

/-- The load of the whole table. -/
theorem amax_load {α : Type} {Φ : α → sProp 𝕄} {p n : ℕ} (R C : sProp 𝕄) {i hl} {kt : Vec F S8x8x128 .f32 → Prog (TpuEff nD τ sig (Elt F) Λ₀ .tc) α} :
    iprop(Core X W K c p n m ∗ C ∗ BS X W c 7 ∗ (ownB X W c (remS 7) ∗ BR X W c 7 ∗ R))
      ⊢ iprop((iprop(Core X W K c p n m ∗ (held (c : Thread nD τ) amaxM fullShare Finset.univ (amaxV X W) ∗ R)) -∗ WP c (kt (amaxV X W)) Φ)
        -∗ WP c (.op (.load amaxM (Rect.unit (s := S8x8x128) ![0, 0, 0] S8x8x128.size i).toLoadRect hl) kt) Φ) := by
  have hu : behind c 7 = Finset.univ := by
    ext i; simp only [behind, Finset.mem_filter, Finset.mem_univ, _root_.true_and, iff_true]
    exact Nat.le_of_lt_succ (Nat.mod_lt _ (by decide))
  iintro ⟨H, -, HB, HO, HT, HR⟩ Hk
  ihave HO := (unshare X W 7 le_rfl) $$ [HO HB]
  · isplitl [HO]; · iexact HO
    iexact HB
  ihave HT := (table X W 7 le_rfl) $$ [HO HT]
  · isplitl [HO]; · iexact HO
    iexact HT
  ihave HT := (Entails.of_eq (by rw [hu])) $$ HT
  iapply (ld Finset.univ fullShare (amaxV X W) (amaxV X W) (fun i _ => Finset.mem_univ i)
    (fun j => congrArg (amaxV X W) (funext fun a => Fin.ext (by
      refine (rect_emb (s := S8x8x128) (inb := i) j a).trans ?_
      fin_cases a <;> exact Nat.zero_add _)))) $$ HT
  iintro HT
  iapply Hk
  isplitl [H]; · iexact H
  isplitl [HT]; · iexact HT
  iexact HR

end
end

end Cert.KernelIdealProof

end
-- ==== Proof.Gather.lean ====
/-
# The all-gather, step by step

Quantising the own chunk, passing the quantised chunks round, dequantising them and copying them to the output. Each rule
takes the device's whole state at a place to its state at the next.
-/
module

public import proofs.«01_k».proof.Proof.Table

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (X : Dev nD → S4096x512.Idx → Elt F .bf16) (W : Dev nD → S512x8192.Idx → Elt F .bf16)

/-- Slot `s` of both directions' buffers of chunks, free. -/
def AnyC (c : Dev nD) (s : ℕ) : sProp 𝕄 := iprop(anyH (F := F) c (commM false) (slot s) ∗ anyH (F := F) c (commM true) (slot s))
/-- Slot `s` of both directions' buffers of quantised chunks, free, -/
def AnyQ (c : Dev nD) (s : ℕ) : sProp 𝕄 := iprop(anyH (F := F) c (qcM false) (slot s) ∗ anyH (F := F) c (qcM true) (slot s))
/-- and holding the chunk that has come `r` hops. -/
def Hq (c : Dev nD) (sh : PosShare TreeShare) (r : ℕ) : sProp 𝕄 :=
  iprop(held (c : Thread nD τ) (qcM false) sh (slot r) (inSlot (qV X W false (srcN false r c))) ∗ held (c : Thread nD τ) (qcM true) sh (slot r) (inSlot (qV X W true (srcN true r c))))
/-- The credit of the transfers of step `r`. -/
def Qc (c : Dev nD) (r : Fin 7) : sProp 𝕄 := iprop(crK (F := F) c (.agS false r) 0 ∗ crK (F := F) c (.agS true r) 0)
/-- What the neighbours wait for before they send the next chunk. -/
def Qr (c : Dev nD) (r : ℕ) : sProp 𝕄 :=
  iprop(AnyQ (F := F) c (r + 1) ∗ reached ER (cell (src false c) (.ac false)) r ∗ reached ER (cell (src true c) (.ac true)) r)
/-- The piece of the output that came `i` hops. -/
def PO (c : Dev nD) (i : ℕ) : sProp 𝕄 :=
  iprop(held (c : Thread nD τ) outM fullShare (outP (srcN false i c).val false) (outV X W c) ∗ held (c : Thread nD τ) outM fullShare (outP (srcN true i c).val true) (outV X W c))
/-- The pieces written once `k` hops are done. -/
def WO (c : Dev nD) (k : ℕ) : sProp 𝕄 := bigSep (Finset.Ico 1 (k + 1)) fun i => PO X W c i
/-- The credit of the copies of the own chunk. -/
def Oc (c : Dev nD) : sProp 𝕄 := iprop(crK (F := F) c (.od false) 0 ∗ crK (F := F) c (.od true) 0)

theorem inSlot_at {α : Type} (V : ℕ → ℕ → α) (a : ℕ) (y : (⟨2, ![512, 4096]⟩ : Shape).Idx) : inSlot V (at3 a 0 y) = V (y 0).val (y 1).val := by
  have h0 : (y 0).val < 512 := (y 0).isLt
  have h1 : (y 1).val < 4096 := (y 1).isLt
  have e0 : (at3 a 0 y 1).val = (y 0).val := by
    refine (Nat.mod_eq_of_lt ?_).trans (Nat.zero_add _)
    show 0 + (y 0).val < 512
    omega
  have e1 : (at3 a 0 y 2).val = (y 1).val := by
    refine (Nat.mod_eq_of_lt ?_).trans (Nat.zero_add _)
    show 0 + (y 1).val < 4096
    omega
  unfold inSlot
  rw [e0, e1]

theorem outV_at (c : Dev nD) (d : Bool) (j : Dev nD) (y : (⟨2, ![512, 4096]⟩ : Shape).Idx) :
    outV X W c (atO j.val d y) = outC X W c d j (y 0).val (y 1).val := by
  have hj : j.val < 8 := j.isLt
  have h0 : (y 0).val < 512 := (y 0).isLt
  have h1 : (y 1).val < 4096 := (y 1).isLt
  have e0 : (atO j.val d y 0).val = 512 * j.val + (y 0).val := Nat.mod_eq_of_lt (by show 512 * j.val + (y 0).val < 4096; omega)
  have hd : b2 d ≤ 1 := by cases d <;> decide
  have e1 : (atO j.val d y 1).val = 4096 * b2 d + (y 1).val := Nat.mod_eq_of_lt (by show 4096 * b2 d + (y 1).val < 8192; omega)
  unfold outV
  rw [e0, e1]
  have a1 : decide (4096 ≤ 4096 * b2 d + (y 1).val) = d := by
    cases d
    · simp only [b2, decide_eq_false_iff_not]; simp; omega
    · simp [b2]
  have a2 : devN ((512 * j.val + (y 0).val) / 512) = j := Fin.ext (by simp only [devN]; omega)
  have a3 : (512 * j.val + (y 0).val) % 512 = (y 0).val := by omega
  have a4 : (4096 * b2 d + (y 1).val) % 4096 = (y 1).val := by omega
  rw [a1, a2, a3, a4]

theorem srcN_ne : ∀ (d : Bool) (s : Fin 7) (c : Dev nD), srcN d (s.val + 1) c ≠ c := by decide

section
variable (K : CK → ℕ) {c : Dev nD} {p m : ℕ}

theorem pay_agS (d : Bool) (s : Fin 7) : pay X W c (.agS d s) 0 false = held (c : Thread nD τ) (qcM d) fullShare.left (slot s.val) (inSlot (qV X W d (srcN d s.val c))) := rfl
theorem pay_agR (d : Bool) (s : Fin 7) : pay X W c (evK (.ag d s)) (evR (.ag d s)) false
    = iprop(held (c : Thread nD τ) (qcM d) fullShare (slot (s.val + 1)) (inSlot (qV X W d (srcN d (s.val + 1) c))) ∗ reached ER (cell (src d c) (.ac d)) (s.val + 1)) := rfl
theorem pay_ac (d : Bool) (s : Fin 7) : pay X W c (evK (.ac d s)) (evR (.ac d s)) false = anyH (F := F) (tgt d c) (qcM d) (slot (s.val + 1)) := rfl
theorem pay_od (d : Bool) : pay X W c (.od d) 0 false = iprop(anyH (F := F) c (commM d) (slot 0) ∗ held (c : Thread nD τ) outM fullShare (outP c.val d) (outV X W c)) := rfl
theorem pay_ob (d : Bool) (r : ℕ) : pay X W c (.ob d) r false
    = iprop(anyH (F := F) c (commM d) (slot (r + 1)) ∗ held (c : Thread nD τ) outM fullShare (outP (srcN d (r + 1) c).val d) (outV X W c)) := rfl

theorem prk_ag (s : Fin 7) : prk (.ac false s) = 61 + 4 * s.val ∧ prk (.ac true s) = 61 + 4 * s.val + 1 ∧ prk (.ag false s) = 61 + 4 * s.val + 2 ∧ prk (.ag true s) = 61 + 4 * s.val + 3 := by
  revert s; decide
theorem wr_ag (s : Fin 7) : wr (.agR false s) 0 = wr (.agS false s) 0 + 1 ∧ wr (.agS true s) 0 = wr (.agS false s) 0 + 1 + 1
    ∧ wr (.agR true s) 0 = wr (.agS false s) 0 + 1 + 1 + 1 ∧ wr (.ac true) s.val = wr (.ac false) s.val + 1 ∧ wr (.ob true) s.val = wr (.ob false) s.val + 1 := by revert s; decide +kernel
theorem below_ag : ∀ (d : Bool) (s : Fin 7), Below (65 + 4 * s.val) (.agR d s) 0 ∧ Below (61 + 4 * s.val + 2) (.ac d) s.val := by decide +kernel

/-- A transfer of the all-gather. -/
theorem ag_send {α : Type} {Φ : α → sProp 𝕄} (d : Bool) (s : Fin 7) {n : ℕ} (hp : prk (.ag d s) = p) {w : Eff F} {kt : PUnit → Prog (TpuEff nD τ sig (Elt F) Λ₀ .tc) α}
    {v v' : Memref sig .tc .vmem ⟨2, ![512, 4096]⟩ .i8} {a a' : ℕ}
    (hw : Sd c w (.ag d s) (.agS d s) v v') (hv : Vw (F := F) (qcM d) (slot s.val) v (at3 a 0)) (hv' : Vw (F := F) (qcM d) (slot (s.val + 1)) v' (at3 a' 0)) :
    iprop(Core X W K c p n m ∗ held (c : Thread nD τ) (qcM d) fullShare.left (slot s.val) (inSlot (qV X W d (srcN d s.val c)))
        ∗ anyH (F := F) (tgt d c) (qcM d) (slot (s.val + 1)) ∗ reached ER (cell c (.ac d)) (s.val + 1))
      ⊢ iprop(((Core X W K c (p + 1) n m ∗ crK c (.agS d s) 0) -∗ WP c (kt ⟨⟩) Φ) -∗ WP c (.op w kt) Φ) := by
  have h := send_ev X W K c (kt := kt) (Φ := Φ) (m := m) (n := n) (.ag d s) hw hv hv' (inSlot (qV X W d (srcN d s.val c))) (inSlot (qV X W d (srcN d s.val c))) (fun y => rfl)
    fullShare.left (iprop(reached ER (cell c (.ac d)) (s.val + 1)))
    (Entails.of_eq (pay_agS X W d s).symm)
    (by show _ ⊢ iprop(held ((tgt d c : Dev nD) : Thread nD τ) (qcM d) fullShare (slot (s.val + 1)) (inSlot (qV X W d (srcN d (s.val + 1) (tgt d c))))
          ∗ reached ER (cell (src d (tgt d c)) (.ac d)) (s.val + 1))
        rw [src_tgt, srcN_tgt]
        exact Entails.rfl) hp rfl
  exact h

/-- The waits of step `s`: the chunk sent is there, and the next has come. -/
theorem ag_waits {α : Type} {Φ : α → sProp 𝕄} (s : Fin 7) {n : ℕ} (A B : sProp 𝕄) (hp : p = 65 + 4 * s.val) (hn : wr (.agS false s) 0 = n)
    {w₁ w₂ w₃ w₄ : Eff F} {kt : PUnit → Prog (TpuEff nD τ sig (Elt F) Λ₀ .tc) α}
    (h₁ : Wt c w₁ (.agS false s)) (h₂ : Wt c w₂ (.agR false s)) (h₃ : Wt c w₃ (.agS true s)) (h₄ : Wt c w₄ (.agR true s)) :
    iprop(Core X W K c p n m ∗ Hq X W c fullShare.right s.val ∗ Qc c s ∗ A)
      ⊢ iprop((iprop(Core X W K c p (n + 4) m ∗ Hq X W c fullShare (s.val + 1) ∗ Qr c (s.val + 1) ∗ A) -∗ WP c (kt ⟨⟩) Φ)
        -∗ WP c (.op w₁ fun _ => .op w₂ fun _ => .op w₃ fun _ => .op w₄ kt) Φ) := by
  subst hn
  subst hp
  obtain ⟨e₂, e₃, e₄, -⟩ := wr_ag s
  have hs2 : (slot (s.val + 1 + 1) : Finset S2x512x4096.Idx) = slot s.val := by unfold slot; rw [Nat.add_assoc, Nat.add_mod_right]
  unfold Hq Qc Qr AnyQ
  rw [hs2]
  iintro ⟨H, ⟨Q1, Q2⟩, ⟨C1, C2⟩, HR⟩ Hk
  iapply (wait_self X W K c _ m h₁ 0 rfl Nat.one_pos (below_zero _ _ 0 rfl) (by intro h; cases h) (by intro e; cases e <;> simp [evK])) $$ [H C1]
  · isplitl [H]; · iexact H
    iexact C1
  iintro ⟨H, P1⟩
  iapply (wait_ev X W K c _ m (.ag false s) rfl h₂ rfl e₂ (below_ag false s).1 (by intro h; cases h)) $$ H
  iintro ⟨H, -, P2⟩
  iapply (wait_self X W K c _ m h₃ 0 e₃ Nat.one_pos (below_zero _ _ 0 rfl) (by intro h; cases h) (by intro e; cases e <;> simp [evK])) $$ [H C2]
  · isplitl [H]; · iexact H
    iexact C2
  iintro ⟨H, P3⟩
  iapply (wait_ev X W K c _ m (.ag true s) rfl h₄ rfl e₄ (below_ag true s).1 (by intro h; cases h)) $$ H
  iintro ⟨H, -, P4⟩
  ihave P1 := (Entails.of_eq (pay_agS X W false s)) $$ P1
  ihave P3 := (Entails.of_eq (pay_agS X W true s)) $$ P3
  ihave P2 := (Entails.of_eq (pay_agR X W false s)) $$ P2
  ihave P4 := (Entails.of_eq (pay_agR X W true s)) $$ P4
  icases P2 with ⟨V1, R1⟩
  icases P4 with ⟨V2, R2⟩
  ihave Q1 := (held_unshare (c : Thread nD τ) (qcM false) fullShare (PosShare.mem_left_op_right fullShare) (slot s.val) _ _) $$ [P1 Q1]
  · isplitl [P1]; · iexact P1
    iexact Q1
  ihave Q2 := (held_unshare (c : Thread nD τ) (qcM true) fullShare (PosShare.mem_left_op_right fullShare) (slot s.val) _ _) $$ [P3 Q2]
  · isplitl [P3]; · iexact P3
    iexact Q2
  iapply Hk
  isplitl [H]; · iexact H
  isplitl [V1 V2]
  · isplitl [V1]; · iexact V1
    iexact V2
  isplitr [HR]
  · unfold anyH
    isplitl [Q1 Q2]
    · isplitl [Q1]; · iexists _; iexact Q1
      iexists _; iexact Q2
    isplitl [R1]; · iexact R1
    iexact R2
  iexact HR

/-- The next chunk sent on, once the neighbours have room for it. -/
theorem ag_sends {α : Type} {Φ : α → sProp 𝕄} (s : Fin 7) {n : ℕ} (A : sProp 𝕄) (hp : p = 61 + 4 * s.val) (hn : wr (.ac false) s.val = n)
    {g₁ g₂ w₁ w₂ x₁ x₂ : Eff F} {kt : PUnit → Prog (TpuEff nD τ sig (Elt F) Λ₀ .tc) α}
    {v₁ v₁' v₂ v₂' : Memref sig .tc .vmem ⟨2, ![512, 4096]⟩ .i8} {a₁ a₁' a₂ a₂' : ℕ}
    (hg₁ : Sg c g₁ (.ac false s)) (hg₂ : Sg c g₂ (.ac true s)) (h₁ : Wt c w₁ (.ac false)) (h₂ : Wt c w₂ (.ac true))
    (hx₁ : Sd c x₁ (.ag false s) (.agS false s) v₁ v₁') (hv₁ : Vw (F := F) (qcM false) (slot s.val) v₁ (at3 a₁ 0)) (hv₁' : Vw (F := F) (qcM false) (slot (s.val + 1)) v₁' (at3 a₁' 0))
    (hx₂ : Sd c x₂ (.ag true s) (.agS true s) v₂ v₂') (hv₂ : Vw (F := F) (qcM true) (slot s.val) v₂ (at3 a₂ 0)) (hv₂' : Vw (F := F) (qcM true) (slot (s.val + 1)) v₂' (at3 a₂' 0)) :
    iprop(Core X W K c p n m ∗ Hq X W c fullShare s.val ∗ Qr c s.val ∗ A)
      ⊢ iprop((iprop(Core X W K c (p + 4) (n + 2) m ∗ Hq X W c fullShare.right s.val ∗ Qc c s ∗ A) -∗ WP c (kt ⟨⟩) Φ)
        -∗ WP c (.op g₁ fun _ => .op g₂ fun _ => .op w₁ fun _ => .op w₂ fun _ => .op x₁ fun _ => .op x₂ kt) Φ) := by
  subst hn; subst hp
  obtain ⟨p₁, p₂, p₃, p₄⟩ := prk_ag s
  obtain ⟨-, -, -, e₂, -⟩ := wr_ag s
  unfold Hq Qc Qr AnyQ
  iintro ⟨H, ⟨Q1, Q2⟩, ⟨⟨A1, A2⟩, #R1, #R2⟩, HR⟩ Hk
  iapply (signal_ev X W K c m (.ac false s) hg₁ p₁ rfl) $$ [H A1]
  · isplitl [H]; · iexact H
    isplitr; · iexact R1
    iapply (Entails.of_eq (by show _ = anyH (F := F) (tgt false (src false c)) (qcM false) (slot (s.val + 1)); rw [tgt_src])) $$ A1
  iintro H
  iapply (signal_ev X W K c m (.ac true s) hg₂ p₂ rfl) $$ [H A2]
  · isplitl [H]; · iexact H
    isplitr; · iexact R2
    iapply (Entails.of_eq (by show _ = anyH (F := F) (tgt true (src true c)) (qcM true) (slot (s.val + 1)); rw [tgt_src])) $$ A2
  iintro H
  iapply (wait_ev X W K c (61 + 4 * s.val + 1 + 1) m (.ac false s) rfl h₁ rfl (n := wr (.ac false) s.val) rfl ((below_ag false s).2) (by intro h; cases h)) $$ H
  iintro ⟨H, #R3, A1⟩
  iapply (wait_ev X W K c (61 + 4 * s.val + 1 + 1) m (.ac true s) rfl h₂ rfl e₂ ((below_ag true s).2) (by intro h; cases h)) $$ H
  iintro ⟨H, #R4, A2⟩
  ihave Q1 := (held_share (c : Thread nD τ) (qcM false) fullShare (PosShare.mem_left_op_right fullShare) (slot s.val) _) $$ Q1
  icases Q1 with ⟨L1, Q1⟩
  ihave Q2 := (held_share (c : Thread nD τ) (qcM true) fullShare (PosShare.mem_left_op_right fullShare) (slot s.val) _) $$ Q2
  icases Q2 with ⟨L2, Q2⟩
  iapply (ag_send X W K false s p₃ hx₁ hv₁ hv₁') $$ [H L1 A1]
  · isplitl [H]; · iexact H
    isplitl [L1]; · iexact L1
    isplitl [A1]; · iapply (Entails.of_eq (pay_ac X W false s)) $$ A1
    iexact R3
  iintro ⟨H, C1⟩
  iapply (ag_send X W K true s p₄ hx₂ hv₂ hv₂') $$ [H L2 A2]
  · isplitl [H]; · iexact H
    isplitl [L2]; · iexact L2
    isplitl [A2]; · iapply (Entails.of_eq (pay_ac X W true s)) $$ A2
    iexact R4
  iintro ⟨H, C2⟩
  iapply Hk
  isplitl [H]; · iexact H
  isplitl [Q1 Q2]
  · isplitl [Q1]; · iexact Q1
    iexact Q2
  isplitl [C1 C2]
  · isplitl [C1]; · iexact C1
    iexact C2
  iexact HR

/-- The own chunk quantised, its two copies to the output started. -/
theorem own_block {α : Type} {Φ : α → sProp 𝕄} {n : ℕ} (R : sProp 𝕄) (hm : m = 0) (hn : cnt n (.od false) = 0 ∧ cnt n (.od true) = 0) {w₁ w₂ : Eff F}
    {kt : PUnit → Prog (TpuEff nD τ sig (Elt F) Λ₀ .tc) α}
    {lb ub st : BitVec 32} {hok : Scf.OK lb ub st} {body : Fin (Scf.trips lb ub st) → Unit → Prog (TpuEff nD τ sig (Elt F) Λ₀ .tc) Unit}
    {v₁ v₂ : Memref sig .tc .vmem ⟨2, ![512, 4096]⟩ .bf16} {v₁' v₂' : Memref sig .tc .hbm ⟨2, ![512, 4096]⟩ .bf16} {a₁ a₂ : ℕ}
    (h4 : Scf.trips lb ub st = 4)
    (hb : ∀ O (k : Fin (Scf.trips lb ub st)) a, iprop(quantAt X W c O false k.val ∗ quantAt X W c O true k.val)
      ⊢ WP c (body k a) fun _ => iprop(quantAt X W c O false (k.val + 1) ∗ quantAt X W c O true (k.val + 1)))
    (h₁ : Cp c w₁ 0 v₁ v₁') (hv₁ : Vw (F := F) (commM false) (slot 0) v₁ (at3 a₁ 0)) (hv₁' : Vw (F := F) outM (outP c.val false) v₁' (atO c.val false))
    (h₂ : Cp c w₂ 1 v₂ v₂') (hv₂ : Vw (F := F) (commM true) (slot 0) v₂ (at3 a₂ 0)) (hv₂' : Vw (F := F) outM (outP c.val true) v₂' (atO c.val true)) :
    iprop(Core X W K c p n m ∗ (held (c : Thread nD τ) (commM false) fullShare (slot 0) (inSlot (rsV X W false 7 c)) ∗ held (c : Thread nD τ) (commM true) fullShare (slot 0) (inSlot (rsV X W true 7 c)))
        ∗ AnyQ c 0 ∗ R)
      ⊢ iprop((iprop(Core X W K c p n (m + 2) ∗ Hq X W c fullShare 0 ∗ Oc c ∗ R) -∗ WP c (kt ⟨⟩) Φ)
        -∗ WP c (Scf.for lb ub st hok ⟨⟩ body >>= fun _ => .op w₁ fun _ => .op w₂ kt) Φ) := by
  subst hm
  obtain ⟨n₁, n₂⟩ := hn
  unfold AnyQ anyH
  iintro ⟨H, ⟨V1, V2⟩, ⟨⟨%O1, A1⟩, ⟨%O2, A2⟩⟩, HR⟩ Hk
  iapply (quant_loop X W (fun d => bif d then O2 else O1) h4 (hb _)) $$ [V1 V2 A1 A2]
  · simp only [quantAt, mix3_zero]
    isplitl [V1 A1]
    · isplitl [V1]; · iexact V1
      iexact A1
    isplitl [V2]; · iexact V2
    iexact A2
  simp only [quantAt, mix3_four]
  iintro ⟨⟨V1, A1⟩, ⟨V2, A2⟩⟩
  iapply (copy_x X W K c _ 0 h₁ hv₁ hv₁' (inSlot (ownOutV X W false c)) (outV X W c)
    (fun y => (outV_at X W c false c y).trans ((if_pos rfl).trans (inSlot_at _ _ y).symm)) fullShare
    (by refine .trans ?_ (Entails.of_eq (pay_od X W false).symm)
        unfold anyH
        iintro ⟨H1, H2⟩
        isplitl [H2]; · iexists _; iexact H2
        iexact H1) rfl n₁) $$ [H V1]
  · isplitl [H]; · iexact H
    iexact V1
  iintro ⟨H, C1⟩
  iapply (copy_x X W K c _ 1 h₂ hv₂ hv₂' (inSlot (ownOutV X W true c)) (outV X W c)
    (fun y => (outV_at X W c true c y).trans ((if_pos rfl).trans (inSlot_at _ _ y).symm)) fullShare
    (by refine .trans ?_ (Entails.of_eq (pay_od X W true).symm)
        unfold anyH
        iintro ⟨H1, H2⟩
        isplitl [H2]; · iexists _; iexact H2
        iexact H1) rfl n₂) $$ [H V2]
  · isplitl [H]; · iexact H
    iexact V2
  iintro ⟨H, C2⟩
  iapply Hk
  isplitl [H]; · iexact H
  isplitl [A1 A2]
  · unfold Hq
    rw [srcN_zero, srcN_zero]
    isplitl [A1]; · iexact A1
    iexact A2
  isplitl [C1 C2]
  · unfold Oc
    isplitl [C1]; · iexact C1
    iexact C2
  iexact HR

/-- The own chunk is written. -/
theorem own_waits {α : Type} {Φ : α → sProp 𝕄} {n : ℕ} (A B R : sProp 𝕄) (hn : n = 111) {w₁ w₂ : Eff F} {kt : PUnit → Prog (TpuEff nD τ sig (Elt F) Λ₀ .tc) α}
    (h₁ : Wt c w₁ (.od false)) (h₂ : Wt c w₂ (.od true)) :
    iprop(Core X W K c p n m ∗ A ∗ B ∗ Oc c ∗ R)
      ⊢ iprop((iprop(Core X W K c p (n + 2) m ∗ A ∗ B ∗ AnyC c 0 ∗ R ∗ PO X W c 0) -∗ WP c (kt ⟨⟩) Φ) -∗ WP c (.op w₁ fun _ => .op w₂ kt) Φ) := by
  subst hn
  unfold Oc
  iintro ⟨H, HA, HB, ⟨C1, C2⟩, HR⟩ Hk
  iapply (wait_self X W K c p m h₁ 0 rfl Nat.one_pos (below_zero _ _ 0 rfl) (by intro h; cases h) (by intro e; cases e <;> simp [evK])) $$ [H C1]
  · isplitl [H]; · iexact H
    iexact C1
  iintro ⟨H, P1⟩
  iapply (wait_self X W K c p m h₂ 0 rfl Nat.one_pos (below_zero _ _ 0 rfl) (by intro h; cases h) (by intro e; cases e <;> simp [evK])) $$ [H C2]
  · isplitl [H]; · iexact H
    iexact C2
  iintro ⟨H, P2⟩
  ihave P1 := (Entails.of_eq (pay_od X W false)) $$ P1
  icases P1 with ⟨A1, O1⟩
  ihave P2 := (Entails.of_eq (pay_od X W true)) $$ P2
  icases P2 with ⟨A2, O2⟩
  iapply Hk
  isplitl [H]; · iexact H
  isplitl [HA]; · iexact HA
  isplitl [HB]; · iexact HB
  isplitl [A1 A2]
  · unfold AnyC
    isplitl [A1]; · iexact A1
    iexact A2
  isplitl [HR]; · iexact HR
  unfold PO
  rw [srcN_zero, srcN_zero]
  isplitl [O1]; · iexact O1
  iexact O2

theorem cp_ob (s : Fin 7) : (2 + 2 * s.val < 16 ∧ 3 + 2 * s.val < 16) := by omega
/-- The copies of the chunk that came `s + 1` hops. -/
def cx (d : Bool) (s : Fin 7) : Fin 16 := ⟨2 + 2 * s.val + b2 d, by have := s.isLt; cases d <;> simp [b2] <;> omega⟩
theorem cx_K : ∀ (d : Bool) (s : Fin 7), cpK (cx d s) = .ob d := by decide
theorem cx_R : ∀ (d : Bool) (s : Fin 7), cpR (cx d s) = s.val := by decide
theorem cx_A (d : Bool) (s : Fin 7) (c : Dev nD) : cpA c (cx d s) = outP (srcN d (s.val + 1) c).val d := by
  unfold cpA; rw [cx_K, cx_R]
theorem cnt_ob (d : Bool) (s : Fin 7) : cnt (wr (.ob false) s.val) (.ob d) = s.val := by revert d s; decide +kernel

/-- A copy of a chunk received. -/
theorem ob_copy {α : Type} {Φ : α → sProp 𝕄} (d : Bool) (s : Fin 7) {n : ℕ} (hm : 2 + 2 * s.val + b2 d = m) (hn : wr (.ob false) s.val = n)
    {w : Eff F} {kt : PUnit → Prog (TpuEff nD τ sig (Elt F) Λ₀ .tc) α}
    {v : Memref sig .tc .vmem ⟨2, ![512, 4096]⟩ .bf16} {v' : Memref sig .tc .hbm ⟨2, ![512, 4096]⟩ .bf16} {a : ℕ}
    (h : Cp c w (cx d s) v v') (hv : Vw (F := F) (commM d) (slot (s.val + 1)) v (at3 a 0)) (hv' : Vw (F := F) outM (outP (srcN d (s.val + 1) c).val d) v' (atO (srcN d (s.val + 1) c).val d)) :
    iprop(Core X W K c p n m ∗ held (c : Thread nD τ) (commM d) fullShare (slot (s.val + 1)) (inSlot (deqV X W d (srcN d (s.val + 1) c))))
      ⊢ iprop(((Core X W K c p n (m + 1) ∗ crK c (.ob d) s.val) -∗ WP c (kt ⟨⟩) Φ) -∗ WP c (.op w kt) Φ) := by
  subst hn
  have r := copy_x X W K c (p := p) (n := wr (.ob false) s.val) (kt := kt) (Φ := Φ) (cx d s) (m := m) h hv (φ' := atO (srcN d (s.val + 1) c).val d) (by rw [cx_A]; exact hv') (inSlot (deqV X W d (srcN d (s.val + 1) c))) (outV X W c)
    (fun y => (outV_at X W c d _ y).trans ((if_neg (srcN_ne d s c)).trans (inSlot_at _ _ y).symm)) fullShare
    (by rw [cx_A, cx_K, cx_R]
        refine .trans ?_ (Entails.of_eq (pay_ob X W d s.val).symm)
        unfold anyH
        iintro ⟨H1, H2⟩
        isplitl [H2]; · iexists _; iexact H2
        iexact H1) hm (by rw [cx_K, cx_R]; exact cnt_ob d s)
  rw [cx_K, cx_R] at r
  exact r

/-- A chunk received, dequantised and written. -/
theorem deq_block {α : Type} {Φ : α → sProp 𝕄} (s : Fin 7) (sh : PosShare TreeShare) {n : ℕ} (Q B R : sProp 𝕄) (hm : 2 + 2 * s.val = m) (hn : wr (.ob false) s.val = n)
    {x₁ x₂ w₁ w₂ : Eff F} {kt : PUnit → Prog (TpuEff nD τ sig (Elt F) Λ₀ .tc) α}
    {lb ub st : BitVec 32} {hok : Scf.OK lb ub st} {body : Fin (Scf.trips lb ub st) → Unit → Prog (TpuEff nD τ sig (Elt F) Λ₀ .tc) Unit}
    {v₁ v₂ : Memref sig .tc .vmem ⟨2, ![512, 4096]⟩ .bf16} {v₁' v₂' : Memref sig .tc .hbm ⟨2, ![512, 4096]⟩ .bf16} {a₁ a₂ : ℕ}
    (h4 : Scf.trips lb ub st = 4)
    (hb : ∀ O (k : Fin (Scf.trips lb ub st)) a, iprop(deqAt X W c sh O (s.val + 1) (fun d => srcN d (s.val + 1) c) false k.val ∗ deqAt X W c sh O (s.val + 1) (fun d => srcN d (s.val + 1) c) true k.val)
      ⊢ WP c (body k a) fun _ => iprop(deqAt X W c sh O (s.val + 1) (fun d => srcN d (s.val + 1) c) false (k.val + 1) ∗ deqAt X W c sh O (s.val + 1) (fun d => srcN d (s.val + 1) c) true (k.val + 1)))
    (hx₁ : Cp c x₁ (cx false s) v₁ v₁') (hv₁ : Vw (F := F) (commM false) (slot (s.val + 1)) v₁ (at3 a₁ 0))
    (hv₁' : Vw (F := F) outM (outP (srcN false (s.val + 1) c).val false) v₁' (atO (srcN false (s.val + 1) c).val false))
    (hx₂ : Cp c x₂ (cx true s) v₂ v₂') (hv₂ : Vw (F := F) (commM true) (slot (s.val + 1)) v₂ (at3 a₂ 0))
    (hv₂' : Vw (F := F) outM (outP (srcN true (s.val + 1) c).val true) v₂' (atO (srcN true (s.val + 1) c).val true))
    (h₁ : Wt c w₁ (.ob false)) (h₂ : Wt c w₂ (.ob true)) :
    iprop(Core X W K c p n m ∗ Hq X W c sh (s.val + 1) ∗ Q ∗ AnyC c (s.val + 1) ∗ B ∗ WO X W c s.val ∗ R)
      ⊢ iprop((iprop(Core X W K c p (n + 2) (m + 2) ∗ Hq X W c sh (s.val + 1) ∗ Q ∗ B ∗ AnyC c (s.val + 1) ∗ WO X W c (s.val + 1) ∗ R) -∗ WP c (kt ⟨⟩) Φ)
        -∗ WP c (Scf.for lb ub st hok ⟨⟩ body >>= fun _ => .op x₁ fun _ => .op x₂ fun _ => .op w₁ fun _ => .op w₂ kt) Φ) := by
  obtain ⟨-, -, -, -, e₂⟩ := wr_ag s
  have hI : WO X W c (s.val + 1) = iprop(PO X W c (s.val + 1) ∗ WO X W c s.val) := by
    unfold WO
    have : Finset.Ico 1 (s.val + 1 + 1) = insert (s.val + 1) (Finset.Ico 1 (s.val + 1)) := by ext x; simp only [Finset.mem_Ico, Finset.mem_insert]; omega
    rw [this, bs_insert (by simp)]
  rw [hI]
  unfold Hq AnyC anyH
  iintro ⟨H, ⟨Q1, Q2⟩, HQ, ⟨⟨%O1, A1⟩, ⟨%O2, A2⟩⟩, HB, HW, HR⟩ Hk
  iapply (deq_loop X W sh (fun d => bif d then O2 else O1) (s.val + 1) (fun d => srcN d (s.val + 1) c) h4 (hb _)) $$ [Q1 Q2 A1 A2]
  · simp only [deqAt, mix3_zero]
    isplitl [Q1 A1]
    · isplitl [Q1]; · iexact Q1
      iexact A1
    isplitl [Q2]; · iexact Q2
    iexact A2
  simp only [deqAt, mix3_four]
  iintro ⟨⟨Q1, A1⟩, ⟨Q2, A2⟩⟩
  iapply (ob_copy X W K false s hm hn hx₁ hv₁ hv₁') $$ [H A1]
  · isplitl [H]; · iexact H
    iexact A1
  iintro ⟨H, C1⟩
  iapply (ob_copy X W K true s (congrArg (· + 1) hm) hn hx₂ hv₂ hv₂') $$ [H A2]
  · isplitl [H]; · iexact H
    iexact A2
  iintro ⟨H, C2⟩
  iapply (wait_self X W K c p _ h₁ s.val hn (by have := s.isLt; show s.val < 7; omega) (below_zero _ _ _ rfl) (by intro h; cases h) (by intro e; cases e <;> simp [evK])) $$ [H C1]
  · isplitl [H]; · iexact H
    iexact C1
  iintro ⟨H, P1⟩
  iapply (wait_self X W K c p _ h₂ s.val (e₂.trans (congrArg (· + 1) hn)) (by have := s.isLt; show s.val < 7; omega) (below_zero _ _ _ rfl) (by intro h; cases h) (by intro e; cases e <;> simp [evK])) $$ [H C2]
  · isplitl [H]; · iexact H
    iexact C2
  iintro ⟨H, P2⟩
  ihave P1 := (Entails.of_eq (pay_ob X W false s.val)) $$ P1
  icases P1 with ⟨A1, O1⟩
  ihave P2 := (Entails.of_eq (pay_ob X W true s.val)) $$ P2
  icases P2 with ⟨A2, O2⟩
  iapply Hk
  isplitl [H]; · iexact H
  isplitl [Q1 Q2]
  · isplitl [Q1]; · iexact Q1
    iexact Q2
  isplitl [HQ]; · iexact HQ
  isplitl [HB]; · iexact HB
  isplitl [A1 A2]
  · unfold anyH
    isplitl [A1]; · iexact A1
    iexact A2
  isplitr [HR]
  · isplitl [O1 O2]
    · unfold PO
      isplitl [O1]; · iexact O1
      iexact O2
    iexact HW
  iexact HR

end
end

end Cert.KernelIdealProof

end
-- ==== Proof.Start.lean ====
/-
# The barrier and the joints between the phases

Rules for the first product, the barrier and the first transfers, and the cuts and joins of memory between one phase of
the program and the next.
-/
module

public import proofs.«01_k».proof.Proof.Gather

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (X : Dev nD → S4096x512.Idx → Elt F .bf16) (W : Dev nD → S512x8192.Idx → Elt F .bf16)

/-! ## Cuts and joins -/

theorem anyH_cut {c : Dev nD} {sp : Space} {s : Shape} {e : EltTy} {m : Memref sig .tc sp s e} {A B : Finset s.Idx} (h : Disjoint A B) :
    anyH (F := F) c m (A ∪ B) ⊢ iprop(anyH (F := F) c m A ∗ anyH (F := F) c m B) := by
  unfold anyH
  iintro ⟨%Y, H⟩
  ihave H := (held_cut (c : Thread nD τ) m fullShare h Y) $$ H
  icases H with ⟨H1, H2⟩
  isplitl [H1]; · iexists Y; iexact H1
  iexists Y; iexact H2

theorem anyH_join {c : Dev nD} {sp : Space} {s : Shape} {e : EltTy} {m : Memref sig .tc sp s e} {A B : Finset s.Idx} (h : Disjoint A B) :
    iprop(anyH (F := F) c m A ∗ anyH (F := F) c m B) ⊢ anyH (F := F) c m (A ∪ B) := by
  unfold anyH
  iintro ⟨⟨%Y, H1⟩, ⟨%Z, H2⟩⟩
  iexists (fun i => if i ∈ A then Y i else Z i)
  iapply (held_join (c : Thread nD τ) m fullShare h _)
  isplitl [H1]
  · iapply (held_congr (c : Thread nD τ) m fullShare (fun i hi => (if_pos hi).symm)) $$ H1
  iapply (held_congr (c : Thread nD τ) m fullShare (fun i hi => (if_neg (Finset.disjoint_right.mp h hi)).symm)) $$ H2

theorem anyH_of {c : Dev nD} {sp : Space} {s : Shape} {e : EltTy} {m : Memref sig .tc sp s e} {A : Finset s.Idx} (Y : s.Idx → Elt F e) :
    (held (c : Thread nD τ) m fullShare A Y : sProp 𝕄) ⊢ anyH (F := F) c m A := by
  unfold anyH
  iintro H
  iexists Y; iexact H

theorem slots_disj : Disjoint (slot 0) (slot 1) := by
  rw [Finset.disjoint_left]
  intro i
  simp only [slot, Finset.mem_filter, Finset.mem_univ, _root_.true_and]; omega
theorem slots_univ : slot 0 ∪ slot 1 = Finset.univ := by
  ext i
  have : (i 0).val < 2 := (i 0).isLt
  simp only [slot, Finset.mem_filter, Finset.mem_univ, _root_.true_and, Finset.mem_union, iff_true]; omega
theorem pieces_disj (s : ℕ) : Disjoint (piece s 0) (piece s 1) := by
  rw [Finset.disjoint_left]
  intro i
  simp only [piece, Finset.mem_filter, Finset.mem_univ, _root_.true_and]; omega
theorem pieces_slot (s : ℕ) : piece s 0 ∪ piece s 1 = slot s := by
  ext i
  have : (i 2).val < 4096 := (i 2).isLt
  simp only [slot, piece, Finset.mem_filter, Finset.mem_univ, _root_.true_and, Finset.mem_union]; omega

theorem any_slots {c : Dev nD} {e : EltTy} {m : Memref sig .tc .vmem S2x512x4096 e} :
    anyH (F := F) c m Finset.univ ⊢ iprop(anyH (F := F) c m (slot 0) ∗ anyH (F := F) c m (slot 1)) := by
  rw [← slots_univ]; exact anyH_cut slots_disj
theorem slots_any {c : Dev nD} {e : EltTy} {m : Memref sig .tc .vmem S2x512x4096 e} :
    iprop(anyH (F := F) c m (slot 0) ∗ anyH (F := F) c m (slot 1)) ⊢ anyH (F := F) c m Finset.univ := by
  rw [← slots_univ]; exact anyH_join slots_disj
theorem any_pieces {c : Dev nD} {e : EltTy} {m : Memref sig .tc .vmem S2x512x4096 e} (s : ℕ) :
    anyH (F := F) c m (slot s) ⊢ iprop(anyH (F := F) c m (piece s 0) ∗ anyH (F := F) c m (piece s 1)) := by
  rw [← pieces_slot]; exact anyH_cut (pieces_disj s)
theorem pieces_any {c : Dev nD} {e : EltTy} {m : Memref sig .tc .vmem S2x512x4096 e} (s : ℕ) :
    iprop(anyH (F := F) c m (piece s 0) ∗ anyH (F := F) c m (piece s 1)) ⊢ anyH (F := F) c m (slot s) := by
  rw [← pieces_slot]; exact anyH_join (pieces_disj s)

/-- The blocks at distance at least `k` above device `c`'s. -/
def above (c : Dev nD) (k : ℕ) : Finset S8x8x128.Idx := Finset.univ.filter fun i => k ≤ ((i 0).val + 8 - c.val) % 8

theorem bun_cut (c : Dev nD) (k : ℕ) (hk : k ≤ 8) :
    anyH (F := F) c amaxM (above c (8 - k)) ⊢ bigSep (Finset.Ico (8 - k) 8) fun k => anyH (F := F) c amaxM (slab (c.val + k)) := by
  have hc : c.val < 8 := c.isLt
  induction k with
  | zero =>
    iintro -
    iapply (Entails.of_eq (by rw [show Finset.Ico (8 - 0) 8 = (∅ : Finset ℕ) by decide]; rfl : (iprop(emp) : sProp 𝕄) = _))
    iempintro
  | succ k ih =>
    have h1 : Finset.Ico (8 - (k + 1)) 8 = insert (8 - (k + 1)) (Finset.Ico (8 - k) 8) := by ext x; simp only [Finset.mem_Ico, Finset.mem_insert]; omega
    have h2 : above c (8 - (k + 1)) = slab (c.val + (8 - (k + 1))) ∪ above c (8 - k) := by
      ext i
      have h0 : (i 0).val < 8 := (i 0).isLt
      simp only [above, Finset.mem_filter, Finset.mem_univ, _root_.true_and, Finset.mem_union, mem_slab]
      exact (fun a b (ha : a < 8) (hb : b < 8) => (by omega : 8 - (k + 1) ≤ (b + 8 - a) % 8 ↔ b = (a + (8 - (k + 1))) % 8 ∨ 8 - k ≤ (b + 8 - a) % 8)) c.val (i 0).val hc h0
    have h3 : Disjoint (slab (c.val + (8 - (k + 1)))) (above c (8 - k)) := by
      rw [Finset.disjoint_left]
      intro i
      have h0 : (i 0).val < 8 := (i 0).isLt
      simp only [above, Finset.mem_filter, Finset.mem_univ, _root_.true_and, mem_slab]
      exact (fun a b (ha : a < 8) (hb : b < 8) => (by omega : b = (a + (8 - (k + 1))) % 8 → ¬ 8 - k ≤ (b + 8 - a) % 8)) c.val (i 0).val hc h0
    rw [h1, bs_insert (by simp only [Finset.mem_Ico]; omega), h2]
    iintro H
    ihave H := (anyH_cut h3) $$ H
    icases H with ⟨H1, H2⟩
    isplitl [H1]; · iexact H1
    iapply (ih (by omega)) $$ H2

theorem emp_empty {T : Type} (P : T → sProp 𝕄) : (iprop(emp) : sProp 𝕄) ⊢ bigSep ∅ P := Entails.of_eq rfl

/-- The table of maxima before the program, cut. -/
theorem table_cut (c : Dev nD) : anyH (F := F) c amaxM Finset.univ ⊢ iprop(KP (F := F) c 0 ∗ bun (F := F) c 0) := by
  have h := bun_cut (F := F) c 8 le_rfl
  have h1 : above c (8 - 8) = Finset.univ := by ext i; simp [above]
  have h2 : Finset.Ico (8 - 8) 8 = insert 0 (Finset.Ico (0 + 1) 8) := by decide
  rw [h1, h2, bs_insert (by decide)] at h
  refine h.trans ?_
  unfold KP bun
  rw [show Finset.range (0 + 1) = insert 0 ∅ by decide, bs_insert (by decide), srcN_zero]
  iintro ⟨H1, H2⟩
  isplitl [H1]
  · isplitl [H1]; · iexact H1
    iapply (emp_empty (F := F) (fun i => anyH (F := F) (srcN false i c) amaxM (slab c.val)))
    iempintro
  iexact H2

/-! ## The first steps -/

/-- The operands. -/
def XW (c : Dev nD) : sProp 𝕄 := iprop(held (c : Thread nD τ) xM fullShare Finset.univ (X c) ∗ held (c : Thread nD τ) wM fullShare Finset.univ (W c))
/-- The buffers of partial products, at anything. -/
def PBx (c : Dev nD) : sProp 𝕄 := iprop(anyH (F := F) c (pbM false) Finset.univ ∗ anyH (F := F) c (pbM true) Finset.univ)

theorem PB_any (c : Dev nD) (n : ℕ) : PB X W c n ⊢ PBx (F := F) c := by
  unfold PB PBx
  iintro ⟨H1, H2⟩
  isplitl [H1]; · iapply (anyH_of _) $$ H1
  iapply (anyH_of _) $$ H2

section
variable (K : CK → ℕ) {c : Dev nD} {m : ℕ}

/-- The partial products of a step computed. -/
theorem gemm_block {α : Type} {Φ : α → sProp 𝕄} (n : ℕ) {P : sProp 𝕄} (hP : P ⊢ PBx (F := F) c) (H A B C R : sProp 𝕄)
    {kk : Unit → Prog (TpuEff nD τ sig (Elt F) Λ₀ .tc) α}
    {lb ub st : BitVec 32} {hok : Scf.OK lb ub st} {body : Fin (Scf.trips lb ub st) → Unit → Prog (TpuEff nD τ sig (Elt F) Λ₀ .tc) Unit}
    (h4 : Scf.trips lb ub st = 4)
    (hb : ∀ (O : Bool → S512x4096.Idx → Elt F .bf16) (k : Fin (Scf.trips lb ub st)) a,
      iprop(held (c : Thread nD τ) xM fullShare Finset.univ (X c) ∗ held (c : Thread nD τ) wM fullShare Finset.univ (W c)
        ∗ pbAt c (fun d => pgV X W d n c) O false k.val ∗ pbAt c (fun d => pgV X W d n c) O true k.val)
      ⊢ WP c (body k a) fun _ => iprop(held (c : Thread nD τ) xM fullShare Finset.univ (X c) ∗ held (c : Thread nD τ) wM fullShare Finset.univ (W c)
        ∗ pbAt c (fun d => pgV X W d n c) O false (k.val + 1) ∗ pbAt c (fun d => pgV X W d n c) O true (k.val + 1))) :
    iprop(H ∗ A ∗ B ∗ P ∗ C ∗ XW X W c ∗ R)
      ⊢ iprop((iprop(H ∗ A ∗ B ∗ PB X W c n ∗ C ∗ XW X W c ∗ R) -∗ WP c (kk ⟨⟩) Φ) -∗ WP c (Scf.for lb ub st hok ⟨⟩ body >>= kk) Φ) := by
  iintro ⟨H, HA, HB, HP, HC, HX, HR⟩ Hk
  ihave HP := hP $$ HP
  unfold PBx anyH XW PB
  icases HP with ⟨⟨%O1, P1⟩, ⟨%O2, P2⟩⟩
  icases HX with ⟨HX, HW⟩
  iapply (gemm_loop X W n (fun d => bif d then O2 else O1) h4 (hb _)) $$ [HX HW P1 P2]
  · isplitl [HX]; · iexact HX
    isplitl [HW]; · iexact HW
    isplitl [P1]; · iexact P1
    iexact P2
  iintro ⟨HX, HW, P1, P2⟩
  iapply Hk
  isplitl [H]; · iexact H
  isplitl [HA]; · iexact HA
  isplitl [HB]; · iexact HB
  isplitl [P1 P2]
  · isplitl [P1]; · iexact P1
    iexact P2
  isplitl [HC]; · iexact HC
  isplitl [HX HW]
  · isplitl [HX]; · iexact HX
    iexact HW
  iexact HR

/-- The first partial products computed. -/
theorem gemm0_block {α : Type} {Φ : α → sProp 𝕄} (H R : sProp 𝕄) {kk : Unit → Prog (TpuEff nD τ sig (Elt F) Λ₀ .tc) α}
    {lb ub st : BitVec 32} {hok : Scf.OK lb ub st} {body : Fin (Scf.trips lb ub st) → Unit → Prog (TpuEff nD τ sig (Elt F) Λ₀ .tc) Unit}
    (h4 : Scf.trips lb ub st = 4)
    (hb : ∀ (O : Bool → S2x512x4096.Idx → Elt F .bf16) (k : Fin (Scf.trips lb ub st)) a,
      iprop(held (c : Thread nD τ) xM fullShare Finset.univ (X c) ∗ held (c : Thread nD τ) wM fullShare Finset.univ (W c)
        ∗ cmAt c (reg 0 0 4096) (fun d => pgV X W d 0 c) O false k.val ∗ cmAt c (reg 0 0 4096) (fun d => pgV X W d 0 c) O true k.val)
      ⊢ WP c (body k a) fun _ => iprop(held (c : Thread nD τ) xM fullShare Finset.univ (X c) ∗ held (c : Thread nD τ) wM fullShare Finset.univ (W c)
        ∗ cmAt c (reg 0 0 4096) (fun d => pgV X W d 0 c) O false (k.val + 1) ∗ cmAt c (reg 0 0 4096) (fun d => pgV X W d 0 c) O true (k.val + 1))) :
    iprop(H ∗ AnyC (F := F) c 0 ∗ XW X W c ∗ R)
      ⊢ iprop((iprop(H ∗ (held (c : Thread nD τ) (commM false) fullShare (slot 0) (inSlot (pgV X W false 0 c)) ∗ held (c : Thread nD τ) (commM true) fullShare (slot 0) (inSlot (pgV X W true 0 c)))
          ∗ XW X W c ∗ R) -∗ WP c (kk ⟨⟩) Φ) -∗ WP c (Scf.for lb ub st hok ⟨⟩ body >>= kk) Φ) := by
  rw [slot_reg]
  unfold AnyC anyH XW
  rw [slot_reg]
  iintro ⟨H, ⟨⟨%O1, P1⟩, ⟨%O2, P2⟩⟩, ⟨HX, HW⟩, HR⟩ Hk
  iapply (gemm0_loop X W (fun d => bif d then O2 else O1) h4 (hb _)) $$ [HX HW P1 P2]
  · isplitl [HX]; · iexact HX
    isplitl [HW]; · iexact HW
    isplitl [P1]; · iexact P1
    iexact P2
  iintro ⟨HX, HW, P1, P2⟩
  iapply Hk
  isplitl [H]; · iexact H
  isplitl [P1 P2]
  · isplitl [P1]; · iexact P1
    iexact P2
  isplitl [HX HW]
  · isplitl [HX]; · iexact HX
    iexact HW
  iexact HR

theorem core_reached0 {p n : ℕ} (c' : Dev nD) (k : Kd) : Core X W K c p n m ⊢ iprop(Core X W K c p n m ∗ reached ER (cell c' k) 0) := by
  unfold Core
  iintro ⟨#HR, H⟩
  isplitl
  · isplitr; · iexact HR
    iexact H
  iapply (Recs_reached X W K c' k); iexact HR

theorem pay_bar (d : Bool) : pay X W c .bar 0 d = anyH (F := F) (tgt d c) (commM d) (slot 1) := rfl

/-- The neighbours' slots 1, a half of the columns each. -/
def NS (c : Dev nD) (q : ℕ) : sProp 𝕄 := iprop(anyH (F := F) (tgt false c) (commM false) (piece 1 q) ∗ anyH (F := F) (tgt true c) (commM true) (piece 1 q))

/-- The barrier: slot 1 given to the neighbours, theirs taken. -/
theorem bar_block {α : Type} {Φ : α → sProp 𝕄} (A R : sProp 𝕄) {g₁ g₂ w : Eff F} {kt : PUnit → Prog (TpuEff nD τ sig (Elt F) Λ₀ .tc) α}
    (hg₁ : Sg c g₁ (.bar false)) (hg₂ : Sg c g₂ (.bar true)) (hw : Wt c w .bar) :
    iprop(Core X W K c 0 0 m ∗ A ∗ AnyC (F := F) c 1 ∗ R)
      ⊢ iprop((iprop(Core X W K c 2 1 m ∗ A ∗ (NS (F := F) c 0 ∗ NS (F := F) c 1) ∗ R) -∗ WP c (kt ⟨⟩) Φ) -∗ WP c (.op g₁ fun _ => .op g₂ fun _ => .op w kt) Φ) := by
  unfold AnyC NS
  iintro ⟨H, HA, ⟨A1, A2⟩, HR⟩ Hk
  ihave H := (core_reached0 X W K (src false c) .bar) $$ H
  icases H with ⟨H, #R1⟩
  ihave H := (core_reached0 X W K (src true c) .bar) $$ H
  icases H with ⟨H, #R2⟩
  iapply (signal_ev X W K c m (.bar false) hg₁ rfl rfl) $$ [H A1]
  · isplitl [H]; · iexact H
    isplitr; · iexact R1
    iapply (Entails.of_eq (by show _ = anyH (F := F) (tgt false (src false c)) (commM false) (slot 1); rw [tgt_src])) $$ A1
  iintro H
  iapply (signal_ev X W K c m (.bar true) hg₂ (p := 0 + 1) rfl rfl) $$ [H A2]
  · isplitl [H]; · iexact H
    isplitr; · iexact R2
    iapply (Entails.of_eq (by show _ = anyH (F := F) (tgt true (src true c)) (commM true) (slot 1); rw [tgt_src])) $$ A2
  iintro H
  iapply (wait_bar X W K c _ m hw (by decide +kernel)) $$ H
  iintro ⟨H, P1, P2⟩
  ihave P1 := (Entails.of_eq (pay_bar X W false)) $$ P1
  ihave P2 := (Entails.of_eq (pay_bar X W true)) $$ P2
  ihave P1 := (any_pieces 1) $$ P1
  icases P1 with ⟨P1, P1'⟩
  ihave P2 := (any_pieces 1) $$ P2
  icases P2 with ⟨P2, P2'⟩
  iapply Hk
  isplitl [H]; · iexact H
  isplitl [HA]; · iexact HA
  isplitr [HR]
  · isplitl [P1 P2]
    · isplitl [P1]; · iexact P1
      iexact P2
    isplitl [P1']; · iexact P1'
    iexact P2'
  iexact HR

theorem prk_rs0 : ∀ q : Fin 2, prk (.rs true 0 q) = prk (.rs false 0 q) + 1 := by decide

/-- The first transfers of half `q`. -/
theorem send_block {α : Type} {Φ : α → sProp 𝕄} (q : Fin 2) {p n : ℕ} (A R : sProp 𝕄) (hp : prk (.rs false 0 q) = p) {x₁ x₂ : Eff F} {kt : PUnit → Prog (TpuEff nD τ sig (Elt F) Λ₀ .tc) α}
    {v₁ v₁' v₂ v₂' : Memref sig .tc .vmem ⟨2, ![512, 2048]⟩ .bf16} {a₁ a₁' c₁ a₂ a₂' c₂ : ℕ}
    (hx₁ : Sd c x₁ (.rs false 0 q) (.rsS false 0 q) v₁ v₁') (hv₁ : Vw (F := F) (commM false) (piece 0 q.val) v₁ (at3 a₁ c₁)) (hv₁' : Vw (F := F) (commM false) (piece 1 q.val) v₁' (at3 a₁' c₁))
    (hx₂ : Sd c x₂ (.rs true 0 q) (.rsS true 0 q) v₂ v₂') (hv₂ : Vw (F := F) (commM true) (piece 0 q.val) v₂ (at3 a₂ c₂)) (hv₂' : Vw (F := F) (commM true) (piece 1 q.val) v₂' (at3 a₂' c₂)) :
    iprop(Core X W K c p n m ∗ A ∗ ((held (c : Thread nD τ) (commM false) fullShare (piece 0 q.val) (inSlot (rsV X W false 0 c)) ∗ held (c : Thread nD τ) (commM true) fullShare (piece 0 q.val) (inSlot (rsV X W true 0 c)))
        ∗ NS (F := F) c q.val ∗ bunI (F := F) false q c 0) ∗ R)
      ⊢ iprop((iprop(Core X W K c (p + 2) n m ∗ A ∗ CR (F := F) c 0 q ∗ R) -∗ WP c (kt ⟨⟩) Φ) -∗ WP c (.op x₁ fun _ => .op x₂ kt) Φ) := by
  subst hp
  unfold NS CR
  iintro ⟨H, HA, ⟨⟨V1, V2⟩, ⟨N1, N2⟩, B⟩, HR⟩ Hk
  ihave H := (core_reached0 X W K c (.rc false q)) $$ H
  icases H with ⟨H, #R1⟩
  ihave H := (core_reached0 X W K c (.rc true q)) $$ H
  icases H with ⟨H, #R2⟩
  iapply (rs_send X W K false 0 q rfl hx₁ hv₁ hv₁') $$ [H V1 N1 B]
  · isplitl [H]; · iexact H
    isplitl [V1]; · iexact V1
    isplitl [N1]; · iexact N1
    isplitr; · iexact R1
    iapply (Entails.of_eq (by show _ = bunI (F := F) false q (srcN false 0 c) 0; rw [srcN_zero])) $$ B
  iintro ⟨H, C1⟩
  iapply (rs_send X W K true 0 q (prk_rs0 q) hx₂ hv₂ hv₂') $$ [H V2 N2]
  · isplitl [H]; · iexact H
    isplitl [V2]; · iexact V2
    isplitl [N2]; · iexact N2
    isplitr; · iexact R2
    unfold bunI
    iapply (Entails.of_eq (by simp : (iprop(emp) : sProp 𝕄) = _))
    iempintro
  iintro ⟨H, C2⟩
  iapply Hk
  isplitl [H]; · iexact H
  isplitl [HA]; · iexact HA
  isplitl [C1 C2]
  · isplitl [C1]; · iexact C1
    iexact C2
  iexact HR

end
end

end Cert.KernelIdealProof

end
-- ==== Proof.Joints.lean ====
/-
# The state between one phase and the next, rearranged

What a device owns at the end of a phase, in the order the next phase wants it.
-/
module

public import proofs.«01_k».proof.Proof.Start

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (X : Dev nD → S4096x512.Idx → Elt F .bf16) (W : Dev nD → S512x8192.Idx → Elt F .bf16)

/-- The output's chunks of direction `d` that came at most `k` hops. -/
def outUp (c : Dev nD) (d : Bool) (k : ℕ) : Finset S4096x8192.Idx :=
  Finset.univ.filter fun i => (i 1).val / 4096 = b2 d ∧ (bif d then (i 0).val / 512 + 8 - c.val else c.val + 8 - (i 0).val / 512) % 8 ≤ k

theorem mem_outP {j : ℕ} {d : Bool} {i : S4096x8192.Idx} : i ∈ outP j d ↔ (i 0).val / 512 = j ∧ (i 1).val / 4096 = b2 d := by simp [outP]
theorem mem_outUp {c : Dev nD} {d : Bool} {k : ℕ} {i : S4096x8192.Idx} : i ∈ outUp c d k ↔
    (i 1).val / 4096 = b2 d ∧ (bif d then (i 0).val / 512 + 8 - c.val else c.val + 8 - (i 0).val / 512) % 8 ≤ k := by simp [outUp]

theorem outUp_zero (c : Dev nD) (d : Bool) : outUp c d 0 = outP (srcN d 0 c).val d := by
  ext i
  have hc : c.val < 8 := c.isLt
  have hi : (i 0).val < 4096 := (i 0).isLt
  rw [mem_outP, mem_outUp, srcN_zero]
  cases d <;> simp only [cond_true, cond_false] <;> constructor <;> rintro ⟨h1, h2⟩ <;> refine ⟨?_, ?_⟩ <;> first | assumption | omega

theorem outUp_succ (c : Dev nD) (d : Bool) (k : ℕ) (hk : k < 7) :
    outUp c d (k + 1) = outP (srcN d (k + 1) c).val d ∪ outUp c d k ∧ Disjoint (outP (srcN d (k + 1) c).val d) (outUp c d k) := by
  have hc : c.val < 8 := c.isLt
  refine ⟨?_, ?_⟩
  · ext i
    have hi : (i 0).val < 4096 := (i 0).isLt
    rw [Finset.mem_union, mem_outP, mem_outUp, mem_outUp]
    have h : ∀ a j b : ℕ, a < 8 → j < 8 → (b = b2 d ∧ (bif d then j + 8 - a else a + 8 - j) % 8 ≤ k + 1
        ↔ (j = (a + (k + 1) * bif d then 1 else 7) % 8 ∧ b = b2 d) ∨ b = b2 d ∧ (bif d then j + 8 - a else a + 8 - j) % 8 ≤ k) := fun a j b ha hj => by
      by_cases hb : b = b2 d
      · cases d <;> simp only [hb, cond_true, cond_false, _root_.true_and, _root_.and_true] <;> omega
      · simp [hb]
    exact h c.val ((i 0).val / 512) _ hc (by omega)
  · rw [Finset.disjoint_left]
    intro i
    have hi : (i 0).val < 4096 := (i 0).isLt
    rw [mem_outP, mem_outUp]
    have h : ∀ a j b : ℕ, a < 8 → j < 8 → (j = (a + (k + 1) * bif d then 1 else 7) % 8 ∧ b = b2 d) → ¬ (b = b2 d ∧ (bif d then j + 8 - a else a + 8 - j) % 8 ≤ k) := fun a j b ha hj => by
      cases d <;> simp only [cond_true, cond_false] <;> omega
    exact h c.val ((i 0).val / 512) _ hc (by omega)

theorem outUp_univ (c : Dev nD) : outUp c false 7 ∪ outUp c true 7 = Finset.univ ∧ Disjoint (outUp c false 7) (outUp c true 7) := by
  refine ⟨?_, ?_⟩
  · ext i
    have hi : (i 1).val < 8192 := (i 1).isLt
    rw [Finset.mem_union, mem_outUp, mem_outUp]
    simp only [Finset.mem_univ, iff_true, b2, cond_true, cond_false, Bool.false_eq_true, if_false, if_true]
    omega
  · rw [Finset.disjoint_left]
    intro i
    rw [mem_outUp, mem_outUp]
    rintro ⟨h, -⟩ ⟨h', -⟩
    rw [h] at h'
    exact absurd h' (by decide)

/-- The chunks written make the output. -/
theorem out_join (c : Dev nD) : iprop(PO X W c 0 ∗ WO X W c 7) ⊢ (held (c : Thread nD τ) outM fullShare Finset.univ (outV X W c) : sProp 𝕄) := by
  have h : ∀ k, k ≤ 7 → iprop(PO X W c 0 ∗ WO X W c k)
      ⊢ iprop(held (c : Thread nD τ) outM fullShare (outUp c false k) (outV X W c) ∗ held (c : Thread nD τ) outM fullShare (outUp c true k) (outV X W c)) := by
    intro k
    induction k with
    | zero =>
      intro _
      rw [outUp_zero, outUp_zero]
      unfold PO
      iintro ⟨H, -⟩
      iexact H
    | succ k ih =>
      intro hk
      obtain ⟨e1, d1⟩ := outUp_succ c false k (by omega)
      obtain ⟨e2, d2⟩ := outUp_succ c true k (by omega)
      have hI : WO X W c (k + 1) = iprop(PO X W c (k + 1) ∗ WO X W c k) := by
        unfold WO
        have : Finset.Ico 1 (k + 1 + 1) = insert (k + 1) (Finset.Ico 1 (k + 1)) := by ext x; simp only [Finset.mem_Ico, Finset.mem_insert]; omega
        rw [this, bs_insert (by simp)]
      rw [hI, e1, e2]
      iintro ⟨H0, H1, H2⟩
      ihave H := (ih (by omega)) $$ [H0 H2]
      · isplitl [H0]; · iexact H0
        iexact H2
      unfold PO
      icases H with ⟨A1, A2⟩
      icases H1 with ⟨B1, B2⟩
      isplitl [A1 B1]
      · iapply (held_join (c : Thread nD τ) outM fullShare d1 _)
        isplitl [B1]; · iexact B1
        iexact A1
      iapply (held_join (c : Thread nD τ) outM fullShare d2 _)
      isplitl [B2]; · iexact B2
      iexact A2
  refine (h 7 le_rfl).trans ?_
  obtain ⟨e, d⟩ := outUp_univ c
  rw [← e]
  exact held_join (c : Thread nD τ) outM fullShare d _

variable (K : CK → ℕ) {c : Dev nD}

/-- What device `c` starts with. -/
def Init (c : Dev nD) : sProp 𝕄 :=
  iprop(Core X W K c 0 0 0 ∗ XW X W c ∗ (anyH (F := F) c (commM false) Finset.univ ∗ anyH (F := F) c (commM true) Finset.univ)
    ∗ (anyH (F := F) c (qcM false) Finset.univ ∗ anyH (F := F) c (qcM true) Finset.univ) ∗ PBx (F := F) c ∗ anyH (F := F) c amaxM Finset.univ)
/-- What it ends with. -/
def Done (c : Dev nD) : sProp 𝕄 :=
  iprop(Core X W K c 89 153 16 ∗ XW X W c ∗ (anyH (F := F) c (commM false) Finset.univ ∗ anyH (F := F) c (commM true) Finset.univ)
    ∗ (anyH (F := F) c (qcM false) Finset.univ ∗ anyH (F := F) c (qcM true) Finset.univ) ∗ PBx (F := F) c ∗ anyH (F := F) c amaxM Finset.univ
    ∗ held (c : Thread nD τ) outM fullShare Finset.univ (outV X W c))

/-- The quantised chunks' buffers, free. -/
abbrev QQ (c : Dev nD) : sProp 𝕄 := iprop(AnyQ (F := F) c 0 ∗ AnyQ (F := F) c 1)

theorem j_init : Init X W K c ⊢ iprop(Core X W K c 0 0 0 ∗ AnyC (F := F) c 0 ∗ XW X W c ∗ (AnyC (F := F) c 1 ∗ PBx (F := F) c ∗ QQ (F := F) c ∗ KP (F := F) c 0 ∗ bun (F := F) c 0)) := by
  unfold Init QQ AnyC AnyQ
  iintro ⟨H, HX, ⟨C1, C2⟩, ⟨Q1, Q2⟩, HP, HA⟩
  ihave C1 := any_slots $$ C1
  icases C1 with ⟨C10, C11⟩
  ihave C2 := any_slots $$ C2
  icases C2 with ⟨C20, C21⟩
  ihave Q1 := any_slots $$ Q1
  icases Q1 with ⟨Q10, Q11⟩
  ihave Q2 := any_slots $$ Q2
  icases Q2 with ⟨Q20, Q21⟩
  ihave HA := (table_cut c) $$ HA
  isplitl [H]; · iexact H
  isplitl [C10 C20]
  · isplitl [C10]; · iexact C10
    iexact C20
  isplitl [HX]; · iexact HX
  isplitl [C11 C21]
  · isplitl [C11]; · iexact C11
    iexact C21
  isplitl [HP]; · iexact HP
  isplitr [HA]
  · isplitl [Q10 Q20]
    · isplitl [Q10]; · iexact Q10
      iexact Q20
    isplitl [Q11]; · iexact Q11
    iexact Q21
  iexact HA

/-- Both directions' first products. -/
abbrev V0 (c : Dev nD) (A : Finset S2x512x4096.Idx) : sProp 𝕄 :=
  iprop(held (c : Thread nD τ) (commM false) fullShare A (inSlot (rsV X W false 0 c)) ∗ held (c : Thread nD τ) (commM true) fullShare A (inSlot (rsV X W true 0 c)))
/-- What the first transfers of half `q` take. -/
abbrev SD (c : Dev nD) (q : Fin 2) : sProp 𝕄 := iprop(V0 X W c (piece 0 q.val) ∗ NS (F := F) c q.val ∗ bunI (F := F) false q c 0)

theorem swap {P A B R : sProp 𝕄} : iprop(P ∗ A ∗ B ∗ R) ⊢ iprop(P ∗ B ∗ A ∗ R) := by
  iintro ⟨HP, HA, HB, HR⟩
  isplitl [HP]; · iexact HP
  isplitl [HB]; · iexact HB
  isplitl [HA]; · iexact HA
  iexact HR

theorem j_bar {H V XV A P Q T B : sProp 𝕄} : iprop(H ∗ V ∗ XV ∗ (A ∗ P ∗ Q ∗ T ∗ B)) ⊢ iprop(H ∗ (V ∗ B) ∗ A ∗ (P ∗ T ∗ XV ∗ Q)) := by
  iintro ⟨HH, HV, HX, HA, HP, HQ, HT, HB⟩
  isplitl [HH]; · iexact HH
  isplitl [HV HB]
  · isplitl [HV]; · iexact HV
    iexact HB
  isplitl [HA]; · iexact HA
  isplitl [HP]; · iexact HP
  isplitl [HT]; · iexact HT
  isplitl [HX]; · iexact HX
  iexact HQ

theorem j_send {H R : sProp 𝕄} : iprop(H ∗ (V0 X W c (slot 0) ∗ bun (F := F) c 0) ∗ (NS (F := F) c 0 ∗ NS (F := F) c 1) ∗ R) ⊢ iprop(H ∗ SD X W c 1 ∗ SD X W c 0 ∗ R) := by
  iintro ⟨HH, ⟨⟨V1, V2⟩, HB⟩, ⟨N0, N1⟩, HR⟩
  ihave V1 := (Entails.of_eq (by rw [← pieces_slot])) $$ V1
  ihave V2 := (Entails.of_eq (by rw [← pieces_slot])) $$ V2
  ihave V1 := (held_cut (c : Thread nD τ) (commM false) fullShare (pieces_disj 0) _) $$ V1
  icases V1 with ⟨V10, V11⟩
  ihave V2 := (held_cut (c : Thread nD τ) (commM true) fullShare (pieces_disj 0) _) $$ V2
  icases V2 with ⟨V20, V21⟩
  isplitl [HH]; · iexact HH
  isplitl [V11 V21 N1]
  · isplitl [V11 V21]
    · isplitl [V11]; · iexact V11
      iexact V21
    isplitl [N1]; · iexact N1
    unfold bunI
    iapply (Entails.of_eq (by simp : (iprop(emp) : sProp 𝕄) = _))
    iempintro
  isplitr [HR]
  · isplitl [V10 V20]
    · isplitl [V10]; · iexact V10
      iexact V20
    isplitl [N0]; · iexact N0
    unfold bunI
    iapply (Entails.of_eq (by simp : bun (F := F) c 0 = _)) $$ HB
  iexact HR

/-- Both directions' sums. -/
abbrev V7 (c : Dev nD) : sProp 𝕄 :=
  iprop(held (c : Thread nD τ) (commM false) fullShare (slot 0) (inSlot (rsV X W false 7 c)) ∗ held (c : Thread nD τ) (commM true) fullShare (slot 0) (inSlot (rsV X W true 7 c)))
/-- What the exchange of the maxima does not touch. -/
abbrev TT (c : Dev nD) : sProp 𝕄 := iprop(V7 X W c ∗ AnyQ (F := F) c 0 ∗ (AnyC (F := F) c 1 ∗ AnyQ (F := F) c 1 ∗ XW X W c ∗ PB X W c 7))

theorem j_max {H T : sProp 𝕄} : iprop(H ∗ LP X W c 0 ∗ LP X W c 1 ∗ PB X W c 7 ∗ T ∗ XW X W c ∗ QQ (F := F) c) ⊢ iprop(H ∗ T ∗ TT X W c) := by
  unfold LP
  iintro ⟨HH, ⟨⟨A10, V10⟩, ⟨A20, V20⟩⟩, ⟨⟨A11, V11⟩, ⟨A21, V21⟩⟩, HP, HT, HX, ⟨Q0, Q1⟩⟩
  isplitl [HH]; · iexact HH
  isplitl [HT]; · iexact HT
  isplitl [V10 V11 V20 V21]
  · isplitl [V10 V11]
    · iapply (Entails.of_eq (by rw [← pieces_slot]))
      iapply (held_join (c : Thread nD τ) (commM false) fullShare (pieces_disj 0) _)
      isplitl [V10]; · iexact V10
      iexact V11
    iapply (Entails.of_eq (by rw [← pieces_slot]))
    iapply (held_join (c : Thread nD τ) (commM true) fullShare (pieces_disj 0) _)
    isplitl [V20]; · iexact V20
    iexact V21
  isplitl [Q0]; · iexact Q0
  isplitl [A10 A11 A20 A21]
  · unfold AnyC
    isplitl [A10 A11]
    · iapply (pieces_any 1)
      isplitl [A10]; · iexact A10
      iexact A11
    iapply (pieces_any 1)
    isplitl [A20]; · iexact A20
    iexact A21
  isplitl [Q1]; · iexact Q1
  isplitl [HX]; · iexact HX
  iexact HP

theorem j_bc {H A B T : sProp 𝕄} : iprop(H ∗ A ∗ B ∗ T) ⊢ iprop(H ∗ A ∗ B ∗ BC (F := F) c 0 ∗ T) := by
  unfold BC
  rw [flt_zero]
  iintro ⟨HH, HA, HB, HT⟩
  isplitl [HH]; · iexact HH
  isplitl [HA]; · iexact HA
  isplitl [HB]; · iexact HB
  isplitr [HT]
  · iapply (emp_empty _)
    iempintro
  iexact HT

theorem j_br {H A B C T : sProp 𝕄} : iprop(H ∗ A ∗ B ∗ C ∗ T) ⊢ iprop(H ∗ BR X W c 0 ∗ (C ∗ A ∗ T)) := by
  unfold BR
  rw [flt_zero]
  iintro ⟨HH, HA, -, HC, HT⟩
  isplitl [HH]; · iexact HH
  isplitr [HC HA HT]
  · iapply (emp_empty _)
    iempintro
  isplitl [HC]; · iexact HC
  isplitl [HA]; · iexact HA
  iexact HT

theorem j_bs {H A B T : sProp 𝕄} : iprop(H ∗ B ∗ (BC (F := F) c 7 ∗ A ∗ T))
    ⊢ iprop(H ∗ (bigSep (Finset.univ \ flt (0 : Fin 7).val) fun i => crK (F := F) c (.bcS i) 0) ∗ BS X W c (0 : Fin 7).val ∗ (A ∗ B ∗ T)) := by
  unfold BS BC
  rw [show ((0 : Fin 7).val) = 0 from rfl, flt_zero, flt_all, Finset.sdiff_empty]
  iintro ⟨HH, HB, HC, HA, HT⟩
  isplitl [HH]; · iexact HH
  isplitl [HC]; · iexact HC
  isplitr [HB HA HT]
  · iapply (emp_empty _)
    iempintro
  isplitl [HA]; · iexact HA
  isplitl [HB]; · iexact HB
  iexact HT

/-- What the all-gather does not touch. -/
abbrev R3 (c : Dev nD) : sProp 𝕄 := iprop(held (c : Thread nD τ) amaxM fullShare Finset.univ (amaxV X W) ∗ XW X W c ∗ PB X W c 7)

theorem j_own {H : sProp 𝕄} : iprop(H ∗ (held (c : Thread nD τ) amaxM fullShare Finset.univ (amaxV X W) ∗ TT X W c))
    ⊢ iprop(H ∗ V7 X W c ∗ AnyQ (F := F) c 0 ∗ (AnyC (F := F) c 1 ∗ AnyQ (F := F) c 1 ∗ R3 X W c)) := by
  iintro ⟨HH, HA, HV, HQ, HC, HQ', HX, HP⟩
  isplitl [HH]; · iexact HH
  isplitl [HV]; · iexact HV
  isplitl [HQ]; · iexact HQ
  isplitl [HC]; · iexact HC
  isplitl [HQ']; · iexact HQ'
  isplitl [HA]; · iexact HA
  isplitl [HX]; · iexact HX
  iexact HP

theorem j_ag {p n m : ℕ} {A B R : sProp 𝕄} {O : sProp 𝕄} : iprop(Core X W K c p n m ∗ A ∗ O ∗ (B ∗ AnyQ (F := F) c 1 ∗ R))
    ⊢ iprop(Core X W K c p n m ∗ A ∗ Qr (F := F) c 0 ∗ (B ∗ O ∗ WO X W c 0 ∗ R)) := by
  iintro ⟨H, HA, HO, HB, HQ, HR⟩
  ihave H := (core_reached0 X W K (src false c) (.ac false)) $$ H
  icases H with ⟨H, #R1⟩
  ihave H := (core_reached0 X W K (src true c) (.ac true)) $$ H
  icases H with ⟨H, #R2⟩
  isplitl [H]; · iexact H
  isplitl [HA]; · iexact HA
  isplitl [HQ]
  · unfold Qr
    isplitl [HQ]; · iexact HQ
    isplitr; · iexact R1
    iexact R2
  isplitl [HB]; · iexact HB
  isplitl [HO]; · iexact HO
  isplitr [HR]
  · unfold WO
    iapply (emp_empty _)
    iempintro
  iexact HR

theorem j_od {H A B C D E R O : sProp 𝕄} : iprop(H ∗ A ∗ B ∗ C ∗ (D ∗ E ∗ R) ∗ O) ⊢ iprop(H ∗ A ∗ B ∗ C ∗ D ∗ E ∗ (R ∗ O)) := by
  iintro ⟨HH, HA, HB, HC, ⟨HD, HE, HR⟩, HO⟩
  isplitl [HH]; · iexact HH
  isplitl [HA]; · iexact HA
  isplitl [HB]; · iexact HB
  isplitl [HC]; · iexact HC
  isplitl [HD]; · iexact HD
  isplitl [HE]; · iexact HE
  isplitl [HR]; · iexact HR
  iexact HO

theorem slot_six : slot 6 = slot 0 ∧ slot 7 = slot 1 ∧ slot 8 = slot 0 := ⟨rfl, rfl, rfl⟩

theorem j_done : iprop(Core X W K c 89 153 16 ∗ Hq X W c fullShare 7 ∗ Qr (F := F) c 7 ∗ AnyC (F := F) c 6 ∗ AnyC (F := F) c 7 ∗ WO X W c 7 ∗ (R3 X W c ∗ PO X W c 0)) ⊢ Done X W K c := by
  unfold Done Hq Qr AnyC AnyQ
  rw [slot_six.1, slot_six.2.1, show (slot (7 + 1)) = slot 0 from slot_six.2.2]
  iintro ⟨H, ⟨Q1, Q2⟩, ⟨⟨B1, B2⟩, -⟩, ⟨C1, C2⟩, ⟨D1, D2⟩, HW, ⟨⟨HA, HX, HP⟩, HO⟩⟩
  isplitl [H]; · iexact H
  isplitl [HX]; · iexact HX
  isplitl [C1 C2 D1 D2]
  · isplitl [C1 D1]
    · iapply slots_any
      isplitl [C1]; · iexact C1
      iexact D1
    iapply slots_any
    isplitl [C2]; · iexact C2
    iexact D2
  isplitl [Q1 Q2 B1 B2]
  · isplitl [Q1 B1]
    · iapply slots_any
      isplitl [B1]; · iexact B1
      iapply (anyH_of _) $$ Q1
    iapply slots_any
    isplitl [B2]; · iexact B2
    iapply (anyH_of _) $$ Q2
  isplitl [HP]; · iapply (PB_any X W c 7) $$ HP
  isplitl [HA]; · iapply (anyH_of _) $$ HA
  iapply (out_join X W c)
  isplitl [HO]; · iexact HO
  iexact HW

end

end Cert.KernelIdealProof

end
-- ==== Proof.Body.lean ====
/-
# The body, whole

The kernel's program is walked once, at a symbolic device: each phase by its rule.
-/
module

public import proofs.«01_k».proof.Proof.Joints
public import proofs.«01_k».proof.Proof.Gen.KernelIdeal.Points

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Cert.KernelIdeal.Gen in
/-- Reading the device's own number. -/
theorem dev_step {α : Type} {c : Dev nD} {P : sProp 𝕄} {kt : Dev nD → Prog (TpuEff nD τ sig (Elt F) Λ₀ .tc) α} {Φ : α → sProp 𝕄} (h : P ⊢ WP c (kt c) Φ) : P ⊢ WP c (.op .deviceId kt) Φ := by
  unfold WP at h ⊢
  rw [wp_deviceId]
  exact h

/-- A fact that holds, told with what is owned. -/
theorem told {φ : Prop} (h : φ) {P : sProp 𝕄} : P ⊢ iprop(⌜φ⌝ ∗ P) := by
  iintro H
  isplitr
  · ipureintro; exact h
  iexact H

/-- A piece of a slot of the reduce-scatter's buffers, as the kernel names it. -/
theorem vwP {sp : Space} {e : EltTy} (M : Memref sig .tc sp S2x512x4096 e) (s q : ℕ) {o : Fin 3 → ℕ} (ho : o = ![s % 2, 0, 2048 * q]) {inb : ∀ a, o a + (![1, 512, 2048] : Fin 3 → ℕ) a ≤ S2x512x4096.size a}
    {hr : ∀ a, (Rect.unit (s := S2x512x4096) o ![1, 512, 2048] inb).stride a = 1}
    {hs : (Rect.unit (s := S2x512x4096) o ![1, 512, 2048] inb).shape.Squeezes (⟨2, ![512, 2048]⟩ : Shape)} :
    Vw (F := F) M (piece s q) ((M.slice (Rect.unit (s := S2x512x4096) o ![1, 512, 2048] inb) hr).squeeze (⟨2, ![512, 2048]⟩ : Shape) hs) (at3 (s % 2) (2048 * q)) := by
  subst ho
  rw [piece_reg]
  exact vw3 M _ _ _

/-- A slot of the buffers, as the kernel names it. -/
theorem vwS {sp : Space} {e : EltTy} (M : Memref sig .tc sp S2x512x4096 e) (s : ℕ) {o : Fin 3 → ℕ} (ho : o = ![s % 2, 0, 0]) {inb : ∀ a, o a + (![1, 512, 4096] : Fin 3 → ℕ) a ≤ S2x512x4096.size a}
    {hr : ∀ a, (Rect.unit (s := S2x512x4096) o ![1, 512, 4096] inb).stride a = 1}
    {hs : (Rect.unit (s := S2x512x4096) o ![1, 512, 4096] inb).shape.Squeezes (⟨2, ![512, 4096]⟩ : Shape)} :
    Vw (F := F) M (slot s) ((M.slice (Rect.unit (s := S2x512x4096) o ![1, 512, 4096] inb) hr).squeeze (⟨2, ![512, 4096]⟩ : Shape) hs) (at3 (s % 2) 0) := by
  subst ho
  rw [slot_reg]
  exact vw3 M _ _ _

section
variable (X : Dev nD → S4096x512.Idx → Elt F .bf16) (W : Dev nD → S512x8192.Idx → Elt F .bf16) (K : CK → ℕ) (c : Dev nD)

set_option maxRecDepth 100000 in
set_option maxHeartbeats 0 in
/-- The kernel's body on any device: from what the device starts with to what it ends with, the whole output among it. -/
theorem body_run (Φ : PUnit → sProp 𝕄) (h : Done X W K c ⊢ Φ ⟨⟩) : Init X W K c ⊢ WP (F := F) c (bodyAt0 t0_0) Φ := by
  unfold bodyAt0
  simp only [cc0_body_eq_skeleton, cc0_body_skel, bind_assoc, semSignalWord, semWaitWord, Prog.lift, Prog.bind_op, Prog.bind_ret, Prog.pure_eq_ret,
    k0_part4_eq_skeleton, k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton,
    k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel, k0_part18_eq_skeleton,
    k0_part18_skel, k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel, k0_part25_eq_skeleton,
    k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton,
    k0_part32_skel, k0_part33_eq_skeleton, k0_part33_skel, k0_part34_eq_skeleton, k0_part34_skel, k0_part35_eq_skeleton, k0_part35_skel,
    k0_part36_eq_skeleton, k0_part36_skel, k0_part37_eq_skeleton, k0_part37_skel, k0_part38_eq_skeleton, k0_part38_skel, k0_part39_eq_skeleton,
    k0_part39_skel, k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel, k0_part46_eq_skeleton,
    k0_part46_skel, k0_part47_eq_skeleton, k0_part47_skel, k0_part48_eq_skeleton, k0_part48_skel, k0_part49_eq_skeleton, k0_part49_skel,
    k0_part50_eq_skeleton, k0_part50_skel, k0_part51_eq_skeleton, k0_part51_skel, k0_part52_eq_skeleton, k0_part52_skel, k0_part53_eq_skeleton,
    k0_part53_skel, k0_part54_eq_skeleton, k0_part54_skel, k0_part55_eq_skeleton, k0_part55_skel, k0_part56_eq_skeleton, k0_part56_skel,
    k0_part57_eq_skeleton, k0_part57_skel, k0_part58_eq_skeleton, k0_part58_skel, k0_part59_eq_skeleton, k0_part59_skel, k0_part60_eq_skeleton,
    k0_part60_skel, k0_part61_eq_skeleton, k0_part61_skel, k0_part62_eq_skeleton, k0_part62_skel, k0_part63_eq_skeleton, k0_part63_skel,
    k0_part64_eq_skeleton, k0_part64_skel, k0_part65_eq_skeleton, k0_part65_skel, k0_part66_eq_skeleton, k0_part66_skel, k0_part67_eq_skeleton,
    k0_part67_skel, k0_part68_eq_skeleton, k0_part68_skel, k0_part69_eq_skeleton, k0_part69_skel, k0_part70_eq_skeleton, k0_part70_skel,
    k0_part71_eq_skeleton, k0_part71_skel]
  refine dev_step ?_
  refine (j_init X W K).trans ?_
  refine step (gemm0_block X W _ _ rfl (fun O k a => by
    simp only [k0_t1_body, Prog.lift, Prog.bind_op, Prog.bind_ret, Prog.pure_eq_ret]
    exact trip_shared (fun _ => gemm0_half X W false k.val (vw3 _ _ _ _) rfl ((by decide +kernel : ∀ (c : Dev nD) (k : Fin k0_t1_loop.trips), k0_off1 c k 7#32 = ![512 * chunk false 0 c + 128 * k.val, 0]) c k) rfl ((by decide +kernel : ∀ k : Fin k0_t1_loop.trips, k0_off3 k = ![0, 128 * k.val, 0]) k) (fun _ _ => rfl) _)
      (fun _ => gemm0_half X W true k.val (vw3 _ _ _ _) rfl ((by decide +kernel : ∀ (c : Dev nD) (k : Fin k0_t1_loop.trips), k0_off1 c k 1#32 = ![512 * chunk true 0 c + 128 * k.val, 0]) c k) rfl ((by decide +kernel : ∀ k : Fin k0_t1_loop.trips, k0_off3 k = ![0, 128 * k.val, 0]) k) (fun _ _ => rfl) _) Entails.rfl)) ?_
  refine (j_bar).trans ?_
  refine step (bar_block X W K _ _ (by exact sgR (t := fun c => ⟨k0_dev1 c, k0_dev1_lt c⟩) (.bar false) rfl rfl (by decide +kernel)) (by exact sgR (t := fun c => ⟨k0_dev2 c, k0_dev2_lt c⟩) (.bar true) rfl rfl (by decide +kernel)) (by exact wtR .bar rfl rfl)) ?_
  refine (j_send X W).trans ?_
  refine step (send_block X W K 0 _ _ rfl (by exact sdR (t := fun c => ⟨k0_dev3 c, k0_dev3_lt c⟩) (.rs false 0 0) (.rsS false 0 0) rfl rfl rfl rfl rfl (by decide +kernel)) (vwP _ _ _ rfl) (vwP _ _ _ rfl) (by exact sdR (t := fun c => ⟨k0_dev4 c, k0_dev4_lt c⟩) (.rs true 0 0) (.rsS true 0 0) rfl rfl rfl rfl rfl (by decide +kernel)) (vwP _ _ _ rfl) (vwP _ _ _ rfl)) ?_
  refine (swap).trans ?_
  refine step (send_block X W K 1 _ _ rfl (by exact sdR (t := fun c => ⟨k0_dev5 c, k0_dev5_lt c⟩) (.rs false 0 1) (.rsS false 0 1) rfl rfl rfl rfl rfl (by decide +kernel)) (vwP _ _ _ rfl) (vwP _ _ _ rfl) (by exact sdR (t := fun c => ⟨k0_dev6 c, k0_dev6_lt c⟩) (.rs true 0 1) (.rsS true 0 1) rfl rfl rfl rfl rfl (by decide +kernel)) (vwP _ _ _ rfl) (vwP _ _ _ rfl)) ?_
  refine step (gemm_block X W 1 Entails.rfl _ _ _ _ _ rfl (fun O k a => by
    simp only [k0_t2_body, Prog.lift, Prog.bind_op, Prog.bind_ret, Prog.pure_eq_ret]
    exact trip_shared (fun _ => gemm_half X W false 1 k.val ((by decide +kernel : ∀ (c : Dev nD) (k : Fin k0_t2_loop.trips), k0_off4 c k = ![512 * chunk false 1 c + 128 * k.val, 0]) c k) rfl ((by decide +kernel : ∀ k : Fin k0_t2_loop.trips, k0_off5 k = ![128 * k.val, 0]) k) rfl _)
      (fun _ => gemm_half X W true 1 k.val ((by decide +kernel : ∀ (c : Dev nD) (k : Fin k0_t2_loop.trips), k0_off6 c k = ![512 * chunk true 1 c + 128 * k.val, 0]) c k) rfl ((by decide +kernel : ∀ k : Fin k0_t2_loop.trips, k0_off5 k = ![128 * k.val, 0]) k) rfl _) Entails.rfl)) ?_
  refine step (rs_block X W K 0 0 _ _ rfl rfl (by exact wtD (.rsS false 0 0) rfl rfl) (by exact wtD (.rsR false 0 0) rfl rfl) (by exact wtD (.rsS true 0 0) rfl rfl) (by exact wtD (.rsR true 0 0) rfl rfl)
    (by exact sgR (t := fun c => ⟨k0_dev7 c, k0_dev7_lt c⟩) (.rc false 0 0) rfl rfl (by decide +kernel)) (by exact sgR (t := fun c => ⟨k0_dev8 c, k0_dev8_lt c⟩) (.rc true 0 0) rfl rfl (by decide +kernel)) rfl (fun k a => by
    simp only [k0_t3_body, Prog.lift, Prog.bind_op, Prog.bind_ret, Prog.pure_eq_ret]
    exact trip (fun _ => add_half X W false 0 0 k.val ((by decide +kernel : ∀ k : Fin k0_t3_loop.trips, k0_off7 k = ![1, 128 * k.val, 0]) k) ((by decide +kernel : ∀ k : Fin k0_t3_loop.trips, k0_off8 k = ![128 * k.val, 0]) k) (fun _ _ => rfl))
      (fun _ => add_half X W true 0 0 k.val ((by decide +kernel : ∀ k : Fin k0_t3_loop.trips, k0_off7 k = ![1, 128 * k.val, 0]) k) ((by decide +kernel : ∀ k : Fin k0_t3_loop.trips, k0_off8 k = ![128 * k.val, 0]) k) (fun _ _ => rfl)) Entails.rfl)
    (by exact wtR (.rc false 0) rfl rfl) (by exact wtR (.rc true 0) rfl rfl) (by exact sdR (t := fun c => ⟨k0_dev9 c, k0_dev9_lt c⟩) (.rs false 1 0) (.rsS false 1 0) rfl rfl rfl rfl rfl (by decide +kernel)) (vwP _ _ _ rfl) (vwP _ _ _ rfl) (by exact sdR (t := fun c => ⟨k0_dev10 c, k0_dev10_lt c⟩) (.rs true 1 0) (.rsS true 1 0) rfl rfl rfl rfl rfl (by decide +kernel)) (vwP _ _ _ rfl) (vwP _ _ _ rfl)) ?_
  refine step (rs_block X W K 0 1 _ _ rfl rfl (by exact wtD (.rsS false 0 1) rfl rfl) (by exact wtD (.rsR false 0 1) rfl rfl) (by exact wtD (.rsS true 0 1) rfl rfl) (by exact wtD (.rsR true 0 1) rfl rfl)
    (by exact sgR (t := fun c => ⟨k0_dev11 c, k0_dev11_lt c⟩) (.rc false 0 1) rfl rfl (by decide +kernel)) (by exact sgR (t := fun c => ⟨k0_dev12 c, k0_dev12_lt c⟩) (.rc true 0 1) rfl rfl (by decide +kernel)) rfl (fun k a => by
    simp only [k0_t4_body, Prog.lift, Prog.bind_op, Prog.bind_ret, Prog.pure_eq_ret]
    exact trip (fun _ => add_half X W false 0 1 k.val ((by decide +kernel : ∀ k : Fin k0_t4_loop.trips, k0_off9 k = ![1, 128 * k.val, 2048]) k) ((by decide +kernel : ∀ k : Fin k0_t4_loop.trips, k0_off10 k = ![128 * k.val, 2048]) k) (fun _ _ => rfl))
      (fun _ => add_half X W true 0 1 k.val ((by decide +kernel : ∀ k : Fin k0_t4_loop.trips, k0_off9 k = ![1, 128 * k.val, 2048]) k) ((by decide +kernel : ∀ k : Fin k0_t4_loop.trips, k0_off10 k = ![128 * k.val, 2048]) k) (fun _ _ => rfl)) Entails.rfl)
    (by exact wtR (.rc false 1) rfl rfl) (by exact wtR (.rc true 1) rfl rfl) (by exact sdR (t := fun c => ⟨k0_dev13 c, k0_dev13_lt c⟩) (.rs false 1 1) (.rsS false 1 1) rfl rfl rfl rfl rfl (by decide +kernel)) (vwP _ _ _ rfl) (vwP _ _ _ rfl) (by exact sdR (t := fun c => ⟨k0_dev14 c, k0_dev14_lt c⟩) (.rs true 1 1) (.rsS true 1 1) rfl rfl rfl rfl rfl (by decide +kernel)) (vwP _ _ _ rfl) (vwP _ _ _ rfl)) ?_
  refine step (gemm_block X W 2 (PB_any X W c 1) _ _ _ _ _ rfl (fun O k a => by
    simp only [k0_t5_body, Prog.lift, Prog.bind_op, Prog.bind_ret, Prog.pure_eq_ret]
    exact trip_shared (fun _ => gemm_half X W false 2 k.val ((by decide +kernel : ∀ (c : Dev nD) (k : Fin k0_t5_loop.trips), k0_off11 c k = ![512 * chunk false 2 c + 128 * k.val, 0]) c k) rfl ((by decide +kernel : ∀ k : Fin k0_t5_loop.trips, k0_off12 k = ![128 * k.val, 0]) k) rfl _)
      (fun _ => gemm_half X W true 2 k.val ((by decide +kernel : ∀ (c : Dev nD) (k : Fin k0_t5_loop.trips), k0_off13 c k = ![512 * chunk true 2 c + 128 * k.val, 0]) c k) rfl ((by decide +kernel : ∀ k : Fin k0_t5_loop.trips, k0_off12 k = ![128 * k.val, 0]) k) rfl _) Entails.rfl)) ?_
  refine step (rs_block X W K 1 0 _ _ rfl rfl (by exact wtD (.rsS false 1 0) rfl rfl) (by exact wtD (.rsR false 1 0) rfl rfl) (by exact wtD (.rsS true 1 0) rfl rfl) (by exact wtD (.rsR true 1 0) rfl rfl)
    (by exact sgR (t := fun c => ⟨k0_dev15 c, k0_dev15_lt c⟩) (.rc false 1 0) rfl rfl (by decide +kernel)) (by exact sgR (t := fun c => ⟨k0_dev16 c, k0_dev16_lt c⟩) (.rc true 1 0) rfl rfl (by decide +kernel)) rfl (fun k a => by
    simp only [k0_t6_body, Prog.lift, Prog.bind_op, Prog.bind_ret, Prog.pure_eq_ret]
    exact trip (fun _ => add_half X W false 1 0 k.val ((by decide +kernel : ∀ k : Fin k0_t6_loop.trips, k0_off14 k = ![0, 128 * k.val, 0]) k) ((by decide +kernel : ∀ k : Fin k0_t6_loop.trips, k0_off15 k = ![128 * k.val, 0]) k) (fun _ _ => rfl))
      (fun _ => add_half X W true 1 0 k.val ((by decide +kernel : ∀ k : Fin k0_t6_loop.trips, k0_off14 k = ![0, 128 * k.val, 0]) k) ((by decide +kernel : ∀ k : Fin k0_t6_loop.trips, k0_off15 k = ![128 * k.val, 0]) k) (fun _ _ => rfl)) Entails.rfl)
    (by exact wtR (.rc false 0) rfl rfl) (by exact wtR (.rc true 0) rfl rfl) (by exact sdR (t := fun c => ⟨k0_dev17 c, k0_dev17_lt c⟩) (.rs false 2 0) (.rsS false 2 0) rfl rfl rfl rfl rfl (by decide +kernel)) (vwP _ _ _ rfl) (vwP _ _ _ rfl) (by exact sdR (t := fun c => ⟨k0_dev18 c, k0_dev18_lt c⟩) (.rs true 2 0) (.rsS true 2 0) rfl rfl rfl rfl rfl (by decide +kernel)) (vwP _ _ _ rfl) (vwP _ _ _ rfl)) ?_
  refine step (rs_block X W K 1 1 _ _ rfl rfl (by exact wtD (.rsS false 1 1) rfl rfl) (by exact wtD (.rsR false 1 1) rfl rfl) (by exact wtD (.rsS true 1 1) rfl rfl) (by exact wtD (.rsR true 1 1) rfl rfl)
    (by exact sgR (t := fun c => ⟨k0_dev19 c, k0_dev19_lt c⟩) (.rc false 1 1) rfl rfl (by decide +kernel)) (by exact sgR (t := fun c => ⟨k0_dev20 c, k0_dev20_lt c⟩) (.rc true 1 1) rfl rfl (by decide +kernel)) rfl (fun k a => by
    simp only [k0_t7_body, Prog.lift, Prog.bind_op, Prog.bind_ret, Prog.pure_eq_ret]
    exact trip (fun _ => add_half X W false 1 1 k.val ((by decide +kernel : ∀ k : Fin k0_t7_loop.trips, k0_off16 k = ![0, 128 * k.val, 2048]) k) ((by decide +kernel : ∀ k : Fin k0_t7_loop.trips, k0_off17 k = ![128 * k.val, 2048]) k) (fun _ _ => rfl))
      (fun _ => add_half X W true 1 1 k.val ((by decide +kernel : ∀ k : Fin k0_t7_loop.trips, k0_off16 k = ![0, 128 * k.val, 2048]) k) ((by decide +kernel : ∀ k : Fin k0_t7_loop.trips, k0_off17 k = ![128 * k.val, 2048]) k) (fun _ _ => rfl)) Entails.rfl)
    (by exact wtR (.rc false 1) rfl rfl) (by exact wtR (.rc true 1) rfl rfl) (by exact sdR (t := fun c => ⟨k0_dev21 c, k0_dev21_lt c⟩) (.rs false 2 1) (.rsS false 2 1) rfl rfl rfl rfl rfl (by decide +kernel)) (vwP _ _ _ rfl) (vwP _ _ _ rfl) (by exact sdR (t := fun c => ⟨k0_dev22 c, k0_dev22_lt c⟩) (.rs true 2 1) (.rsS true 2 1) rfl rfl rfl rfl rfl (by decide +kernel)) (vwP _ _ _ rfl) (vwP _ _ _ rfl)) ?_
  refine step (gemm_block X W 3 (PB_any X W c 2) _ _ _ _ _ rfl (fun O k a => by
    simp only [k0_t8_body, Prog.lift, Prog.bind_op, Prog.bind_ret, Prog.pure_eq_ret]
    exact trip_shared (fun _ => gemm_half X W false 3 k.val ((by decide +kernel : ∀ (c : Dev nD) (k : Fin k0_t8_loop.trips), k0_off18 c k = ![512 * chunk false 3 c + 128 * k.val, 0]) c k) rfl ((by decide +kernel : ∀ k : Fin k0_t8_loop.trips, k0_off19 k = ![128 * k.val, 0]) k) rfl _)
      (fun _ => gemm_half X W true 3 k.val ((by decide +kernel : ∀ (c : Dev nD) (k : Fin k0_t8_loop.trips), k0_off20 c k = ![512 * chunk true 3 c + 128 * k.val, 0]) c k) rfl ((by decide +kernel : ∀ k : Fin k0_t8_loop.trips, k0_off19 k = ![128 * k.val, 0]) k) rfl _) Entails.rfl)) ?_
  refine step (rs_block X W K 2 0 _ _ rfl rfl (by exact wtD (.rsS false 2 0) rfl rfl) (by exact wtD (.rsR false 2 0) rfl rfl) (by exact wtD (.rsS true 2 0) rfl rfl) (by exact wtD (.rsR true 2 0) rfl rfl)
    (by exact sgR (t := fun c => ⟨k0_dev23 c, k0_dev23_lt c⟩) (.rc false 2 0) rfl rfl (by decide +kernel)) (by exact sgR (t := fun c => ⟨k0_dev24 c, k0_dev24_lt c⟩) (.rc true 2 0) rfl rfl (by decide +kernel)) rfl (fun k a => by
    simp only [k0_t9_body, Prog.lift, Prog.bind_op, Prog.bind_ret, Prog.pure_eq_ret]
    exact trip (fun _ => add_half X W false 2 0 k.val ((by decide +kernel : ∀ k : Fin k0_t9_loop.trips, k0_off21 k = ![1, 128 * k.val, 0]) k) ((by decide +kernel : ∀ k : Fin k0_t9_loop.trips, k0_off22 k = ![128 * k.val, 0]) k) (fun _ _ => rfl))
      (fun _ => add_half X W true 2 0 k.val ((by decide +kernel : ∀ k : Fin k0_t9_loop.trips, k0_off21 k = ![1, 128 * k.val, 0]) k) ((by decide +kernel : ∀ k : Fin k0_t9_loop.trips, k0_off22 k = ![128 * k.val, 0]) k) (fun _ _ => rfl)) Entails.rfl)
    (by exact wtR (.rc false 0) rfl rfl) (by exact wtR (.rc true 0) rfl rfl) (by exact sdR (t := fun c => ⟨k0_dev25 c, k0_dev25_lt c⟩) (.rs false 3 0) (.rsS false 3 0) rfl rfl rfl rfl rfl (by decide +kernel)) (vwP _ _ _ rfl) (vwP _ _ _ rfl) (by exact sdR (t := fun c => ⟨k0_dev26 c, k0_dev26_lt c⟩) (.rs true 3 0) (.rsS true 3 0) rfl rfl rfl rfl rfl (by decide +kernel)) (vwP _ _ _ rfl) (vwP _ _ _ rfl)) ?_
  refine step (rs_block X W K 2 1 _ _ rfl rfl (by exact wtD (.rsS false 2 1) rfl rfl) (by exact wtD (.rsR false 2 1) rfl rfl) (by exact wtD (.rsS true 2 1) rfl rfl) (by exact wtD (.rsR true 2 1) rfl rfl)
    (by exact sgR (t := fun c => ⟨k0_dev27 c, k0_dev27_lt c⟩) (.rc false 2 1) rfl rfl (by decide +kernel)) (by exact sgR (t := fun c => ⟨k0_dev28 c, k0_dev28_lt c⟩) (.rc true 2 1) rfl rfl (by decide +kernel)) rfl (fun k a => by
    simp only [k0_t10_body, Prog.lift, Prog.bind_op, Prog.bind_ret, Prog.pure_eq_ret]
    exact trip (fun _ => add_half X W false 2 1 k.val ((by decide +kernel : ∀ k : Fin k0_t10_loop.trips, k0_off23 k = ![1, 128 * k.val, 2048]) k) ((by decide +kernel : ∀ k : Fin k0_t10_loop.trips, k0_off24 k = ![128 * k.val, 2048]) k) (fun _ _ => rfl))
      (fun _ => add_half X W true 2 1 k.val ((by decide +kernel : ∀ k : Fin k0_t10_loop.trips, k0_off23 k = ![1, 128 * k.val, 2048]) k) ((by decide +kernel : ∀ k : Fin k0_t10_loop.trips, k0_off24 k = ![128 * k.val, 2048]) k) (fun _ _ => rfl)) Entails.rfl)
    (by exact wtR (.rc false 1) rfl rfl) (by exact wtR (.rc true 1) rfl rfl) (by exact sdR (t := fun c => ⟨k0_dev29 c, k0_dev29_lt c⟩) (.rs false 3 1) (.rsS false 3 1) rfl rfl rfl rfl rfl (by decide +kernel)) (vwP _ _ _ rfl) (vwP _ _ _ rfl) (by exact sdR (t := fun c => ⟨k0_dev30 c, k0_dev30_lt c⟩) (.rs true 3 1) (.rsS true 3 1) rfl rfl rfl rfl rfl (by decide +kernel)) (vwP _ _ _ rfl) (vwP _ _ _ rfl)) ?_
  refine step (gemm_block X W 4 (PB_any X W c 3) _ _ _ _ _ rfl (fun O k a => by
    simp only [k0_t11_body, Prog.lift, Prog.bind_op, Prog.bind_ret, Prog.pure_eq_ret]
    exact trip_shared (fun _ => gemm_half X W false 4 k.val ((by decide +kernel : ∀ (c : Dev nD) (k : Fin k0_t11_loop.trips), k0_off25 c k = ![512 * chunk false 4 c + 128 * k.val, 0]) c k) rfl ((by decide +kernel : ∀ k : Fin k0_t11_loop.trips, k0_off26 k = ![128 * k.val, 0]) k) rfl _)
      (fun _ => gemm_half X W true 4 k.val ((by decide +kernel : ∀ (c : Dev nD) (k : Fin k0_t11_loop.trips), k0_off27 c k = ![512 * chunk true 4 c + 128 * k.val, 0]) c k) rfl ((by decide +kernel : ∀ k : Fin k0_t11_loop.trips, k0_off26 k = ![128 * k.val, 0]) k) rfl _) Entails.rfl)) ?_
  refine step (rs_block X W K 3 0 _ _ rfl rfl (by exact wtD (.rsS false 3 0) rfl rfl) (by exact wtD (.rsR false 3 0) rfl rfl) (by exact wtD (.rsS true 3 0) rfl rfl) (by exact wtD (.rsR true 3 0) rfl rfl)
    (by exact sgR (t := fun c => ⟨k0_dev31 c, k0_dev31_lt c⟩) (.rc false 3 0) rfl rfl (by decide +kernel)) (by exact sgR (t := fun c => ⟨k0_dev32 c, k0_dev32_lt c⟩) (.rc true 3 0) rfl rfl (by decide +kernel)) rfl (fun k a => by
    simp only [k0_t12_body, Prog.lift, Prog.bind_op, Prog.bind_ret, Prog.pure_eq_ret]
    exact trip (fun _ => add_half X W false 3 0 k.val ((by decide +kernel : ∀ k : Fin k0_t12_loop.trips, k0_off28 k = ![0, 128 * k.val, 0]) k) ((by decide +kernel : ∀ k : Fin k0_t12_loop.trips, k0_off29 k = ![128 * k.val, 0]) k) (fun _ _ => rfl))
      (fun _ => add_half X W true 3 0 k.val ((by decide +kernel : ∀ k : Fin k0_t12_loop.trips, k0_off28 k = ![0, 128 * k.val, 0]) k) ((by decide +kernel : ∀ k : Fin k0_t12_loop.trips, k0_off29 k = ![128 * k.val, 0]) k) (fun _ _ => rfl)) Entails.rfl)
    (by exact wtR (.rc false 0) rfl rfl) (by exact wtR (.rc true 0) rfl rfl) (by exact sdR (t := fun c => ⟨k0_dev33 c, k0_dev33_lt c⟩) (.rs false 4 0) (.rsS false 4 0) rfl rfl rfl rfl rfl (by decide +kernel)) (vwP _ _ _ rfl) (vwP _ _ _ rfl) (by exact sdR (t := fun c => ⟨k0_dev34 c, k0_dev34_lt c⟩) (.rs true 4 0) (.rsS true 4 0) rfl rfl rfl rfl rfl (by decide +kernel)) (vwP _ _ _ rfl) (vwP _ _ _ rfl)) ?_
  refine step (rs_block X W K 3 1 _ _ rfl rfl (by exact wtD (.rsS false 3 1) rfl rfl) (by exact wtD (.rsR false 3 1) rfl rfl) (by exact wtD (.rsS true 3 1) rfl rfl) (by exact wtD (.rsR true 3 1) rfl rfl)
    (by exact sgR (t := fun c => ⟨k0_dev35 c, k0_dev35_lt c⟩) (.rc false 3 1) rfl rfl (by decide +kernel)) (by exact sgR (t := fun c => ⟨k0_dev36 c, k0_dev36_lt c⟩) (.rc true 3 1) rfl rfl (by decide +kernel)) rfl (fun k a => by
    simp only [k0_t13_body, Prog.lift, Prog.bind_op, Prog.bind_ret, Prog.pure_eq_ret]
    exact trip (fun _ => add_half X W false 3 1 k.val ((by decide +kernel : ∀ k : Fin k0_t13_loop.trips, k0_off30 k = ![0, 128 * k.val, 2048]) k) ((by decide +kernel : ∀ k : Fin k0_t13_loop.trips, k0_off31 k = ![128 * k.val, 2048]) k) (fun _ _ => rfl))
      (fun _ => add_half X W true 3 1 k.val ((by decide +kernel : ∀ k : Fin k0_t13_loop.trips, k0_off30 k = ![0, 128 * k.val, 2048]) k) ((by decide +kernel : ∀ k : Fin k0_t13_loop.trips, k0_off31 k = ![128 * k.val, 2048]) k) (fun _ _ => rfl)) Entails.rfl)
    (by exact wtR (.rc false 1) rfl rfl) (by exact wtR (.rc true 1) rfl rfl) (by exact sdR (t := fun c => ⟨k0_dev37 c, k0_dev37_lt c⟩) (.rs false 4 1) (.rsS false 4 1) rfl rfl rfl rfl rfl (by decide +kernel)) (vwP _ _ _ rfl) (vwP _ _ _ rfl) (by exact sdR (t := fun c => ⟨k0_dev38 c, k0_dev38_lt c⟩) (.rs true 4 1) (.rsS true 4 1) rfl rfl rfl rfl rfl (by decide +kernel)) (vwP _ _ _ rfl) (vwP _ _ _ rfl)) ?_
  refine step (gemm_block X W 5 (PB_any X W c 4) _ _ _ _ _ rfl (fun O k a => by
    simp only [k0_t14_body, Prog.lift, Prog.bind_op, Prog.bind_ret, Prog.pure_eq_ret]
    exact trip_shared (fun _ => gemm_half X W false 5 k.val ((by decide +kernel : ∀ (c : Dev nD) (k : Fin k0_t14_loop.trips), k0_off32 c k = ![512 * chunk false 5 c + 128 * k.val, 0]) c k) rfl ((by decide +kernel : ∀ k : Fin k0_t14_loop.trips, k0_off33 k = ![128 * k.val, 0]) k) rfl _)
      (fun _ => gemm_half X W true 5 k.val ((by decide +kernel : ∀ (c : Dev nD) (k : Fin k0_t14_loop.trips), k0_off34 c k = ![512 * chunk true 5 c + 128 * k.val, 0]) c k) rfl ((by decide +kernel : ∀ k : Fin k0_t14_loop.trips, k0_off33 k = ![128 * k.val, 0]) k) rfl _) Entails.rfl)) ?_
  refine step (rs_block X W K 4 0 _ _ rfl rfl (by exact wtD (.rsS false 4 0) rfl rfl) (by exact wtD (.rsR false 4 0) rfl rfl) (by exact wtD (.rsS true 4 0) rfl rfl) (by exact wtD (.rsR true 4 0) rfl rfl)
    (by exact sgR (t := fun c => ⟨k0_dev39 c, k0_dev39_lt c⟩) (.rc false 4 0) rfl rfl (by decide +kernel)) (by exact sgR (t := fun c => ⟨k0_dev40 c, k0_dev40_lt c⟩) (.rc true 4 0) rfl rfl (by decide +kernel)) rfl (fun k a => by
    simp only [k0_t15_body, Prog.lift, Prog.bind_op, Prog.bind_ret, Prog.pure_eq_ret]
    exact trip (fun _ => add_half X W false 4 0 k.val ((by decide +kernel : ∀ k : Fin k0_t15_loop.trips, k0_off35 k = ![1, 128 * k.val, 0]) k) ((by decide +kernel : ∀ k : Fin k0_t15_loop.trips, k0_off36 k = ![128 * k.val, 0]) k) (fun _ _ => rfl))
      (fun _ => add_half X W true 4 0 k.val ((by decide +kernel : ∀ k : Fin k0_t15_loop.trips, k0_off35 k = ![1, 128 * k.val, 0]) k) ((by decide +kernel : ∀ k : Fin k0_t15_loop.trips, k0_off36 k = ![128 * k.val, 0]) k) (fun _ _ => rfl)) Entails.rfl)
    (by exact wtR (.rc false 0) rfl rfl) (by exact wtR (.rc true 0) rfl rfl) (by exact sdR (t := fun c => ⟨k0_dev41 c, k0_dev41_lt c⟩) (.rs false 5 0) (.rsS false 5 0) rfl rfl rfl rfl rfl (by decide +kernel)) (vwP _ _ _ rfl) (vwP _ _ _ rfl) (by exact sdR (t := fun c => ⟨k0_dev42 c, k0_dev42_lt c⟩) (.rs true 5 0) (.rsS true 5 0) rfl rfl rfl rfl rfl (by decide +kernel)) (vwP _ _ _ rfl) (vwP _ _ _ rfl)) ?_
  refine step (rs_block X W K 4 1 _ _ rfl rfl (by exact wtD (.rsS false 4 1) rfl rfl) (by exact wtD (.rsR false 4 1) rfl rfl) (by exact wtD (.rsS true 4 1) rfl rfl) (by exact wtD (.rsR true 4 1) rfl rfl)
    (by exact sgR (t := fun c => ⟨k0_dev43 c, k0_dev43_lt c⟩) (.rc false 4 1) rfl rfl (by decide +kernel)) (by exact sgR (t := fun c => ⟨k0_dev44 c, k0_dev44_lt c⟩) (.rc true 4 1) rfl rfl (by decide +kernel)) rfl (fun k a => by
    simp only [k0_t16_body, Prog.lift, Prog.bind_op, Prog.bind_ret, Prog.pure_eq_ret]
    exact trip (fun _ => add_half X W false 4 1 k.val ((by decide +kernel : ∀ k : Fin k0_t16_loop.trips, k0_off37 k = ![1, 128 * k.val, 2048]) k) ((by decide +kernel : ∀ k : Fin k0_t16_loop.trips, k0_off38 k = ![128 * k.val, 2048]) k) (fun _ _ => rfl))
      (fun _ => add_half X W true 4 1 k.val ((by decide +kernel : ∀ k : Fin k0_t16_loop.trips, k0_off37 k = ![1, 128 * k.val, 2048]) k) ((by decide +kernel : ∀ k : Fin k0_t16_loop.trips, k0_off38 k = ![128 * k.val, 2048]) k) (fun _ _ => rfl)) Entails.rfl)
    (by exact wtR (.rc false 1) rfl rfl) (by exact wtR (.rc true 1) rfl rfl) (by exact sdR (t := fun c => ⟨k0_dev45 c, k0_dev45_lt c⟩) (.rs false 5 1) (.rsS false 5 1) rfl rfl rfl rfl rfl (by decide +kernel)) (vwP _ _ _ rfl) (vwP _ _ _ rfl) (by exact sdR (t := fun c => ⟨k0_dev46 c, k0_dev46_lt c⟩) (.rs true 5 1) (.rsS true 5 1) rfl rfl rfl rfl rfl (by decide +kernel)) (vwP _ _ _ rfl) (vwP _ _ _ rfl)) ?_
  refine step (gemm_block X W 6 (PB_any X W c 5) _ _ _ _ _ rfl (fun O k a => by
    simp only [k0_t17_body, Prog.lift, Prog.bind_op, Prog.bind_ret, Prog.pure_eq_ret]
    exact trip_shared (fun _ => gemm_half X W false 6 k.val ((by decide +kernel : ∀ (c : Dev nD) (k : Fin k0_t17_loop.trips), k0_off39 c k = ![512 * chunk false 6 c + 128 * k.val, 0]) c k) rfl ((by decide +kernel : ∀ k : Fin k0_t17_loop.trips, k0_off40 k = ![128 * k.val, 0]) k) rfl _)
      (fun _ => gemm_half X W true 6 k.val ((by decide +kernel : ∀ (c : Dev nD) (k : Fin k0_t17_loop.trips), k0_off41 c k = ![512 * chunk true 6 c + 128 * k.val, 0]) c k) rfl ((by decide +kernel : ∀ k : Fin k0_t17_loop.trips, k0_off40 k = ![128 * k.val, 0]) k) rfl _) Entails.rfl)) ?_
  refine step (rs_block X W K 5 0 _ _ rfl rfl (by exact wtD (.rsS false 5 0) rfl rfl) (by exact wtD (.rsR false 5 0) rfl rfl) (by exact wtD (.rsS true 5 0) rfl rfl) (by exact wtD (.rsR true 5 0) rfl rfl)
    (by exact sgR (t := fun c => ⟨k0_dev47 c, k0_dev47_lt c⟩) (.rc false 5 0) rfl rfl (by decide +kernel)) (by exact sgR (t := fun c => ⟨k0_dev48 c, k0_dev48_lt c⟩) (.rc true 5 0) rfl rfl (by decide +kernel)) rfl (fun k a => by
    simp only [k0_t18_body, Prog.lift, Prog.bind_op, Prog.bind_ret, Prog.pure_eq_ret]
    exact trip (fun _ => add_half X W false 5 0 k.val ((by decide +kernel : ∀ k : Fin k0_t18_loop.trips, k0_off42 k = ![0, 128 * k.val, 0]) k) ((by decide +kernel : ∀ k : Fin k0_t18_loop.trips, k0_off43 k = ![128 * k.val, 0]) k) (fun _ _ => rfl))
      (fun _ => add_half X W true 5 0 k.val ((by decide +kernel : ∀ k : Fin k0_t18_loop.trips, k0_off42 k = ![0, 128 * k.val, 0]) k) ((by decide +kernel : ∀ k : Fin k0_t18_loop.trips, k0_off43 k = ![128 * k.val, 0]) k) (fun _ _ => rfl)) Entails.rfl)
    (by exact wtR (.rc false 0) rfl rfl) (by exact wtR (.rc true 0) rfl rfl) (by exact sdR (t := fun c => ⟨k0_dev49 c, k0_dev49_lt c⟩) (.rs false 6 0) (.rsS false 6 0) rfl rfl rfl rfl rfl (by decide +kernel)) (vwP _ _ _ rfl) (vwP _ _ _ rfl) (by exact sdR (t := fun c => ⟨k0_dev50 c, k0_dev50_lt c⟩) (.rs true 6 0) (.rsS true 6 0) rfl rfl rfl rfl rfl (by decide +kernel)) (vwP _ _ _ rfl) (vwP _ _ _ rfl)) ?_
  refine step (rs_block X W K 5 1 _ _ rfl rfl (by exact wtD (.rsS false 5 1) rfl rfl) (by exact wtD (.rsR false 5 1) rfl rfl) (by exact wtD (.rsS true 5 1) rfl rfl) (by exact wtD (.rsR true 5 1) rfl rfl)
    (by exact sgR (t := fun c => ⟨k0_dev51 c, k0_dev51_lt c⟩) (.rc false 5 1) rfl rfl (by decide +kernel)) (by exact sgR (t := fun c => ⟨k0_dev52 c, k0_dev52_lt c⟩) (.rc true 5 1) rfl rfl (by decide +kernel)) rfl (fun k a => by
    simp only [k0_t19_body, Prog.lift, Prog.bind_op, Prog.bind_ret, Prog.pure_eq_ret]
    exact trip (fun _ => add_half X W false 5 1 k.val ((by decide +kernel : ∀ k : Fin k0_t19_loop.trips, k0_off44 k = ![0, 128 * k.val, 2048]) k) ((by decide +kernel : ∀ k : Fin k0_t19_loop.trips, k0_off45 k = ![128 * k.val, 2048]) k) (fun _ _ => rfl))
      (fun _ => add_half X W true 5 1 k.val ((by decide +kernel : ∀ k : Fin k0_t19_loop.trips, k0_off44 k = ![0, 128 * k.val, 2048]) k) ((by decide +kernel : ∀ k : Fin k0_t19_loop.trips, k0_off45 k = ![128 * k.val, 2048]) k) (fun _ _ => rfl)) Entails.rfl)
    (by exact wtR (.rc false 1) rfl rfl) (by exact wtR (.rc true 1) rfl rfl) (by exact sdR (t := fun c => ⟨k0_dev53 c, k0_dev53_lt c⟩) (.rs false 6 1) (.rsS false 6 1) rfl rfl rfl rfl rfl (by decide +kernel)) (vwP _ _ _ rfl) (vwP _ _ _ rfl) (by exact sdR (t := fun c => ⟨k0_dev54 c, k0_dev54_lt c⟩) (.rs true 6 1) (.rsS true 6 1) rfl rfl rfl rfl rfl (by decide +kernel)) (vwP _ _ _ rfl) (vwP _ _ _ rfl)) ?_
  refine step (gemm_block X W 7 (PB_any X W c 6) _ _ _ _ _ rfl (fun O k a => by
    simp only [k0_t20_body, Prog.lift, Prog.bind_op, Prog.bind_ret, Prog.pure_eq_ret]
    exact trip_shared (fun _ => gemm_half X W false 7 k.val ((by decide +kernel : ∀ (c : Dev nD) (k : Fin k0_t20_loop.trips), k0_off46 c k = ![512 * chunk false 7 c + 128 * k.val, 0]) c k) rfl ((by decide +kernel : ∀ k : Fin k0_t20_loop.trips, k0_off47 k = ![128 * k.val, 0]) k) rfl _)
      (fun _ => gemm_half X W true 7 k.val ((by decide +kernel : ∀ (c : Dev nD) (k : Fin k0_t20_loop.trips), k0_off48 c k = ![512 * chunk true 7 c + 128 * k.val, 0]) c k) rfl ((by decide +kernel : ∀ k : Fin k0_t20_loop.trips, k0_off47 k = ![128 * k.val, 0]) k) rfl _) Entails.rfl)) ?_
  refine step (rs_last X W K 0 _ _ rfl rfl (by exact wtD (.rsS false 6 0) rfl rfl) (by exact wtD (.rsR false 6 0) rfl rfl) (by exact wtD (.rsS true 6 0) rfl rfl) (by exact wtD (.rsR true 6 0) rfl rfl) rfl (fun O k => by
    simp only [k0_t21_body, k0_part1_eq_skeleton, k0_part1_skel, bind_assoc, Prog.lift, Prog.bind_op, Prog.bind_ret, Prog.pure_eq_ret]
    exact trip
      (fun _ => last_half X W false 0 k.val ((by decide +kernel : ∀ k : Fin k0_t21_loop.trips, k0_off49 k = ![1, 128 * k.val, 0]) k) ((by decide +kernel : ∀ k : Fin k0_t21_loop.trips, k0_off50 k = ![128 * k.val, 0]) k) ((by decide +kernel : ∀ k : Fin k0_t21_loop.trips, k0_off51 k = ![0, 128 * k.val, 0]) k) (fun _ _ => rfl) _)
      (fun _ => last_half X W true 0 k.val (kt := fun a b _ => Prog.ret (k0_pay58 _ (k0_pay6 a b))) ((by decide +kernel : ∀ k : Fin k0_t21_loop.trips, k0_off49 k = ![1, 128 * k.val, 0]) k) ((by decide +kernel : ∀ k : Fin k0_t21_loop.trips, k0_off50 k = ![128 * k.val, 0]) k) ((by decide +kernel : ∀ k : Fin k0_t21_loop.trips, k0_off51 k = ![0, 128 * k.val, 0]) k) (fun _ _ => rfl) _) (told rfl))) ?_
  refine step (rs_last X W K 1 _ _ rfl rfl (by exact wtD (.rsS false 6 1) rfl rfl) (by exact wtD (.rsR false 6 1) rfl rfl) (by exact wtD (.rsS true 6 1) rfl rfl) (by exact wtD (.rsR true 6 1) rfl rfl) rfl (fun O k => by
    simp only [k0_t22_body, k0_part2_eq_skeleton, k0_part2_skel, bind_assoc, Prog.lift, Prog.bind_op, Prog.bind_ret, Prog.pure_eq_ret]
    exact trip
      (fun _ => last_half X W false 1 k.val ((by decide +kernel : ∀ k : Fin k0_t22_loop.trips, k0_off52 k = ![1, 128 * k.val, 2048]) k) ((by decide +kernel : ∀ k : Fin k0_t22_loop.trips, k0_off53 k = ![128 * k.val, 2048]) k) ((by decide +kernel : ∀ k : Fin k0_t22_loop.trips, k0_off54 k = ![0, 128 * k.val, 2048]) k) (fun _ _ => rfl) _)
      (fun _ => last_half X W true 1 k.val (kt := fun a b _ => Prog.ret (k0_pay59 _ (k0_pay12 a b))) ((by decide +kernel : ∀ k : Fin k0_t22_loop.trips, k0_off52 k = ![1, 128 * k.val, 2048]) k) ((by decide +kernel : ∀ k : Fin k0_t22_loop.trips, k0_off53 k = ![128 * k.val, 2048]) k) ((by decide +kernel : ∀ k : Fin k0_t22_loop.trips, k0_off54 k = ![0, 128 * k.val, 2048]) k) (fun _ _ => rfl) _) (told rfl))) ?_
  refine (j_max X W (c := c)).trans ?_
  refine step (amax_store X W K _ ((by decide +kernel : ∀ c : Dev nD, k0_off55 c = ![c.val, 0, 0]) c)) ?_
  refine (j_bc (c := c)).trans ?_
  refine step (bc_send X W K 0 _ (by exact sdR (t := fun c => ⟨k0_dev55 c, k0_dev55_lt c⟩) (.bc 0) (.bcS 0) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine step (bc_send X W K 1 _ (by exact sdR (t := fun c => ⟨k0_dev56 c, k0_dev56_lt c⟩) (.bc 1) (.bcS 1) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine step (bc_send X W K 2 _ (by exact sdR (t := fun c => ⟨k0_dev57 c, k0_dev57_lt c⟩) (.bc 2) (.bcS 2) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine step (bc_send X W K 3 _ (by exact sdR (t := fun c => ⟨k0_dev58 c, k0_dev58_lt c⟩) (.bc 3) (.bcS 3) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine step (bc_send X W K 4 _ (by exact sdR (t := fun c => ⟨k0_dev59 c, k0_dev59_lt c⟩) (.bc 4) (.bcS 4) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine step (bc_send X W K 5 _ (by exact sdR (t := fun c => ⟨k0_dev60 c, k0_dev60_lt c⟩) (.bc 5) (.bcS 5) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine step (bc_send X W K 6 _ (by exact sdR (t := fun c => ⟨k0_dev61 c, k0_dev61_lt c⟩) (.bc 6) (.bcS 6) rfl rfl rfl rfl rfl (by decide +kernel)) (vwA _ _ c.isLt ((by decide +kernel : ∀ c : Dev nD, k0_off56 c = ![c.val, 0, 0]) c)) (vwA _ _ c.isLt ((by decide +kernel : ∀ c : Dev nD, k0_off56 c = ![c.val, 0, 0]) c))) ?_
  refine (j_br X W (c := c)).trans ?_
  refine step (bc_recv X W K 0 _ (by exact wtD (.bcR 0) rfl rfl)) ?_
  refine step (bc_recv X W K 1 _ (by exact wtD (.bcR 1) rfl rfl)) ?_
  refine step (bc_recv X W K 2 _ (by exact wtD (.bcR 2) rfl rfl)) ?_
  refine step (bc_recv X W K 3 _ (by exact wtD (.bcR 3) rfl rfl)) ?_
  refine step (bc_recv X W K 4 _ (by exact wtD (.bcR 4) rfl rfl)) ?_
  refine step (bc_recv X W K 5 _ (by exact wtD (.bcR 5) rfl rfl)) ?_
  refine step (bc_recv X W K 6 _ (by exact wtD (.bcR 6) rfl rfl)) ?_
  refine (j_bs X W (c := c)).trans ?_
  refine step (bc_sent X W K 0 _ (by exact wtD (.bcS 0) rfl rfl)) ?_
  refine step (bc_sent X W K 1 _ (by exact wtD (.bcS 1) rfl rfl)) ?_
  refine step (bc_sent X W K 2 _ (by exact wtD (.bcS 2) rfl rfl)) ?_
  refine step (bc_sent X W K 3 _ (by exact wtD (.bcS 3) rfl rfl)) ?_
  refine step (bc_sent X W K 4 _ (by exact wtD (.bcS 4) rfl rfl)) ?_
  refine step (bc_sent X W K 5 _ (by exact wtD (.bcS 5) rfl rfl)) ?_
  refine step (bc_sent X W K 6 _ (by exact wtD (.bcS 6) rfl rfl)) ?_
  refine step (amax_load X W K _ _) ?_
  refine (j_own X W (c := c)).trans ?_
  refine step (own_block X W K _ rfl ⟨rfl, rfl⟩ rfl (fun O k a => by
    simp only [k0_t23_body, k0_part3_eq_skeleton, k0_part3_skel, bind_assoc, Prog.lift, Prog.bind_op, Prog.bind_ret, Prog.pure_eq_ret]
    exact trip (fun _ => quant_half X W false k.val ((by decide +kernel : ∀ k : Fin k0_t23_loop.trips, k0_off57 k = ![0, 128 * k.val, 0]) k) (fun _ => rfl) (fun _ => rfl) _)
      (fun _ => quant_half X W true k.val ((by decide +kernel : ∀ k : Fin k0_t23_loop.trips, k0_off57 k = ![0, 128 * k.val, 0]) k) (fun _ => rfl) (fun _ => rfl) _) Entails.rfl)
    (by exact cpR' 0 rfl rfl) (vwS _ _ rfl) (vwO _ false ((by decide +kernel : ∀ c : Dev nD, k0_off58 c = ![512 * c.val, 4096 * b2 false]) c)) (by exact cpR' 1 rfl rfl) (vwS _ _ rfl) (vwO _ true ((by decide +kernel : ∀ c : Dev nD, k0_off59 c = ![512 * c.val, 4096 * b2 true]) c))) ?_
  refine (j_ag X W K (c := c)).trans ?_
  refine step (ag_sends X W K 0 _ rfl rfl (by exact sgR (t := fun c => ⟨k0_dev62 c, k0_dev62_lt c⟩) (.ac false 0) rfl rfl (by decide +kernel)) (by exact sgR (t := fun c => ⟨k0_dev63 c, k0_dev63_lt c⟩) (.ac true 0) rfl rfl (by decide +kernel)) (by exact wtR (.ac false) rfl rfl) (by exact wtR (.ac true) rfl rfl)
    (by exact sdR (t := fun c => ⟨k0_dev64 c, k0_dev64_lt c⟩) (.ag false 0) (.agS false 0) rfl rfl rfl rfl rfl (by decide +kernel)) (vwS _ _ rfl) (vwS _ _ rfl) (by exact sdR (t := fun c => ⟨k0_dev65 c, k0_dev65_lt c⟩) (.ag true 0) (.agS true 0) rfl rfl rfl rfl rfl (by decide +kernel)) (vwS _ _ rfl) (vwS _ _ rfl)) ?_
  refine step (ag_waits X W K 0 _ iprop(emp) rfl rfl (by exact wtD (.agS false 0) rfl rfl) (by exact wtD (.agR false 0) rfl rfl) (by exact wtD (.agS true 0) rfl rfl) (by exact wtD (.agR true 0) rfl rfl)) ?_
  refine step (ag_sends X W K 1 _ rfl rfl (by exact sgR (t := fun c => ⟨k0_dev66 c, k0_dev66_lt c⟩) (.ac false 1) rfl rfl (by decide +kernel)) (by exact sgR (t := fun c => ⟨k0_dev67 c, k0_dev67_lt c⟩) (.ac true 1) rfl rfl (by decide +kernel)) (by exact wtR (.ac false) rfl rfl) (by exact wtR (.ac true) rfl rfl)
    (by exact sdR (t := fun c => ⟨k0_dev68 c, k0_dev68_lt c⟩) (.ag false 1) (.agS false 1) rfl rfl rfl rfl rfl (by decide +kernel)) (vwS _ _ rfl) (vwS _ _ rfl) (by exact sdR (t := fun c => ⟨k0_dev69 c, k0_dev69_lt c⟩) (.ag true 1) (.agS true 1) rfl rfl rfl rfl rfl (by decide +kernel)) (vwS _ _ rfl) (vwS _ _ rfl)) ?_
  refine step (deq_block X W K 0 _ _ _ _ rfl rfl rfl (fun O k a => by
    simp only [k0_t24_body, Prog.lift, Prog.bind_op, Prog.bind_ret, Prog.pure_eq_ret]
    exact trip (fun _ => deq_half X W false 1 k.val _ _ ((by decide +kernel : ∀ k : Fin k0_t24_loop.trips, k0_off60 k = ![1, 128 * k.val, 0]) k) (fun _ => rfl) _)
      (fun _ => deq_half X W true 1 k.val _ _ ((by decide +kernel : ∀ k : Fin k0_t24_loop.trips, k0_off60 k = ![1, 128 * k.val, 0]) k) (fun _ => rfl) _) Entails.rfl)
    (by exact cpR' (cx false 0) rfl rfl) (vwS _ _ rfl) (vwO _ false ((by decide +kernel : ∀ c : Dev nD, k0_off61 c 15#32 = ![512 * (srcN false 1 c).val, 4096 * b2 false]) c)) (by exact cpR' (cx true 0) rfl rfl) (vwS _ _ rfl) (vwO _ true ((by decide +kernel : ∀ c : Dev nD, k0_off62 c 0#32 = ![512 * (srcN true 1 c).val, 4096 * b2 true]) c)) (by exact wtD (.ob false) rfl rfl) (by exact wtD (.ob true) rfl rfl)) ?_
  refine step (ag_waits X W K 1 _ iprop(emp) rfl rfl (by exact wtD (.agS false 1) rfl rfl) (by exact wtD (.agR false 1) rfl rfl) (by exact wtD (.agS true 1) rfl rfl) (by exact wtD (.agR true 1) rfl rfl)) ?_
  refine step (ag_sends X W K 2 _ rfl rfl (by exact sgR (t := fun c => ⟨k0_dev70 c, k0_dev70_lt c⟩) (.ac false 2) rfl rfl (by decide +kernel)) (by exact sgR (t := fun c => ⟨k0_dev71 c, k0_dev71_lt c⟩) (.ac true 2) rfl rfl (by decide +kernel)) (by exact wtR (.ac false) rfl rfl) (by exact wtR (.ac true) rfl rfl)
    (by exact sdR (t := fun c => ⟨k0_dev72 c, k0_dev72_lt c⟩) (.ag false 2) (.agS false 2) rfl rfl rfl rfl rfl (by decide +kernel)) (vwS _ _ rfl) (vwS _ _ rfl) (by exact sdR (t := fun c => ⟨k0_dev73 c, k0_dev73_lt c⟩) (.ag true 2) (.agS true 2) rfl rfl rfl rfl rfl (by decide +kernel)) (vwS _ _ rfl) (vwS _ _ rfl)) ?_
  refine step (own_waits X W K _ _ _ rfl (by exact wtD (.od false) rfl rfl) (by exact wtD (.od true) rfl rfl)) ?_
  refine (j_od).trans ?_
  refine step (deq_block X W K 1 _ _ _ _ rfl rfl rfl (fun O k a => by
    simp only [k0_t25_body, Prog.lift, Prog.bind_op, Prog.bind_ret, Prog.pure_eq_ret]
    exact trip (fun _ => deq_half X W false 2 k.val _ _ ((by decide +kernel : ∀ k : Fin k0_t25_loop.trips, k0_off63 k = ![0, 128 * k.val, 0]) k) (fun _ => rfl) _)
      (fun _ => deq_half X W true 2 k.val _ _ ((by decide +kernel : ∀ k : Fin k0_t25_loop.trips, k0_off63 k = ![0, 128 * k.val, 0]) k) (fun _ => rfl) _) Entails.rfl)
    (by exact cpR' (cx false 1) rfl rfl) (vwS _ _ rfl) (vwO _ false ((by decide +kernel : ∀ c : Dev nD, k0_off61 c 14#32 = ![512 * (srcN false 2 c).val, 4096 * b2 false]) c)) (by exact cpR' (cx true 1) rfl rfl) (vwS _ _ rfl) (vwO _ true ((by decide +kernel : ∀ c : Dev nD, k0_off62 c 1#32 = ![512 * (srcN true 2 c).val, 4096 * b2 true]) c)) (by exact wtD (.ob false) rfl rfl) (by exact wtD (.ob true) rfl rfl)) ?_
  refine step (ag_waits X W K 2 _ iprop(emp) rfl rfl (by exact wtD (.agS false 2) rfl rfl) (by exact wtD (.agR false 2) rfl rfl) (by exact wtD (.agS true 2) rfl rfl) (by exact wtD (.agR true 2) rfl rfl)) ?_
  refine step (ag_sends X W K 3 _ rfl rfl (by exact sgR (t := fun c => ⟨k0_dev74 c, k0_dev74_lt c⟩) (.ac false 3) rfl rfl (by decide +kernel)) (by exact sgR (t := fun c => ⟨k0_dev75 c, k0_dev75_lt c⟩) (.ac true 3) rfl rfl (by decide +kernel)) (by exact wtR (.ac false) rfl rfl) (by exact wtR (.ac true) rfl rfl)
    (by exact sdR (t := fun c => ⟨k0_dev76 c, k0_dev76_lt c⟩) (.ag false 3) (.agS false 3) rfl rfl rfl rfl rfl (by decide +kernel)) (vwS _ _ rfl) (vwS _ _ rfl) (by exact sdR (t := fun c => ⟨k0_dev77 c, k0_dev77_lt c⟩) (.ag true 3) (.agS true 3) rfl rfl rfl rfl rfl (by decide +kernel)) (vwS _ _ rfl) (vwS _ _ rfl)) ?_
  refine step (deq_block X W K 2 _ _ _ _ rfl rfl rfl (fun O k a => by
    simp only [k0_t26_body, Prog.lift, Prog.bind_op, Prog.bind_ret, Prog.pure_eq_ret]
    exact trip (fun _ => deq_half X W false 3 k.val _ _ ((by decide +kernel : ∀ k : Fin k0_t26_loop.trips, k0_off64 k = ![1, 128 * k.val, 0]) k) (fun _ => rfl) _)
      (fun _ => deq_half X W true 3 k.val _ _ ((by decide +kernel : ∀ k : Fin k0_t26_loop.trips, k0_off64 k = ![1, 128 * k.val, 0]) k) (fun _ => rfl) _) Entails.rfl)
    (by exact cpR' (cx false 2) rfl rfl) (vwS _ _ rfl) (vwO _ false ((by decide +kernel : ∀ c : Dev nD, k0_off61 c 13#32 = ![512 * (srcN false 3 c).val, 4096 * b2 false]) c)) (by exact cpR' (cx true 2) rfl rfl) (vwS _ _ rfl) (vwO _ true ((by decide +kernel : ∀ c : Dev nD, k0_off62 c 2#32 = ![512 * (srcN true 3 c).val, 4096 * b2 true]) c)) (by exact wtD (.ob false) rfl rfl) (by exact wtD (.ob true) rfl rfl)) ?_
  refine step (ag_waits X W K 3 _ iprop(emp) rfl rfl (by exact wtD (.agS false 3) rfl rfl) (by exact wtD (.agR false 3) rfl rfl) (by exact wtD (.agS true 3) rfl rfl) (by exact wtD (.agR true 3) rfl rfl)) ?_
  refine step (ag_sends X W K 4 _ rfl rfl (by exact sgR (t := fun c => ⟨k0_dev78 c, k0_dev78_lt c⟩) (.ac false 4) rfl rfl (by decide +kernel)) (by exact sgR (t := fun c => ⟨k0_dev79 c, k0_dev79_lt c⟩) (.ac true 4) rfl rfl (by decide +kernel)) (by exact wtR (.ac false) rfl rfl) (by exact wtR (.ac true) rfl rfl)
    (by exact sdR (t := fun c => ⟨k0_dev80 c, k0_dev80_lt c⟩) (.ag false 4) (.agS false 4) rfl rfl rfl rfl rfl (by decide +kernel)) (vwS _ _ rfl) (vwS _ _ rfl) (by exact sdR (t := fun c => ⟨k0_dev81 c, k0_dev81_lt c⟩) (.ag true 4) (.agS true 4) rfl rfl rfl rfl rfl (by decide +kernel)) (vwS _ _ rfl) (vwS _ _ rfl)) ?_
  refine step (deq_block X W K 3 _ _ _ _ rfl rfl rfl (fun O k a => by
    simp only [k0_t27_body, Prog.lift, Prog.bind_op, Prog.bind_ret, Prog.pure_eq_ret]
    exact trip (fun _ => deq_half X W false 4 k.val _ _ ((by decide +kernel : ∀ k : Fin k0_t27_loop.trips, k0_off65 k = ![0, 128 * k.val, 0]) k) (fun _ => rfl) _)
      (fun _ => deq_half X W true 4 k.val _ _ ((by decide +kernel : ∀ k : Fin k0_t27_loop.trips, k0_off65 k = ![0, 128 * k.val, 0]) k) (fun _ => rfl) _) Entails.rfl)
    (by exact cpR' (cx false 3) rfl rfl) (vwS _ _ rfl) (vwO _ false ((by decide +kernel : ∀ c : Dev nD, k0_off61 c 12#32 = ![512 * (srcN false 4 c).val, 4096 * b2 false]) c)) (by exact cpR' (cx true 3) rfl rfl) (vwS _ _ rfl) (vwO _ true ((by decide +kernel : ∀ c : Dev nD, k0_off62 c 3#32 = ![512 * (srcN true 4 c).val, 4096 * b2 true]) c)) (by exact wtD (.ob false) rfl rfl) (by exact wtD (.ob true) rfl rfl)) ?_
  refine step (ag_waits X W K 4 _ iprop(emp) rfl rfl (by exact wtD (.agS false 4) rfl rfl) (by exact wtD (.agR false 4) rfl rfl) (by exact wtD (.agS true 4) rfl rfl) (by exact wtD (.agR true 4) rfl rfl)) ?_
  refine step (ag_sends X W K 5 _ rfl rfl (by exact sgR (t := fun c => ⟨k0_dev82 c, k0_dev82_lt c⟩) (.ac false 5) rfl rfl (by decide +kernel)) (by exact sgR (t := fun c => ⟨k0_dev83 c, k0_dev83_lt c⟩) (.ac true 5) rfl rfl (by decide +kernel)) (by exact wtR (.ac false) rfl rfl) (by exact wtR (.ac true) rfl rfl)
    (by exact sdR (t := fun c => ⟨k0_dev84 c, k0_dev84_lt c⟩) (.ag false 5) (.agS false 5) rfl rfl rfl rfl rfl (by decide +kernel)) (vwS _ _ rfl) (vwS _ _ rfl) (by exact sdR (t := fun c => ⟨k0_dev85 c, k0_dev85_lt c⟩) (.ag true 5) (.agS true 5) rfl rfl rfl rfl rfl (by decide +kernel)) (vwS _ _ rfl) (vwS _ _ rfl)) ?_
  refine step (deq_block X W K 4 _ _ _ _ rfl rfl rfl (fun O k a => by
    simp only [k0_t28_body, Prog.lift, Prog.bind_op, Prog.bind_ret, Prog.pure_eq_ret]
    exact trip (fun _ => deq_half X W false 5 k.val _ _ ((by decide +kernel : ∀ k : Fin k0_t28_loop.trips, k0_off66 k = ![1, 128 * k.val, 0]) k) (fun _ => rfl) _)
      (fun _ => deq_half X W true 5 k.val _ _ ((by decide +kernel : ∀ k : Fin k0_t28_loop.trips, k0_off66 k = ![1, 128 * k.val, 0]) k) (fun _ => rfl) _) Entails.rfl)
    (by exact cpR' (cx false 4) rfl rfl) (vwS _ _ rfl) (vwO _ false ((by decide +kernel : ∀ c : Dev nD, k0_off61 c 11#32 = ![512 * (srcN false 5 c).val, 4096 * b2 false]) c)) (by exact cpR' (cx true 4) rfl rfl) (vwS _ _ rfl) (vwO _ true ((by decide +kernel : ∀ c : Dev nD, k0_off62 c 4#32 = ![512 * (srcN true 5 c).val, 4096 * b2 true]) c)) (by exact wtD (.ob false) rfl rfl) (by exact wtD (.ob true) rfl rfl)) ?_
  refine step (ag_waits X W K 5 _ iprop(emp) rfl rfl (by exact wtD (.agS false 5) rfl rfl) (by exact wtD (.agR false 5) rfl rfl) (by exact wtD (.agS true 5) rfl rfl) (by exact wtD (.agR true 5) rfl rfl)) ?_
  refine step (ag_sends X W K 6 _ rfl rfl (by exact sgR (t := fun c => ⟨k0_dev86 c, k0_dev86_lt c⟩) (.ac false 6) rfl rfl (by decide +kernel)) (by exact sgR (t := fun c => ⟨k0_dev87 c, k0_dev87_lt c⟩) (.ac true 6) rfl rfl (by decide +kernel)) (by exact wtR (.ac false) rfl rfl) (by exact wtR (.ac true) rfl rfl)
    (by exact sdR (t := fun c => ⟨k0_dev88 c, k0_dev88_lt c⟩) (.ag false 6) (.agS false 6) rfl rfl rfl rfl rfl (by decide +kernel)) (vwS _ _ rfl) (vwS _ _ rfl) (by exact sdR (t := fun c => ⟨k0_dev89 c, k0_dev89_lt c⟩) (.ag true 6) (.agS true 6) rfl rfl rfl rfl rfl (by decide +kernel)) (vwS _ _ rfl) (vwS _ _ rfl)) ?_
  refine step (deq_block X W K 5 _ _ _ _ rfl rfl rfl (fun O k a => by
    simp only [k0_t29_body, Prog.lift, Prog.bind_op, Prog.bind_ret, Prog.pure_eq_ret]
    exact trip (fun _ => deq_half X W false 6 k.val _ _ ((by decide +kernel : ∀ k : Fin k0_t29_loop.trips, k0_off67 k = ![0, 128 * k.val, 0]) k) (fun _ => rfl) _)
      (fun _ => deq_half X W true 6 k.val _ _ ((by decide +kernel : ∀ k : Fin k0_t29_loop.trips, k0_off67 k = ![0, 128 * k.val, 0]) k) (fun _ => rfl) _) Entails.rfl)
    (by exact cpR' (cx false 5) rfl rfl) (vwS _ _ rfl) (vwO _ false ((by decide +kernel : ∀ c : Dev nD, k0_off61 c 10#32 = ![512 * (srcN false 6 c).val, 4096 * b2 false]) c)) (by exact cpR' (cx true 5) rfl rfl) (vwS _ _ rfl) (vwO _ true ((by decide +kernel : ∀ c : Dev nD, k0_off62 c 5#32 = ![512 * (srcN true 6 c).val, 4096 * b2 true]) c)) (by exact wtD (.ob false) rfl rfl) (by exact wtD (.ob true) rfl rfl)) ?_
  refine step (ag_waits X W K 6 _ iprop(emp) rfl rfl (by exact wtD (.agS false 6) rfl rfl) (by exact wtD (.agR false 6) rfl rfl) (by exact wtD (.agS true 6) rfl rfl) (by exact wtD (.agR true 6) rfl rfl)) ?_
  refine step (deq_block X W K 6 _ _ _ _ rfl rfl rfl (fun O k a => by
    simp only [k0_t30_body, Prog.lift, Prog.bind_op, Prog.bind_ret, Prog.pure_eq_ret]
    exact trip (fun _ => deq_half X W false 7 k.val _ _ ((by decide +kernel : ∀ k : Fin k0_t30_loop.trips, k0_off68 k = ![1, 128 * k.val, 0]) k) (fun _ => rfl) _)
      (fun _ => deq_half X W true 7 k.val _ _ ((by decide +kernel : ∀ k : Fin k0_t30_loop.trips, k0_off68 k = ![1, 128 * k.val, 0]) k) (fun _ => rfl) _) Entails.rfl)
    (by exact cpR' (cx false 6) rfl rfl) (vwS _ _ rfl) (vwO _ false ((by decide +kernel : ∀ c : Dev nD, k0_off61 c 9#32 = ![512 * (srcN false 7 c).val, 4096 * b2 false]) c)) (by exact cpR' (cx true 6) rfl rfl) (vwS _ _ rfl) (vwO _ true ((by decide +kernel : ∀ c : Dev nD, k0_off62 c 6#32 = ![512 * (srcN true 7 c).val, 4096 * b2 true]) c)) (by exact wtD (.ob false) rfl rfl) (by exact wtD (.ob true) rfl rfl)) ?_
  exact (j_done X W K).trans (h.trans (ret _ _))

end

end Cert.KernelIdealProof

end
-- ==== Proof.Deal.lean ====
/-
# What the launch deals

The kernel's own semaphores and the barrier are the cells of the protocol. The launch mints every cell's state and every
payment's token with the device whose cell it is; the tokens then go to the devices that pay with them, and the credits of
the launch are, payment by payment, those a device's waits end.
-/
module

public import proofs.«01_k».proof.Proof.Start
public import proofs.«01_k».proof.Proof.Gen.KernelIdeal.Launch

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (X : Dev nD → S4096x512.Idx → Elt F .bf16) (W : Dev nD → S512x8192.Idx → Elt F .bf16)

/-! ## The semaphores -/

/-- The kernel's own semaphores: every kind's but the barrier's. -/
abbrev Own : Type := {k : Kd // k ≠ .bar}
abbrev osem (k : Own) : SemLoc sig := semOf k.1

theorem ownSemFacts : Pipeline.OwnSemFacts cfg0.spec osem where
  isScoped := by
    have h : ∀ k : Kd, k ≠ .bar → (semOf k).isScoped .tc = true := by decide +kernel
    exact fun k => h k.1 k.2
  inj := fun k k' h => Subtype.ext (semOf_inj h)
  disj := by
    have h : ∀ (k : Kd) (w : Fin 2) (s : Fin (spec0 w).nbuf), semOf k ≠ .dma ((spec0 w).sem s) := by decide +kernel
    exact fun k w s => h k.1 w s

theorem unscopedSems0_eq (c : Dev nD) : (unscopedSems0 c : sProp 𝕄) = semVal (cell c .bar) 0 := by
  unfold unscopedSems0; rw [bigSep_eq_bigSepL_of_eq [semOf .bar] (by decide +kernel) (by decide)]; rfl

/-- All of a device's cells' counters at zero. -/
def zeros (c : Dev nD) : sProp 𝕄 := bigSep Finset.univ fun k : Kd => semVal (cell c k) 0

theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  unfold zeros Pipeline.ownSems0
  rw [unscopedSems0_eq, BI.bigSep_subtype_ne Kd.bar (fun k : Kd => (semVal (cell c k) 0 : sProp 𝕄)), bigSep_univ_at _ Kd.bar]

/-! ## The tokens minted -/

theorem kcell_injective : Function.Injective (kcell : CK → GSem nD τ sig) := fun x y h =>
  Prod.ext (cell_inj h).1 (cell_inj h).2
def allCells : Finset (GSem nD τ sig) := Finset.univ.map ⟨kcell, kcell_injective⟩

/-- The tokens of a device's own cells: one for every payment to it, one for the sender's side of each of its transfers (a
    payment without one gets a token no one uses), one for each of its copies to the output. -/
abbrev TI : Type := Ev ⊕ Ev ⊕ Fin 16

def tokAt : TI → Kd × ℕ × Bool
  | .inl e => (evK e, evR e, evD e)
  | .inr (.inl e) => match selfK e with
    | some k => (k, 0, false)
    | none => (evK e, evR e + 100, evD e)
  | .inr (.inr x) => (cpK x, cpR x, false)

theorem tokAt_injective : Function.Injective tokAt := by
  have h : ∀ a b : TI, tokAt a = tokAt b → a = b := by decide +kernel
  exact fun a b => h a b

abbrev tokOf (x : Dev nD × TI) : GSem nD τ sig × ℕ × Bool := (cell x.1 (tokAt x.2).1, (tokAt x.2).2.1, (tokAt x.2).2.2)
theorem tokOf_injective : Function.Injective tokOf := fun x y h => by
  have h1 := cell_inj (congrArg Prod.fst h)
  have h2 := congrArg Prod.snd h
  exact Prod.ext h1.1 (tokAt_injective (Prod.ext h1.2 h2))
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- A token of device `c`'s own cells. -/
abbrev dut (c : Dev nD) (x : Kd × ℕ × Bool) : sProp 𝕄 := dutyTok ER (cell c x.1) x.2.1 x.2.2

/-- What the launch deals device `c`. -/
def G (c : Dev nD) : sProp 𝕄 :=
  iprop((bigSep Finset.univ fun k : Kd => roundState ER (Rd X W) (cell c k) 0)
    ∗ (bigSep Finset.univ fun k : Kd => atPos ER (cell c k) 0 ∅ 0)
    ∗ (bigSep Finset.univ fun k : Kd => reached ER (cell c k) 0)
    ∗ bigSep Finset.univ fun t : TI => dut (F := F) c (tokAt t))

theorem fund_all : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun t : TI => dut (F := F) c (tokAt t) := by
    unfold allToks; rw [bigSep_map, bigSep_univ_prod]; rfl
  iintro HX
  imod (Rounds.fund ER (Rd X W) allCells allToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The tokens handed to those who pay with them -/

/-- Every device's payments in place of every device's receipts. -/
def evEquiv (e : Ev) : Dev nD ≃ Dev nD := ⟨evT e, evS e, evS_evT e, evT_evS e⟩

/-- The copies' tokens of device `c`. -/
def cpDuts (c : Dev nD) : sProp 𝕄 := bigSep Finset.univ fun x : Fin 16 => dutyTok ER (cell c (cpK x)) (cpR x) false

theorem selfs (c : Dev nD) : (bigSep Finset.univ fun e : Ev => dut (F := F) c (tokAt (.inr (.inl e))))
    ⊢ bigSep Finset.univ fun e : Ev => (match selfK e with | some k => dutyTok ER (cell c k) 0 false | none => iprop(emp) : sProp 𝕄) :=
  bigSep_mono fun e _ => by
    show dut (F := F) c (match selfK e with | some k => (k, 0, false) | none => (evK e, evR e + 100, evD e)) ⊢ _
    cases selfK e with
    | none => iintro -; iempintro
    | some k => exact Entails.rfl

theorem deal : (bigSep Finset.univ fun c : Dev nD => bigSep Finset.univ fun t : TI => dut (F := F) c (tokAt t))
    ⊢ bigSep Finset.univ fun c : Dev nD => iprop((bigSep Finset.univ fun e : Ev => evTok (F := F) c e) ∗ cpDuts (F := F) c) := by
  have h1 : (bigSep Finset.univ fun c : Dev nD => bigSep Finset.univ fun e : Ev => dut (F := F) c (tokAt (.inl e)))
      = bigSep Finset.univ fun c : Dev nD => bigSep Finset.univ fun e : Ev => (dutyTok ER (cell (evT e c) (evK e)) (evR e) (evD e) : sProp 𝕄) := by
    rw [BI.bigSep_univ_comm, BI.bigSep_univ_comm (fun c e => (dutyTok ER (cell (evT e c) (evK e)) (evR e) (evD e) : sProp 𝕄))]
    exact bigSep_congr fun e _ => bigSep_univ_equiv (evEquiv e) (fun c : Dev nD => dut (F := F) c (tokAt (.inl e)))
  have h2 (c : Dev nD) : (bigSep Finset.univ fun t : TI => dut (F := F) c (tokAt t))
      = iprop((bigSep Finset.univ fun e : Ev => dut (F := F) c (tokAt (.inl e)))
        ∗ (bigSep Finset.univ fun e : Ev => dut (F := F) c (tokAt (.inr (.inl e)))) ∗ cpDuts (F := F) c) := by
    rw [BI.bigSep_univ_sum, BI.bigSep_univ_sum]; rfl
  simp only [h2]
  unfold evTok
  simp only [bigSep_sep']
  rw [h1]
  iintro ⟨H1, H2, H3⟩
  isplitr [H3]
  · isplitl [H1]; · iexact H1
    iapply (show (bigSep Finset.univ fun c : Dev nD => bigSep Finset.univ fun e : Ev => dut (F := F) c (tokAt (.inr (.inl e))))
      ⊢ bigSep Finset.univ fun c : Dev nD => bigSep Finset.univ fun e : Ev => (match selfK e with | some k => dutyTok ER (cell c k) 0 false | none => iprop(emp) : sProp 𝕄) from
      bigSep_mono fun c _ => selfs (F := F) c)
    iexact H2
  · iexact H3

/-! ## The cells opened -/

theorem core_alloc (c : Dev nD) :
    iprop(Pipeline.ownSems0 (Ix := ℕ) (Name := ℕ) (U := UU) (Lvl := ℕ) (Val := Elt F) (τ := τ) osem c ∗ unscopedSems0 c ∗ G X W c)
      ⊢ |={Set.univ}=> iprop((bigSep Finset.univ fun k : Kd => iprop(∃ κ : ℕ, cellInv ER (Rd X W) κ (cell c k)))
          ∗ (bigSep Finset.univ fun k : Kd => atPos ER (cell c k) 0 ∅ 0)
          ∗ (bigSep Finset.univ fun k : Kd => reached ER (cell c k) 0)
          ∗ bigSep Finset.univ fun t : TI => dut (F := F) c (tokAt t)) := by
  unfold G
  iintro ⟨Hos, Hus, Hst, Hat, Hr, Htok⟩
  ihave Hv := (Entails.of_eq (zeros_eq (F := F) c).symm) $$ [Hos Hus]
  · isplitl [Hus] <;> iassumption
  imod (show iprop(zeros c ∗ bigSep Finset.univ fun k : Kd => roundState ER (Rd X W) (cell c k) 0)
      ⊢ (|={Set.univ}=> bigSep Finset.univ fun k => iprop(∃ κ : ℕ, cellInv ER (Rd X W) κ (cell c k)) : sProp 𝕄) from by
        unfold zeros
        rw [← bigSep_sep']
        exact (bigSep_mono fun k _ => (Rounds.body_intro ER (Rd X W) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- What device `c`'s part of the protocol is once the cells are open. -/
def Ghost (K : CK → ℕ) (c : Dev nD) : sProp 𝕄 :=
  iprop(Recs X W K ∗ (bigSep Finset.univ fun k : Kd => atPos ER (cell c k) 0 ∅ 0)
    ∗ (bigSep Finset.univ fun e : Ev => evTok (F := F) c e) ∗ cpDuts (F := F) c)
def G' (c : Dev nD) : sProp 𝕄 := iprop(∃ K, Ghost X W K c)

theorem regroup :
    (bigSep Finset.univ fun c : Dev nD => iprop((bigSep Finset.univ fun k : Kd => iprop(∃ κ : ℕ, cellInv ER (Rd X W) κ (cell c k)))
          ∗ (bigSep Finset.univ fun k : Kd => atPos ER (cell c k) 0 ∅ 0)
          ∗ (bigSep Finset.univ fun k : Kd => reached ER (cell c k) 0)
          ∗ bigSep Finset.univ fun t : TI => dut (F := F) c (tokAt t)) : sProp 𝕄)
      ⊢ bigSep Finset.univ (G' X W) := by
  rw [bigSep_sep', bigSep_sep', bigSep_sep', ← bigSep_univ_prod (fun x : CK => iprop(∃ κ : ℕ, cellInv ER (Rd X W) κ (kcell x))),
    ← bigSep_univ_prod (fun x : CK => (reached ER (kcell x) 0 : sProp 𝕄))]
  iintro ⟨HI, Hat, #HR, Htok⟩
  ihave HK := (BI.bigSep_exists_pi Finset.univ (fun (x : CK) (κ : ℕ) => (cellInv ER (Rd X W) κ (kcell x) : sProp 𝕄))) $$ HI
  icases HK with ⟨%K, #HI⟩
  ihave Htk := (deal (F := F)) $$ Htok
  ihave Hall := (Entails.of_eq (bigSep_sep' Finset.univ (fun c : Dev nD => bigSep Finset.univ fun k : Kd => (atPos ER (cell c k) 0 ∅ 0 : sProp 𝕄)) _).symm) $$ [Hat Htk]
  · isplitl [Hat]; · iexact Hat
    iexact Htk
  iapply (show iprop(Recs X W K ∗ bigSep Finset.univ fun c : Dev nD => iprop((bigSep Finset.univ fun k : Kd => (atPos ER (cell c k) 0 ∅ 0 : sProp 𝕄))
      ∗ (bigSep Finset.univ fun e : Ev => evTok (F := F) c e) ∗ cpDuts (F := F) c)) ⊢ bigSep Finset.univ (G' X W) from
    (sep_mono_left (BI.bigSep_of_persistent Finset.univ (Recs X W K))).trans (by
      rw [← bigSep_sep']
      exact bigSep_mono fun c _ => by
        show Ghost X W K c ⊢ G' X W c
        unfold G'
        iintro H
        iexists K
        iexact H))
  isplitr
  · unfold Recs; isplitl; · iexact HI
    iexact HR
  · iexact Hall

theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credits -/

theorem creds (c : Dev nD) : (Pipeline.launchCred (fun d => owed d 0) c : sProp 𝕄) ⊢ bigSep (wtodo 0) fun e => evCred (F := F) c e := by
  have h0 : todo 0 = Finset.univ := by unfold todo; exact Finset.filter_true_of_mem fun _ _ => Nat.zero_le _
  have h1 : wtodo 0 = Finset.univ := by unfold wtodo; exact Finset.filter_true_of_mem fun _ _ => Nat.zero_le _
  unfold owed
  rw [h0, h1, Pipeline.launchCred_sum]
  exact bigSep_mono fun e _ => Pipeline.launchCred_tallyAt (semOf (evK e)) (evT e) (evS e) (evT_evS e) (evS_evT e) (evR e) (amt (evK e)) c

/-! ## The output cut along the copies to it -/

/-- The row block and the half of the columns the `x`-th copy of device `c` writes. -/
def cpJ (c : Dev nD) (x : Fin 16) : ℕ × Bool := match cpK x with
  | .od d => (c.val, d)
  | .ob d => ((srcN d (cpR x + 1) c).val, d)
  | _ => (0, false)

theorem cpA_eq (c : Dev nD) (x : Fin 16) : cpA c x = outP (cpJ c x).1 (cpJ c x).2 := by
  have h : ∀ x : Fin 16, ∃ d, cpK x = .od d ∨ cpK x = .ob d := by decide +kernel
  obtain ⟨d, h | h⟩ := h x <;> simp [cpA, cpJ, h]

theorem cpJ_injective : ∀ (c : Dev nD) (x y : Fin 16), cpJ c x = cpJ c y → x = y := by decide +kernel

theorem cpA_disj (c : Dev nD) (x y : Fin 16) (h : x ≠ y) : Disjoint (cpA c x) (cpA c y) := by
  rw [cpA_eq, cpA_eq, Finset.disjoint_left]
  intro i hi hi'
  unfold outP at hi hi'
  rw [Finset.mem_filter] at hi hi'
  have b2_inj : ∀ a b : Bool, b2 a = b2 b → a = b := by decide
  exact h (cpJ_injective c x y (Prod.ext (hi.2.1.symm.trans hi'.2.1) (b2_inj _ _ (hi.2.2.symm.trans hi'.2.2))))

theorem cps (c : Dev nD) (Y : S4096x8192.Idx → Elt F .bf16) : iprop(cpDuts (F := F) c ∗ held (c : Thread nD τ) outM fullShare Finset.univ Y)
    ⊢ bigSep (Finset.univ.filter fun x : Fin 16 => 0 ≤ x.val) fun x => cpTok (F := F) c x := by
  rw [Finset.filter_true_of_mem fun _ _ => Nat.zero_le _]
  unfold cpDuts cpTok
  rw [bigSep_sep']
  iintro ⟨H1, H2⟩
  isplitl [H1]; · iexact H1
  ihave H2 := (held_cut_subset (c : Thread nD τ) outM fullShare (Finset.subset_univ (Finset.univ.biUnion (cpA c))) Y) $$ H2
  icases H2 with ⟨H2, -⟩
  ihave H2 := (held_cut_family (c : Thread nD τ) outM fullShare Finset.univ (cpA c) Y (fun x _ y _ h => cpA_disj c x y h)) $$ H2
  iapply (show (bigSep Finset.univ fun x : Fin 16 => (held (c : Thread nD τ) outM fullShare (cpA c x) Y : sProp 𝕄))
    ⊢ bigSep Finset.univ fun x : Fin 16 => anyH (F := F) c outM (cpA c x) from bigSep_mono fun x _ => anyH_of (F := F) (c := c) Y)
  iexact H2

/-- What a device carries at the start. -/
theorem core_start (K : CK → ℕ) (c : Dev nD) (Y : S4096x8192.Idx → Elt F .bf16) (V : Waits sig ℕ) :
    iprop(Ghost X W K c ∗ levAts L lv ∗ (bigSep (wtodo 0) fun e => evCred (F := F) c e) ∗ owes (c : Thread nD τ) (owed c 0) V
      ∗ held (c : Thread nD τ) outM fullShare Finset.univ Y) ⊢ Core X W K c 0 0 0 := by
  have h0 : todo 0 = Finset.univ := by unfold todo; exact Finset.filter_true_of_mem fun _ _ => Nat.zero_le _
  unfold Ghost Core
  rw [h0]
  simp only [cnt_zero]
  iintro ⟨⟨#HR, Hat, Htk, Hcp⟩, Hlev, Hcr, Ho, Hout⟩
  isplitr; · iexact HR
  isplitl [Hlev]; · iexact Hlev
  isplitl [Ho]; · iexists V; iexact Ho
  isplitl [Htk]; · iexact Htk
  isplitl [Hat]
  · rw [bigSep_sep']
    isplitl [Hat]; · iexact Hat
    iapply (BI.bigSep_intro_persistent fun k _ => Recs_reached X W K c k)
    iexact HR
  isplitl [Hcr]; · iexact Hcr
  iapply (cps (F := F) c Y)
  isplitl [Hcp] <;> iassumption

/-- At the end every cell of a device closes with its counter at zero, and nothing is owed. -/
theorem core_end (K : CK → ℕ) (c : Dev nD) : Core X W K c 89 153 16 ⊢ |={Set.univ}=> iprop(zeros (F := F) c ∗ ∃ V, owes (c : Thread nD τ) 0 V) := by
  unfold Core zeros
  rw [owed_end]
  iintro ⟨#HR, -, Ho, -, Hat, -⟩
  imod (show iprop(Recs X W K ∗ bigSep Finset.univ fun k : Kd => iprop(atPos ER (cell c k) (cnt 153 k) ∅ 0 ∗ reached ER (cell c k) (cnt 153 k)))
      ⊢ (|={Set.univ}=> bigSep Finset.univ fun k : Kd => semVal (cell c k) 0 : sProp 𝕄) from
    (sep_mono_left (BI.bigSep_of_persistent Finset.univ (Recs X W K))).trans (by
      rw [← bigSep_sep']
      refine (bigSep_mono fun k _ => ?_).trans (bigSep_fupd _ _)
      show iprop(Recs X W K ∗ atPos ER (cell c k) (cnt 153 k) ∅ 0 ∗ reached ER (cell c k) (cnt 153 k)) ⊢ |={Set.univ}=> semVal (cell c k) 0
      iintro ⟨#HR, Hat, -⟩
      iapply (Rounds.cell_close ER (Rd X W) (Set.mem_univ (K (c, k))) (fun h => h) (R := cnt 153 k) (fun r hr => by
        rw [Rd_duties]; exact dutiesK_later k r (by rw [cnt_end] at hr; exact hr)))
      isplitr; · iapply (Recs_inv X W K c k); iexact HR
      iexact Hat)) $$ [Hat] with Hz
  · isplitr; · iexact HR
    iexact Hat
  imodintro
  isplitl [Hz]; · iexact Hz
  iexact Ho

/-- Before the first point a device waits on its windows' own semaphores at a level below all it owes. -/
theorem mayWait_stage (c : Dev nD) (sm : SemLoc sig) (hs : kindOf sm = none) (O : CellTallies nD τ sig ℕ) (hO : O = owed c 0 ∨ O = 0) :
    (levAts L lv : sProp 𝕄) ⊢ MayWait (c : Thread nD τ) sm 0 O := by
  have hlev : ∀ e : Ev, 0 < levK (evK e) (evR e) := by decide +kernel
  rcases hO with rfl | rfl
  · exact MayOwe.of_cut (L := L) (lev := lv) 0
      (fun q hq => by rw [Finset.mem_singleton.mp hq, L_tc]; exact Finset.mem_range.mpr (Nat.succ_pos 7))
      (fun g u hg => by obtain ⟨e, -, rfl, rfl⟩ := owed_pos hg; rw [L_tc]; exact Finset.mem_range.mpr (evR_lt8 e))
      (fun q hq => by rw [Finset.mem_singleton.mp hq]; unfold lv kindAt; rw [if_pos rfl, hs])
      (fun g u hg => by obtain ⟨e, he, rfl, rfl⟩ := owed_pos hg; rw [lv_cell]; exact hlev e)
  · rw [MayWait_zero]; iintro -; iempintro

end

end Cert.KernelIdealProof

end
-- ==== Proof.Launch.lean ====
/-
# The run

The body's obligation to the launch theorem, and the run of the whole program from any memory with every counter at zero:
it ends, the arguments are as they were, every device's result holds the values of `outV`, every counter is at zero.
-/
module

public import proofs.«01_k».proof.Proof.Body
public import proofs.«01_k».proof.Proof.Deal
public import proofs.«01_k».proof.Proof.Gen.KernelIdeal.Frame
public import Idealize.ShloMosaic.Lib.Pipeline.CollectiveSegs
public import Idealize.ShloMosaic.Lib.Pipeline.Quiescent

@[expose] public section

noncomputable section

namespace Cert.KernelIdealProof

open Cert.KernelIdeal Cert.KernelIdeal.Gen Cert.Held
open Idealize.ShloMosaic
open Idealize.ShloMosaic.TcCoe
open Idealize.SL Idealize.SL.RA
open PCS
open Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (m : (ℓ : Loc nD τ sig) → Buf (Elt F) ℓ) (ρ : Dev nD → PrngReg)

/-- Device `c`'s block of the left factor, -/
def xOf (c : Dev nD) : S4096x512.Idx → Elt F .bf16 := iblk m c 0 t0_0
/-- and of the right one. -/
def wOf (c : Dev nD) : S512x8192.Idx → Elt F .bf16 := iblk m c 1 t0_0

/-- What the body starts from besides its windows: the protocol's state at some names of the cells, the levels, the credits,
    the result's memory. -/
def start (c : Dev nD) : sProp 𝕄 :=
  iprop(G' (xOf m) (wOf m) c ∗ levAts L lv ∗ (bigSep (wtodo 0) fun e => evCred (F := F) c e) ∗ anyH (F := F) c outM Finset.univ)

/-- The scratch buffers. -/
def scratch (c : Dev nD) : sProp 𝕄 :=
  iprop((anyH (F := F) c (commM false) Finset.univ ∗ anyH (F := F) c (commM true) Finset.univ)
    ∗ (anyH (F := F) c (qcM false) Finset.univ ∗ anyH (F := F) c (qcM true) Finset.univ) ∗ PBx (F := F) c ∗ anyH (F := F) c amaxM Finset.univ)

def Φ₀ (c : Dev nD) : sProp 𝕄 := iprop(start m c ∗ scratch (F := F) c)
def Φ₁ (c : Dev nD) : sProp 𝕄 :=
  iprop(zeros (F := F) c ∗ scratch (F := F) c ∗ held (c : Thread nD τ) outM fullShare Finset.univ (outV (xOf m) (wOf m) c))

def dats (_ : Fin 1) (c : Dev nD) : Pipeline.Dat τ (Elt F) ℕ ℕ UU ℕ cfg0 c where
  A w := m ((cfg0.win w).arr.view.loc (c : Thread nD τ))
  after w _ := match w with
    | ⟨0, _⟩ => xOf m c
    | ⟨1, _⟩ => wOf m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem before_0 (c : Dev nD) (t : Fin cfg0.N) (d) : (dats m 0 c).before 0 t d = iblk m c 0 t :=
  ((dats m 0 c).before_in_eq_fetched 0 rfl (fun _ => rfl) (fun _ _ _ => rfl) (fun t => by rw [fin_N0 t]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [fin_N0 t]; rfl) t d).trans rfl

/-- A whole buffer owned is held in full, -/
theorem held_of_owns {c : Dev nD} {sp : Space} {s : Shape} {e : EltTy} {r : Memref sig .tc sp s e} (Y : s.Idx → Elt F e) :
    (owns (c : Thread nD τ) r fullShare Y : sProp 𝕄) ⊢ held (c : Thread nD τ) r fullShare Finset.univ Y := by
  unfold owns held
  iintro ⟨%f, %hf, H⟩
  iexists f
  isplitr; · ipureintro; exact fun i _ => congrFun hf i
  rw [View.setOn_univ]; iexact H
/-- and back. -/
theorem owns_of_held {c : Dev nD} {sp : Space} {s : Shape} {e : EltTy} {r : Memref sig .tc sp s e} (Y : s.Idx → Elt F e) :
    (held (c : Thread nD τ) r fullShare Finset.univ Y : sProp 𝕄) ⊢ owns (c : Thread nD τ) r fullShare Y := by
  unfold owns held
  rw [View.setOn_univ]
  iintro ⟨%f, %hf, H⟩
  iexists f
  isplitr; · ipureintro; exact funext fun i => hf i (Finset.mem_univ i)
  iexact H

/-- What the body leaves, with the windows' buffers as they were. -/
def After (c : Dev nD) : sProp 𝕄 :=
  iprop(Φ₁ m c ∗ (∃ V, owes (c : Thread nD τ) 0 V) ∗ XW (xOf m) (wOf m) c)

theorem done_after (K : CK → ℕ) (c : Dev nD) : Done (xOf m) (wOf m) K c ⊢ |={Set.univ}=> After m c := by
  unfold Done After Φ₁ scratch
  iintro ⟨HC, HX, H1, H2, H3, H4, Ho⟩
  imod (core_end (xOf m) (wOf m) K c) $$ HC with ⟨Hz, HV⟩
  imodintro
  isplitr [HV HX]
  · isplitl [Hz]; · iexact Hz
    isplitr [Ho]
    · isplitl [H1]; · iexact H1
      isplitl [H2]; · iexact H2
      isplitl [H3] <;> iassumption
    · iexact Ho
  isplitl [HV] <;> iassumption

theorem body_after (c : Dev nD) (V : Waits sig ℕ) :
    iprop(Φ₀ m c ∗ owes (c : Thread nD τ) (owed c 0) V ∗ XW (xOf m) (wOf m) c) ⊢ WP (F := F) c (bodyAt0 t0_0) (fun _ => After m c) := by
  unfold Φ₀ start G'
  iintro ⟨⟨⟨⟨%K, HG⟩, Hlev, Hcr, Hout⟩, Hs⟩, Ho, HX⟩
  unfold anyH scratch
  icases Hout with ⟨%Y, Hout⟩
  icases Hs with ⟨H1, H2, H3, H4⟩
  ihave HC := (core_start (xOf m) (wOf m) K c Y V) $$ [HG Hlev Hcr Ho Hout]
  · isplitl [HG]; · iexact HG
    isplitl [Hlev]; · iexact Hlev
    isplitl [Hcr]; · iexact Hcr
    isplitl [Ho] <;> iassumption
  iapply (show Init (xOf m) (wOf m) K c ⊢ WP (F := F) c (bodyAt0 t0_0) (fun _ => After m c) from
    (body_run (xOf m) (wOf m) K c (fun _ => iprop(|={Set.univ}=> After m c)) (done_after m K c)).trans (wp_fupd _ _ _ _ _))
  unfold Init
  isplitl [HC]; · iexact HC
  isplitl [HX]; · iexact HX
  isplitl [H1]; · iexact H1
  isplitl [H2]; · iexact H2
  isplitl [H3] <;> iassumption

theorem after_post (c : Dev nD) : After m c ⊢ iprop(Φ₁ m c ∗ (dats m 0 c).owesAt 0 (t0_0 : Fin cfg0.N).succ
      ∗ owns (c : Thread nD τ) xM fullShare (xOf m c) ∗ owns (c : Thread nD τ) wM fullShare (wOf m c)) := by
  unfold After XW Pipeline.Dat.owesAt Pipeline.owesWithin
  iintro ⟨H1, ⟨%V, Ho⟩, Hx, Hw⟩
  isplitl [H1]; · iexact H1
  isplitl [Ho]
  · iexists V
    isplitr; · ipureintro; exact fun _ _ => Or.inl trivial
    iexact Ho
  isplitl [Hx]; · iapply (owns_of_held (F := F) (xOf m c)); iexact Hx
  iapply (owns_of_held (F := F) (wOf m c)); iexact Hw

/-- The library's body obligation on device `c`. -/
theorem body_obligation (c : Dev nD) : Pipeline.BodyObligation (dats m 0 c) (defs₀ (F := F)) 𝒱₀ 0 Set.univ := fun t => by
  rw [fin_N0 t]
  rw [bigSep_W0, bigSep_W0]
  show iprop(Φ₀ m c ∗ (dats m 0 c).owesAt 0 (t0_0 : Fin cfg0.N).castSucc
      ∗ (∃ d, owns (c : Thread nD τ) xM fullShare ((dats m 0 c).before 0 t0_0 d))
      ∗ (∃ d, owns (c : Thread nD τ) wM fullShare ((dats m 0 c).before 1 t0_0 d)))
    ⊢ WP (F := F) c (bodyAt0 t0_0) (fun _ => iprop(Φ₁ m c ∗ (dats m 0 c).owesAt 0 (t0_0 : Fin cfg0.N).succ
      ∗ owns (c : Thread nD τ) xM fullShare (xOf m c) ∗ owns (c : Thread nD τ) wM fullShare (wOf m c)))
  simp only [before_0, before_1]
  unfold Pipeline.Dat.owesAt Pipeline.owesWithin
  iintro ⟨H0, ⟨%V, %hV, Ho⟩, ⟨%d0, Hx⟩, ⟨%d1, Hw⟩⟩
  iapply (show WP (F := F) c (bodyAt0 t0_0) (fun _ => After m c) ⊢ WP (F := F) c (bodyAt0 t0_0) _ from wp_mono _ _ _ fun _ => after_post m c)
  iapply (body_after m c V)
  unfold XW
  isplitl [H0]; · iexact H0
  isplitl [Ho]; · iexact Ho
  isplitl [Hx]; · iapply (held_of_owns (F := F) (xOf m c)); iexact Hx
  iapply (held_of_owns (F := F) (wOf m c)); iexact Hw

/-! ## The launch theorem's side conditions -/

theorem share_eq (c : Dev nD) (w : Fin cfg0.W) : (dats m 0 c).share w = fullShare := (dats m 0 c).share_full (fun _ => rfl) w

theorem any_of_pts (c : Dev nD) (b : Ref sig .tc) :
    iprop(∃ f : Buf (Elt F) ((c : Thread nD τ).loc b), ((c : Thread nD τ).loc b) ↦{fullShare} f) ⊢ anyH (F := F) c (Memref.whole b) Finset.univ := by
  unfold anyH
  iintro ⟨%f, H⟩
  iexists _
  iapply (held_of_pointsTo (c : Thread nD τ) (Memref.whole b) fullShare (by rw [Memref.view_whole, View.set_whole]) f)
  iexact H
theorem pts_of_any (c : Dev nD) (b : Ref sig .tc) :
    anyH (F := F) c (Memref.whole b) Finset.univ ⊢ iprop(∃ f : Buf (Elt F) ((c : Thread nD τ).loc b), ((c : Thread nD τ).loc b) ↦{fullShare} f) := by
  unfold anyH
  iintro ⟨%X, H⟩
  ihave H := (held_to_pointsTo (c : Thread nD τ) (Memref.whole b) fullShare (by rw [Memref.view_whole, View.set_whole]) X) $$ H
  icases H with ⟨%f, -, H⟩
  iexists f
  iexact H

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (xOf m) (wOf m) c)
      ⊢ |={Set.univ}=> iprop(start m c ∗ emp) := by
  rw [Pipeline.unscopedRestP_none, unscopedRest0_eq]
  iintro ⟨Hb, Hlev, Hcr, -, HG⟩
  ihave Hc := (creds (F := F) c) $$ Hcr
  imodintro
  unfold start
  isplitl
  · isplitl [HG]; · iexact HG
    isplitl [Hlev]; · iexact Hlev
    isplitl [Hc]; · iexact Hc
    iapply (any_of_pts (F := F) c main_v1)
    iexists _; iexact Hb
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch PBx
  iintro ⟨Hs, -, H0, H1, H2, H3, H4, H5, H6⟩
  isplitl [Hs]; · iexact Hs
  isplitl [H0 H1]
  · isplitl [H0]; · iapply (any_of_pts (F := F) c cc0_scratch0); iexact H0
    iapply (any_of_pts (F := F) c cc0_scratch1); iexact H1
  isplitl [H2 H3]
  · isplitl [H2]; · iapply (any_of_pts (F := F) c cc0_scratch2); iexact H2
    iapply (any_of_pts (F := F) c cc0_scratch3); iexact H3
  isplitl [H4 H5]
  · isplitl [H4]; · iapply (any_of_pts (F := F) c cc0_scratch4); iexact H4
    iapply (any_of_pts (F := F) c cc0_scratch5); iexact H5
  iapply (any_of_pts (F := F) c cc0_scratch6); iexact H6

/-- What a device hands back at the end beside the launch's: the barrier at zero, the result's memory. -/
def Y (c : Dev nD) : sProp 𝕄 := iprop(unscopedSems0 c ∗ held (c : Thread nD τ) outM fullShare Finset.univ (outV (xOf m) (wOf m) c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ scratch PBx Y
  rw [zeros_eq]
  iintro ⟨⟨Hu, Ho⟩, ⟨⟨H0, H1⟩, ⟨H2, H3⟩, ⟨H4, H5⟩, H6⟩, Hout⟩
  isplitl [Hu Hout]
  · isplitl [Hu] <;> iassumption
  isplitl [Ho]; · iexact Ho
  isplitl [H0]; · iapply (pts_of_any (F := F) c cc0_scratch0); iexact H0
  isplitl [H1]; · iapply (pts_of_any (F := F) c cc0_scratch1); iexact H1
  isplitl [H2]; · iapply (pts_of_any (F := F) c cc0_scratch2); iexact H2
  isplitl [H3]; · iapply (pts_of_any (F := F) c cc0_scratch3); iexact H3
  isplitl [H4]; · iapply (pts_of_any (F := F) c cc0_scratch4); iexact H4
  isplitl [H5]; · iapply (pts_of_any (F := F) c cc0_scratch5); iexact H5
  iapply (pts_of_any (F := F) c cc0_scratch6); iexact H6

theorem waits (c : Dev nD) : (levAts L lv : sProp 𝕄) ⊢ Pipeline.cellsWaits cfgs (dats m) 0 0 c :=
  Pipeline.cellsWaits_intro cfgs (dats m) 0 0 c fun w s t =>
    mayWait_stage c _ ((by decide +kernel : ∀ (w : Fin 2) (s : Fin (spec0 w).nbuf), kindOf (.dma ((spec0 w).sem s)) = none) w s) _ (by
      rcases t with ⟨_ | _, ht⟩
      · exact Or.inl rfl
      · exact Or.inr rfl)

/-- What is read off a device's final state: the semaphores that are not scoped at zero, the result's values. -/
def QY (c : Dev nD) (s : MemSt nD τ sig (Elt F)) : Prop :=
  (∀ sm : SemLoc sig, sm.isScoped .tc = false → s.sem ((c.tc : Thread nD τ), sm) = 0)
    ∧ s.mem ((c : Thread nD τ).loc main_v1) = outV (xOf m) (wOf m) c

theorem read_end (c : Dev nD) (s' : Phys nD τ sig (Elt F)) :
    iprop(Y m c ∗ emp ∗ SI s') ⊢ |={Set.univ}=> iprop(⌜QY m c s'.mem⌝ ∗ (SI s' : sProp 𝕄)) := by
  unfold Y QY
  iintro ⟨⟨Hu, Hout⟩, -, HSI⟩
  ihave Hout := (held_to_pointsTo (c : Thread nD τ) outM fullShare (by rw [Memref.view_whole, View.set_whole]) _) $$ Hout
  icases Hout with ⟨%f, %hf, Hout⟩
  ihave %h := (SI_pointsTo_agree) $$ [HSI Hout]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => (h i (Finset.mem_univ _)).trans (hf i)⟩
  iexact HSI

/-! ## The run -/

set_option maxRecDepth 8000 in
/-- From any memory with every counter at zero, for any float values: every fair execution of the program — eight devices
    exchanging chunks and maxima around their ring — ends, with both arguments as they were on every device, every
    device's result at `outV` of the devices' blocks, and every counter at zero. -/
theorem run_main : θ_run defs (onTc (τ := τ) (main (F := F))) ⟨m, fun _ => 0, ρ⟩ (fun r =>
    (∀ c : Dev nD, r.2.mem ((c.tc : Thread nD τ).loc main_v1) = outV (xOf m) (wOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := G (xOf m) (wOf m)) (G' := G' (xOf m) (wOf m)) (u₀ := u₀)
    (hu₀ := by
      unfold u₀
      iintro Hu
      ihave H := (ownU_pair _ _) $$ Hu
      icases H with ⟨HP, HX⟩
      imod (fund_all (xOf m) (wOf m)) $$ HX with HG
      imodintro
      isplitl [HP] <;> iassumption)
    (hglob := glob (xOf m) (wOf m))
    (hA := fun _ _ => rfl) (hpf := fun _ k => k.elim0)
    (X := start m) (Y := Y m) (Z := fun _ => iprop(emp))
    (hX := start_intro m ρ) (hin := phi0_intro m) (hout := phi1_exit m)
    (QY := QY m)
    (hY := read_end m)
    (hQ := fun _ h hs => ⟨fun c => ⟨(h c).2.2.2, ((h c).1 0).trans ((dats m 0 c).arrAt_in 0 rfl _), ((h c).1 1).trans ((dats m 0 c).arrAt_in 1 rfl _)⟩,
      sem_eq_zero hs fun c => (h c).2.2.1⟩)

end

end Cert.KernelIdealProof

end
-- ==== Proof.Products.lean ====
/-
# The sums of the reduce-scatter, exactly

Over the extended reals, the running sum that a device ends the reduce-scatter with is the whole product's entry: every
device contributes its block of the contracted axis once, and addition there is commutative and associative.
-/
module

public import proofs.«01_k».proof.Proof.Values
public import Idealize.ShloMosaic.Lib.MatmulPlain
public import Idealize.ShloMosaic.Lib.Layout
public import Idealize.ShloMosaic.Lib.Pipeline.Value
public import Idealize.ShloMosaic.Lib.ValueIdx

@[expose] public section

noncomputable section

namespace Cert.KernelIdealProof

open Cert.KernelIdeal Cert.KernelIdeal.Gen
open Idealize.ShloMosaic Idealize.ShloMosaic.ValueIdx
open scoped BigOperators

variable (X : Dev nD → S4096x512.Idx → Elt Ideal .bf16) (W : Dev nD → S512x8192.Idx → Elt Ideal .bf16)

abbrev ixX (i k : ℕ) : S4096x512.Idx := ixN S4096x512 (pos2 (by decide) (by decide)) ![i, k]
abbrev ixW (k j : ℕ) : S512x8192.Idx := ixN S512x8192 (pos2 (by decide) (by decide)) ![k, j]

/-- Device `e`'s contribution to entry `(i, j)` of the product. -/
def part (e : Dev nD) (i j : ℕ) : EReal := ∑ k : Fin 512, X e (ixX i k.val) * W e (ixW k.val j)

theorem addE_exact (a b : Elt Ideal .bf16) : addE a b = (a + b : EReal) := rfl

/-- An entry of a partial product, whatever tile it was computed in. -/
theorem gemmV_exact (x : S4096x512.Idx → Elt Ideal .bf16) (w : S512x8192.Idx → Elt Ideal .bf16) (r0 c0 r k : ℕ) (hk : k < 4096) :
    gemmV x w r0 c0 r k = (∑ l : Fin 512, x (ixX (r0 + r) l.val) * w (ixW l.val (c0 + k)) : EReal) := by
  unfold gemmV k0_pay20
  rw [shapeCast_self, shapeCast_self, shapeCast_self]
  have hi : ixN S128x4096 (pos2 (by decide) (by decide)) ![r % 128, k] = ix2 (⟨r % 128, Nat.mod_lt _ (by decide)⟩ : Fin 128) (⟨k, hk⟩ : Fin 4096) :=
    ixN_eq _ _ _ fun a => by fin_cases a <;> rfl
  rw [hi]
  refine (Ideal.matmul_plain_apply (φ₁ := .bf16) (φ₂ := .bf16) none (xTile x (r0 + r / 128 * 128)) (wTile w c0)
    (constant S128x4096 .f32 0x00000000#32) ⟨r % 128, Nat.mod_lt _ (by decide)⟩ ⟨k, hk⟩).trans ?_
  rw [constant_apply, Ideal.ofBits_zero_f32, zero_add]
  refine Finset.sum_congr rfl fun l _ => ?_
  show x (ixX (r0 + r / 128 * 128 + r % 128) l.val) * w (ixW l.val (c0 + k)) = _
  rw [show r0 + r / 128 * 128 + r % 128 = r0 + r by omega]

/-- A running sum as the sum of what the devices upstream put in. -/
theorem rsV_sum (d : Bool) (r k : ℕ) : ∀ (s : ℕ) (c : Dev nD),
    rsV X W d s c r k = (∑ n ∈ Finset.range (s + 1), (pgV X W d n ((src d)^[s - n] c) r k : EReal) : EReal)
  | 0, c => by rw [Finset.sum_range_one]; rfl
  | s + 1, c => by
      rw [Finset.sum_range_succ]
      show addE (rsV X W d s (src d c) r k) (pgV X W d (s + 1) c r k) = _
      rw [addE_exact, rsV_sum d r k s (src d c), Nat.sub_self]
      refine congrArg₂ (· + ·) (Finset.sum_congr rfl fun n hn => ?_) rfl
      rw [show s + 1 - n = (s - n) + 1 by have := Finset.mem_range.mp hn; omega, Function.iterate_succ_apply]

/-- Every contribution to the last sum is to the same chunk: the device's own. -/
theorem chunk_back (d : Bool) (c : Dev nD) (n : Fin 8) : chunk d n.val ((src d)^[7 - n.val] c) = c.val := by
  revert d c n; decide

/-- Every device contributes once. -/
theorem back_bijective (d : Bool) (c : Dev nD) : Function.Bijective fun n : Fin 8 => ((src d)^[7 - n.val] c : Fin 8) :=
  Finite.injective_iff_bijective.mp (by revert d c; decide)

/-- The last running sum is the sum of all the devices' contributions. -/
theorem rsV_last (d : Bool) (c : Dev nD) (r k : ℕ) (hk : k < 4096) :
    rsV X W d 7 c r k = (∑ e : Dev nD, part X W e (512 * c.val + r) (half d + k) : EReal) := by
  rw [rsV_sum, Finset.sum_range]
  refine (Finset.sum_congr rfl fun n _ => ?_).trans
    (Function.Bijective.sum_comp (back_bijective d c) fun e => part X W e (512 * c.val + r) (half d + k))
  show gemmV _ _ _ _ _ _ = _
  rw [gemmV_exact _ _ _ _ _ _ hk, chunk_back d c n]
  rfl

/-- The shape of the whole left input. -/
abbrev S4096x4096 : Shape := ⟨2, ![4096, 4096]⟩
abbrev ixA (i k : ℕ) : S4096x4096.Idx := ixN S4096x4096 (pos2 (by decide) (by decide)) ![i, k]
abbrev ixB (k j : ℕ) : S4096x8192.Idx := ixN S4096x8192 (pos2 (by decide) (by decide)) ![k, j]

/-- Entry `(i, j)` of the whole product. -/
def whole (A : S4096x4096.Idx → Elt Ideal .bf16) (B : S4096x8192.Idx → Elt Ideal .bf16) (i j : ℕ) : EReal :=
  ∑ k : Fin 4096, A (ixA i k.val) * B (ixB k.val j)

/-- Device `c`'s block of the whole left input, and of the right one. -/
def blockX (A : S4096x4096.Idx → Elt Ideal .bf16) (c : Dev nD) : S4096x512.Idx → Elt Ideal .bf16 :=
  Layout.block ⟨2, ![4096, 512]⟩ ⟨2, ![4096, 4096]⟩ 1 8 c A
@[inherit_doc blockX] def blockW (B : S4096x8192.Idx → Elt Ideal .bf16) (c : Dev nD) : S512x8192.Idx → Elt Ideal .bf16 :=
  Layout.block ⟨2, ![512, 8192]⟩ ⟨2, ![4096, 8192]⟩ 0 8 c B

/-- Where the devices hold blocks of two whole arrays, their contributions add up to the whole product. -/
theorem sum_part (A : S4096x4096.Idx → Elt Ideal .bf16) (B : S4096x8192.Idx → Elt Ideal .bf16)
    (hX : ∀ c : Dev nD, X c = blockX A c)
    (hW : ∀ c : Dev nD, W c = blockW B c) (i j : ℕ) :
    ∑ e : Dev nD, part X W e i j = whole A B i j := by
  unfold whole
  rw [← Equiv.sum_comp (finProdFinEquiv (m := 8) (n := 512)), Fintype.sum_prod_type]
  refine Finset.sum_congr rfl fun e _ => Finset.sum_congr rfl fun k _ => ?_
  have hv : (finProdFinEquiv (e, k) : Fin (8 * 512)).val = k.val + 512 * e.val := rfl
  have he : e.val < 8 := e.isLt
  have hk : k.val < 512 := k.isLt
  rw [hX e, hW e, blockX, blockW, Layout.block_apply, Layout.block_apply, hv]
  refine congrArg₂ (fun a b : EReal => a * b) (congrArg A (funext fun a => Fin.ext ?_)) (congrArg B (funext fun a => Fin.ext ?_))
  · rw [Layout.Tiles.idx_val]
    fin_cases a
    · rfl
    · show e.val * 512 + k.val % 512 = (k.val + 512 * e.val) % 4096
      omega
  · rw [Layout.Tiles.idx_val]
    fin_cases a
    · show e.val * 512 + k.val % 512 = (k.val + 512 * e.val) % 4096
      omega
    · rfl

end Cert.KernelIdealProof

end
-- ==== Proof.Quantiser.lean ====
/-
# The quantiser on extended reals

Both programs clip and round a nonnegative value against a common maximum and multiply it back. The kernel multiplies by
`127 / a` (by zero when `a` is zero) and clips from below at zero; the reference divides by `a / 127` and clips at `-127`.
Here the two are shown to give one result, and the kernel's passage through signed bytes to lose nothing.
-/
module

public import Idealize.ShloMosaic.PureOps.Ideal.Laws
public import Idealize.ShloMosaic.Lib.IdealHost

@[expose] public section

noncomputable section

namespace Cert.Quantiser

open Idealize.ShloMosaic

/-- The pattern of the largest step. -/
theorem bits_127 : Ideal.ofBits .f32 0x42FE0000#32 = ((127 : ℝ) : EReal) := by
  simp [Ideal.ofBits, Ideal.ieee, -EReal.coe_mul]; norm_num

/-- The pattern of the smallest step. -/
theorem bits_neg_127 : Ideal.ofBits .f32 0xC2FE0000#32 = ((-127 : ℝ) : EReal) := by
  simp [Ideal.ofBits, Ideal.ieee, -EReal.coe_mul, -EReal.coe_neg]; norm_num

/-- The pattern of minus infinity. -/
theorem bits_bot : Ideal.ofBits .f32 0xFF800000#32 = (⊥ : EReal) := by
  simp [Ideal.ofBits, Ideal.ieee]

/-- Rounding to nearest, ties to even, on the extended reals. -/
abbrev rnd (v : EReal) : EReal := Ideal.liftRound Ideal.roundHalfEven v

/-- The kernel's multiplier for the maximum `a`. -/
def inv (a : EReal) : EReal := if 0 < a then Ideal.div ((127 : ℝ) : EReal) a else 0

/-- The kernel's step number of `y`. -/
def stepK (a y : EReal) : EReal := min ((127 : ℝ) : EReal) (max 0 (rnd (y * inv a)))

/-- The reference's step number of `y`. -/
def stepR (a y : EReal) : EReal := min ((127 : ℝ) : EReal) (max ((-127 : ℝ) : EReal) (rnd (Ideal.div y (Ideal.div a ((127 : ℝ) : EReal)))))

/-- Rounding keeps a nonnegative real nonnegative. -/
theorem roundHalfEven_nonneg {r : ℝ} (h : 0 ≤ r) : 0 ≤ Ideal.roundHalfEven r := by
  have hf : 0 ≤ ⌊r⌋ := Int.floor_nonneg.mpr h
  unfold Ideal.roundHalfEven
  dsimp only
  split_ifs <;> omega

theorem rnd_bot : rnd ⊥ = ⊥ := rfl
theorem rnd_top : rnd ⊤ = ⊤ := rfl
theorem rnd_coe (r : ℝ) : rnd (r : EReal) = ((Ideal.roundHalfEven r : ℝ) : EReal) := rfl

/-- Rounding keeps a nonnegative value nonnegative. -/
theorem rnd_nonneg {v : EReal} (h : 0 ≤ v) : 0 ≤ rnd v := by
  induction v using EReal.rec with
  | bot => exact absurd h (by simp)
  | top => exact le_top
  | coe r => rw [rnd_coe]; exact EReal.coe_nonneg.mpr (by exact_mod_cast roundHalfEven_nonneg (EReal.coe_nonneg.mp h))

theorem inv_nonneg (a : EReal) : 0 ≤ inv a := by
  unfold inv
  split_ifs with h
  · rw [Ideal.div, if_neg h.ne']
    exact mul_nonneg (EReal.coe_nonneg.mpr (by norm_num)) (EReal.inv_nonneg_of_nonneg h.le)
  · exact le_rfl

/-- The two quantisers give one dequantised value. -/
theorem step_mul (a y : EReal) (ha : 0 ≤ a) (hy : 0 ≤ y) (hya : y ≤ a) :
    stepK a y * Ideal.div a ((127 : ℝ) : EReal) = stepR a y * Ideal.div a ((127 : ℝ) : EReal) := by
  rcases ha.eq_or_lt with rfl | hpos
  · have h0 : Ideal.div 0 ((127 : ℝ) : EReal) = 0 := by rw [Ideal.div_coe (by norm_num), zero_mul]
    rw [h0, mul_zero, mul_zero]
  · have hq : y * inv a = Ideal.div y (Ideal.div a ((127 : ℝ) : EReal)) := by
      unfold inv
      rw [if_pos hpos, Ideal.div, if_neg hpos.ne', Ideal.div_coe (by norm_num)]
      induction a using EReal.rec with
      | bot => exact absurd hpos (by simp)
      | top =>
        rw [EReal.top_mul_coe_of_pos (by norm_num), Ideal.div, if_neg EReal.top_ne_zero, EReal.inv_top, mul_zero]
      | coe r =>
        have hr : 0 < r := EReal.coe_pos.mp hpos
        rw [← EReal.coe_mul, Ideal.div, if_neg (by exact_mod_cast (by positivity : (r * (1 / 127) : ℝ) ≠ 0)), ← EReal.coe_inv,
          ← EReal.coe_inv, ← EReal.coe_mul]
        congr 2
        field_simp
    have hv : 0 ≤ rnd (y * inv a) := rnd_nonneg (mul_nonneg hy (inv_nonneg a))
    unfold stepK stepR
    rw [← hq, max_eq_right hv, max_eq_right (le_trans (EReal.coe_nonpos.mpr (by norm_num)) hv)]

/-- A step number is a whole number from 0 to 127. -/
theorem stepK_int (a y : EReal) : ∃ n : ℤ, 0 ≤ n ∧ n ≤ 127 ∧ stepK a y = ((n : ℝ) : EReal) := by
  unfold stepK
  generalize y * inv a = v
  induction v using EReal.rec with
  | bot => exact ⟨0, le_rfl, by norm_num, by
      rw [rnd_bot, max_eq_left bot_le, min_eq_right (EReal.coe_nonneg.mpr (by norm_num))]; simp⟩
  | top => exact ⟨127, by norm_num, le_rfl, by
      rw [rnd_top, max_eq_right le_top, min_eq_left le_top]; norm_num⟩
  | coe r =>
    refine ⟨min 127 (max 0 (Ideal.roundHalfEven r)), le_min (by norm_num) (le_max_left _ _), min_le_left _ _, ?_⟩
    show min ((127 : ℝ) : EReal) (max ((0 : ℝ) : EReal) ((Ideal.roundHalfEven r : ℝ) : EReal)) = _
    rw [← EReal.coe_strictMono.monotone.map_max, ← EReal.coe_strictMono.monotone.map_min]
    push_cast
    rfl

/-- A step number survives its passage through a signed byte. -/
theorem byte_trip (a y : EReal) : (((Ideal.fptosi 8 (stepK a y)).toInt : ℝ) : EReal) = stepK a y := by
  obtain ⟨n, h0, h1, e⟩ := stepK_int a y
  rw [e]
  congr 2
  unfold Ideal.fptosi
  rw [Ideal.toIntClamped_coe, if_pos (by exact_mod_cast h0), Int.floor_intCast]
  have hc : max (-((2 ^ (8 - 1) : ℕ) : ℤ)) (min (((2 ^ (8 - 1) : ℕ) : ℤ) - 1) n) = n := by
    norm_num; omega
  rw [hc, BitVec.toInt_ofInt]
  exact Int.bmod_eq_of_le (by norm_num; omega) (by norm_num; omega)

end Cert.Quantiser

end
-- ==== Proof.Exact.lean ====
/-
# The kernel's output over the extended reals

The common maximum the devices agree on is the greatest entry of the rectified product, and the output is the
dequantised value of the rectified product's entry at every index, the same on every device.
-/
module

public import proofs.«01_k».proof.Proof.Products
public import proofs.«01_k».proof.Proof.Quantiser

@[expose] public section

noncomputable section

namespace Cert.KernelIdealProof

open Cert.KernelIdeal Cert.KernelIdeal.Gen Cert.Quantiser
open Idealize.ShloMosaic Idealize.ShloMosaic.ValueIdx
open scoped BigOperators

/-! ## A maximum below a bound -/

/-- The shape of one element has one index. -/
theorem one_idx (i j : S1.Idx) : i = j := funext fun a => Fin.ext (by
  have hi : (i a).val < 1 := by have := (i a).isLt; revert this; fin_cases a; exact id
  have hj : (j a).val < 1 := by have := (j a).isLt; revert this; fin_cases a; exact id
  omega)

/-- A maximum over all of a vector's entries is below `b` where every entry is. -/
theorem red_le {s : Shape} {axes : List (Fin s.rank)} (v : FVec Ideal s .f32) (h : s.Reduces axes S1)
    (hacc : (0xFF800000#32 : BitVec 32) = FKind.maximumf.neutral .f32 (.inl rfl)) (j : S1.Idx) (b : EReal) :
    (multiReduction .maximumf axes S1 v 0xFF800000#32 h (.inl rfl) hacc j : EReal) ≤ b ↔ ∀ i, (v i : EReal) ≤ b := by
  rw [multiReduction_maximumf_eq_fold]
  refine (Finset.fold_max_le (β := EReal) (f := v) (b := Ideal.ofBits .f32 0xFF800000#32) b).trans ?_
  constructor
  · exact fun H i => H.2 i (Finset.mem_filter.mpr ⟨Finset.mem_univ _, one_idx _ _⟩)
  · exact fun H => ⟨by rw [bits_bot]; exact bot_le, fun i _ => H i⟩

variable (X : Dev nD → S4096x512.Idx → Elt Ideal .bf16) (W : Dev nD → S512x8192.Idx → Elt Ideal .bf16)

/-- A bound on a reshaped vector's entries is one on the vector's. -/
theorem cast_le {s t : Shape} (v : s.Idx → EReal) (h : s.ShapeCasts t) (b : EReal) :
    (∀ j, shapeCast t v h j ≤ b) ↔ ∀ i, v i ≤ b := (Shape.reshapeEquiv h).forall_congr_right (q := fun i => v i ≤ b)

theorem maxf_exact (a b : Ideal .f32) : Scalar.maximumf a b = (max a b : EReal) := rfl

/-- A tile's rectified sums, entry by entry. -/
theorem pay4_relu (A : Vec Ideal S1x128x2048 .bf16) (B : Vec Ideal S128x2048 .bf16) (i : S128x2048.Idx) :
    (maximumf (extf .f32 (k0_pay4 A B) bitsLt_bf16_f32) (broadcast S128x2048 (Scalar.ofBits .f32 0x00000000#32)) i : EReal)
      = max ((A (Fin.cons ⟨0, Nat.one_pos⟩ i) : EReal) + B i) 0 := by
  rw [maximumf_apply, extf_apply, broadcast_apply]
  simp only [k0_pay4]
  rw [truncf_apply, addf_apply, extf_apply, extf_apply, shapeCast_dropUnit_apply]
  exact congrArg (max _) Ideal.ofBits_zero_f32

/-- The maximum of one tile's rectified sums is below `b` where each of them is. -/
theorem pay6_le (A : Vec Ideal S1x128x2048 .bf16) (B : Vec Ideal S128x2048 .bf16) (b : EReal) :
    (k0_pay6 A B : EReal) ≤ b ↔ ∀ i : S128x2048.Idx, max ((A (Fin.cons ⟨0, Nat.one_pos⟩ i) : EReal) + B i) 0 ≤ b := by
  simp only [k0_pay6]
  refine (red_le _ _ rfl _ b).trans ((cast_le _ _ b).trans (forall_congr' fun i => ?_))
  rw [pay4_relu]

theorem pay3_eq (z : Ideal .f32) (A : Vec Ideal S1x128x2048 .bf16) (B : Vec Ideal S128x2048 .bf16) :
    k0_pay3 z A B = Scalar.maximumf z (k0_pay6 A B) := by
  simp only [k0_pay3, k0_pay6, k0_pay1, k0_pay4]

/-- The same with a maximum brought along. -/
theorem pay3_le (z : Ideal .f32) (A : Vec Ideal S1x128x2048 .bf16) (B : Vec Ideal S128x2048 .bf16) (b : EReal) :
    (k0_pay3 (F := Ideal) z A B : EReal) ≤ b ↔ (z : EReal) ≤ b ∧ ∀ i : S128x2048.Idx, max ((A (Fin.cons ⟨0, Nat.one_pos⟩ i) : EReal) + B i) 0 ≤ b := by
  rw [pay3_eq, maxf_exact]
  exact max_le_iff.trans (and_congr Iff.rfl (pay6_le A B b))

/-! ## The devices' maxima -/

/-- The rectified sum at row `r`, column `k` of device `c`'s chunk of direction `d`. -/
def reluV (d : Bool) (c : Dev nD) (r k : ℕ) : EReal := max (rsV X W d 7 c r k : EReal) 0

/-- The sum of two tiles is the last running sum's. -/
theorem tile_sum (d : Bool) (c : Dev nD) (t q : ℕ) (i : S128x2048.Idx) :
    max ((tileA (rsV X W d 6 (src d c)) t q (Fin.cons ⟨0, Nat.one_pos⟩ i) : EReal) + tileB (pgV X W d 7 c) t q i) 0
      = reluV X W d c (128 * t + (i 0).val) (2048 * q + (i 1).val) := by
  unfold reluV
  rw [rsV, addE_exact]
  rfl

/-- The running maximum after `t` tiles. -/
theorem mxs_le (c : Dev nD) (q : ℕ) (z b : EReal) : ∀ t : ℕ,
    (mxs X W c q z t : EReal) ≤ b
      ↔ z ≤ b ∧ ∀ t' < t, ∀ (d : Bool) (i : S128x2048.Idx), reluV X W d c (128 * t' + (i 0).val) (2048 * q + (i 1).val) ≤ b
  | 0 => ⟨fun h => ⟨h, fun _ ht => absurd ht (Nat.not_lt_zero _)⟩, fun h => h.1⟩
  | t + 1 => by
      rw [mxs]
      simp only [k0_pay58]
      rw [maxf_exact]
      refine max_le_iff.trans ?_
      rw [pay3_le, pay6_le, mxs_le c q z b t]
      simp only [tile_sum]
      constructor
      · rintro ⟨⟨⟨hz, hp⟩, hf⟩, ht⟩
        refine ⟨hz, fun t' h d i => ?_⟩
        rcases Nat.lt_succ_iff_lt_or_eq.mp h with h | rfl
        · exact hp t' h d i
        · cases d
          · exact hf i
          · exact ht i
      · rintro ⟨hz, h⟩
        exact ⟨⟨⟨hz, fun t' ht' => h t' (Nat.lt_succ_of_lt ht')⟩, fun i => h t (Nat.lt_succ_self t) false i⟩,
          fun i => h t (Nat.lt_succ_self t) true i⟩

/-- A device's own maximum is the greatest of zero and its chunks' entries. -/
theorem omax_le (c : Dev nD) (b : EReal) :
    (omax X W c : EReal) ≤ b ↔ 0 ≤ b ∧ ∀ (d : Bool) (r k : ℕ), r < 512 → k < 4096 → reluV X W d c r k ≤ b := by
  have z : (Scalar.ofBits .f32 0x00000000#32 : Ideal .f32) = (0 : EReal) := Ideal.ofBits_zero_f32
  unfold omax
  rw [mxs_le, mxs_le, z]
  constructor
  · rintro ⟨⟨h0, hl⟩, hr⟩
    refine ⟨h0, fun d r k hr' hk => ?_⟩
    have hi := fun (q t : ℕ) (H : ∀ i : S128x2048.Idx, reluV X W d c (128 * t + (i 0).val) (2048 * q + (i 1).val) ≤ b) =>
      H (ix2 (⟨r % 128, Nat.mod_lt _ (by decide)⟩ : Fin 128) (⟨k % 2048, Nat.mod_lt _ (by decide)⟩ : Fin 2048))
    by_cases hk2 : k < 2048
    · have := hi 0 (r / 128) (hl (r / 128) (by omega) d)
      rwa [show 128 * (r / 128) + _ = r from Nat.div_add_mod r 128, show 2048 * 0 + k % 2048 = k by omega] at this
    · have := hi 1 (r / 128) (hr (r / 128) (by omega) d)
      rwa [show 128 * (r / 128) + _ = r from Nat.div_add_mod r 128, show 2048 * 1 + k % 2048 = k by omega] at this
  · rintro ⟨h0, h⟩
    have hh : ∀ q < 2, ∀ t' < 4, ∀ (d : Bool) (i : S128x2048.Idx),
        reluV X W d c (128 * t' + (i 0).val) (2048 * q + (i 1).val) ≤ b := fun q hq t' ht d i => by
      have a0 : (i 0).val < 128 := (i 0).isLt
      have a1 : (i 1).val < 2048 := (i 1).isLt
      exact h d _ _ (by omega) (by omega)
    exact ⟨⟨h0, hh 0 (by decide)⟩, hh 1 (by decide)⟩

/-- The maximum of all the devices' maxima. -/
def gmax : EReal := k0_pay62 (F := Ideal) (amaxV X W)

theorem gmax_le (b : EReal) : gmax X W ≤ b
    ↔ 0 ≤ b ∧ ∀ (c : Dev nD) (d : Bool) (r k : ℕ), r < 512 → k < 4096 → reluV X W d c r k ≤ b := by
  unfold gmax
  simp only [k0_pay62]
  refine (red_le _ _ rfl _ b).trans ((cast_le _ _ b).trans ?_)
  have hT : ∀ i : S8x8x128.Idx, (amaxV X W i : EReal) = omax X W (devN (i 0).val) := fun _ => rfl
  simp only [hT, omax_le]
  clear hT
  constructor
  · intro h
    refine ⟨(h (ixN S8x8x128 (pos3 (by decide) (by decide) (by decide)) ![0, 0, 0])).1, fun c d r k => ?_⟩
    have := (h (ixN S8x8x128 (pos3 (by decide) (by decide) (by decide)) ![c.val, 0, 0])).2 d r k
    have e : devN (ixN S8x8x128 (pos3 (by decide) (by decide) (by decide)) ![c.val, 0, 0] 0).val = c :=
      Fin.ext (by show c.val % 8 % 8 = c.val; have : c.val < 8 := c.isLt; omega)
    rwa [e] at this
  · exact fun h i => ⟨h.1, h.2 _⟩

theorem gmax_nonneg : 0 ≤ gmax X W := ((gmax_le X W _).mp le_rfl).1

/-! ## The output -/

theorem pay63_exact (T : Vec Ideal S8x8x128 .f32) :
    (k0_pay63 T : EReal) = Ideal.div (k0_pay62 T) (Ideal.ofBits .f32 0x42FE0000#32) := rfl

theorem sel_exact (a b c z : Ideal .f32) :
    (Scalar.select (Scalar.cmpf .ogt a z) (Scalar.divf b a) c : Ideal .f32) = Scalar.select (Ideal.cmp .ogt a z) (Ideal.div b a) c := rfl

theorem pay64_exact (T : Vec Ideal S8x8x128 .f32) :
    (k0_pay64 T : EReal) = Scalar.select (Ideal.cmp .ogt (k0_pay62 T) (Ideal.ofBits .f32 0x00000000#32))
      (Ideal.div (Ideal.ofBits .f32 0x42FE0000#32) (k0_pay62 T)) (Ideal.ofBits .f32 0x00000000#32) := by
  simp only [k0_pay64]
  exact sel_exact _ _ _ _

theorem scV_exact : scV X W = Ideal.div (gmax X W) ((127 : ℝ) : EReal) := by
  rw [← bits_127]; exact pay63_exact (amaxV X W)

/-- The kernel's choice of a multiplier, for any maximum. -/
theorem inv_select (a : EReal) : Scalar.select (Ideal.cmp .ogt a 0) (Ideal.div ((127 : ℝ) : EReal) a) 0 = Quantiser.inv a := by
  unfold Quantiser.inv
  by_cases h : 0 < a
  · rw [if_pos h, show Ideal.cmp .ogt a 0 = 1#1 by simp [Ideal.cmp, h], select_one]
  · rw [if_neg h, show Ideal.cmp .ogt a 0 = 0#1 by simp [Ideal.cmp, h], select_zero]

theorem invV_exact : invV X W = Quantiser.inv (gmax X W) := by
  rw [← inv_select]
  refine (pay64_exact (amaxV X W)).trans ?_
  rw [Ideal.ofBits_zero_f32, bits_127]
  rfl

theorem rnd_apply {s : Shape} (v : FVec Ideal s .f32) (i : s.Idx) : (roundeven v i : EReal) = rnd (v i) := rfl

/-- The kernel's clipped and rounded entry, from any multiplier. -/
theorem pay13_entry (s v : EReal) (i : S128x4096.Idx) :
    (k0_pay13 (F := Ideal) s (fun _ => v) i : EReal) = min ((127 : ℝ) : EReal) (max 0 (rnd (max v 0 * s))) := by
  simp only [k0_pay13]
  rw [minimumf_apply, maximumf_apply, broadcast_apply, broadcast_apply, rnd_apply, mulf_apply, maximumf_apply, broadcast_apply,
    broadcast_apply, extf_apply]
  rw [← bits_127, ← Ideal.ofBits_zero_f32]
  rfl

theorem pay13_exact (v : EReal) (i : S128x4096.Idx) :
    (k0_pay13 (F := Ideal) (invV X W) (fun _ => v) i : EReal) = stepK (gmax X W) (max v 0) := by
  rw [invV_exact, pay13_entry]
  rfl

theorem pay14_entry (s : Ideal .f32) (v : Vec Ideal S1x128x4096 .bf16) (j : S1x128x4096.Idx) :
    k0_pay14 s v j = Ideal.fptosi 8 (k0_pay13 s v (Shape.reshapeEquiv shapeCasts_S128x4096_S1x128x4096 j)) := rfl

theorem pay15_entry (a s : Ideal .f32) (v : Vec Ideal S1x128x4096 .bf16) (j : S1x128x4096.Idx) :
    (k0_pay15 a s v j : EReal) = (k0_pay13 s v (Shape.reshapeEquiv shapeCasts_S128x4096_S1x128x4096 j) : EReal) * a := rfl

theorem pay67_entry (a : Ideal .f32) (n : BitVec 8) (j : S1x128x4096.Idx) :
    (k0_pay67 (F := Ideal) a (fun _ => n) j : EReal) = ((n.toInt : ℝ) : EReal) * a := rfl

theorem ownOutV_exact (d : Bool) (c : Dev nD) (r k : ℕ) :
    (ownOutV X W d c r k : EReal) = stepK (gmax X W) (reluV X W d c r k) * Ideal.div (gmax X W) ((127 : ℝ) : EReal) := by
  rw [← scV_exact]
  refine (pay15_entry ..).trans ?_
  rw [pay13_exact]
  rfl

theorem deqV_exact (d : Bool) (c : Dev nD) (r k : ℕ) :
    (deqV X W d c r k : EReal) = stepK (gmax X W) (reluV X W d c r k) * Ideal.div (gmax X W) ((127 : ℝ) : EReal) := by
  rw [← scV_exact, ← byte_trip]
  refine (pay67_entry ..).trans ?_
  unfold qV
  rw [pay14_entry, pay13_exact]
  rfl

/-- The output's entry, on whichever device. -/
theorem outV_exact (c : Dev nD) (i : S4096x8192.Idx) :
    (outV X W c i : EReal) = stepR (gmax X W) (reluV X W (decide (4096 ≤ (i 1).val)) (devN ((i 0).val / 512)) ((i 0).val % 512) ((i 1).val % 4096))
      * Ideal.div (gmax X W) ((127 : ℝ) : EReal) := by
  rw [← step_mul (gmax X W) (reluV X W (decide (4096 ≤ (i 1).val)) (devN ((i 0).val / 512)) ((i 0).val % 512) ((i 1).val % 4096))
    (gmax_nonneg X W) (le_max_right _ _) (((gmax_le X W _).mp le_rfl).2 _ _ _ _ (Nat.mod_lt _ (by decide)) (Nat.mod_lt _ (by decide)))]
  show (outC X W c _ _ _ _ : EReal) = _
  unfold outC
  split_ifs
  · exact ownOutV_exact ..
  · exact deqV_exact ..

/-! ## In terms of the whole arrays -/

section Whole

variable (A : S4096x4096.Idx → Elt Ideal .bf16) (B : S4096x8192.Idx → Elt Ideal .bf16)
  (hX : ∀ c : Dev nD, X c = blockX A c)
  (hW : ∀ c : Dev nD, W c = blockW B c)

include hX hW

theorem reluV_whole (d : Bool) (c : Dev nD) (r k : ℕ) (hk : k < 4096) :
    reluV X W d c r k = max (whole A B (512 * c.val + r) (half d + k)) 0 := by
  unfold reluV
  rw [rsV_last X W d c r k hk, sum_part X W A B hX hW]

theorem gmax_le_whole (b : EReal) : gmax X W ≤ b ↔ ∀ i j : ℕ, i < 4096 → j < 8192 → max (whole A B i j) 0 ≤ b := by
  rw [gmax_le]
  constructor
  · rintro ⟨-, h⟩ i j hi hj
    have := h ⟨i / 512, by show i / 512 < 8; omega⟩ (decide (4096 ≤ j)) (i % 512) (j % 4096) (Nat.mod_lt _ (by decide)) (Nat.mod_lt _ (by decide))
    rw [reluV_whole X W A B hX hW _ _ _ _ (Nat.mod_lt _ (by decide))] at this
    rwa [show 512 * (i / 512) + i % 512 = i by omega,
      show half (decide (4096 ≤ j)) + j % 4096 = j by unfold half; by_cases hj' : 4096 ≤ j <;> simp [hj'] <;> omega] at this
  · intro h
    refine ⟨le_trans (le_max_right _ _) (h 0 0 (by decide) (by decide)), fun c d r k hr hk => ?_⟩
    have hc : c.val < 8 := c.isLt
    rw [reluV_whole X W A B hX hW _ _ _ _ hk]
    exact h _ _ (by omega) (by cases d <;> (unfold half; simp; omega))

/-- The output's entry is the reference quantiser's value of the whole product's. -/
theorem outV_whole (c : Dev nD) (i : S4096x8192.Idx) :
    (outV X W c i : EReal) = stepR (gmax X W) (max (whole A B (i 0).val (i 1).val) 0) * Ideal.div (gmax X W) ((127 : ℝ) : EReal) := by
  have h0 : (i 0).val < 4096 := (i 0).isLt
  have h1 : (i 1).val < 8192 := (i 1).isLt
  rw [outV_exact, reluV_whole X W A B hX hW _ _ _ _ (Nat.mod_lt _ (by decide))]
  rw [show 512 * (devN ((i 0).val / 512)).val + (i 0).val % 512 = (i 0).val by
      show 512 * ((i 0).val / 512 % 8) + (i 0).val % 512 = _; omega,
    show half (decide (4096 ≤ (i 1).val)) + (i 1).val % 4096 = (i 1).val by
      unfold half; by_cases hj' : 4096 ≤ (i 1).val <;> simp [hj'] <;> omega]

end Whole

end Cert.KernelIdealProof

end
-- ==== Proof.RefValue.lean ====
/-
# The reference's value over the extended reals

The reference's result at an index: the quantised and dequantised entry of the rectified product, against the greatest
entry of all.
-/
module

public import proofs.«01_k».proof.Proof.Gen.ReferenceIdeal
public import proofs.«01_k».proof.Proof.Quantiser
public import Idealize.ShloMosaic.Lib.StackMember
public import Idealize.ShloMosaic.Lib.ValueIdx

@[expose] public section

noncomputable section

namespace Cert.ReferenceIdealProof

open Cert.ReferenceIdeal Cert.ReferenceIdeal.Gen Cert.Quantiser
open Idealize.ShloMosaic Idealize.ShloMosaic.ValueIdx
open scoped BigOperators

variable (A : FVec Ideal S4096x4096 .bf16) (B : FVec Ideal S4096x8192 .bf16)

/-- The rectified product. -/
def relu : FVec Ideal S4096x8192 .f32 :=
  maximumf (extf .f32 (truncf .bf16 (Host.dotGeneral dot_S4096x4096_S4096x8192_S4096x8192_1_0_0_1_n_n none A B) bitsLt_bf16_f32) bitsLt_bf16_f32)
    (broadcastInDim S4096x8192 ![] bcast_S_S4096x8192 (constant S_ .f32 0x00000000#32))

/-- The greatest entry. -/
def amax (y : FVec Ideal S4096x8192 .f32) : FVec Ideal S_ .f32 :=
  Host.reduce FloatOps.maximumf (Host.absf y) (constant S_ .f32 0xFF800000#32) reducesTo_S4096x8192_S_d0_1 h_S_

/-- The quantiser, there and back. -/
def quant (y : FVec Ideal S4096x8192 .f32) : FVec Ideal S4096x8192 .bf16 :=
  truncf .bf16 (mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf y (broadcastInDim S4096x8192 ![] bcast_S_S4096x8192 (Host.divf (amax y) (constant S_ .f32 0x42FE0000#32)))))))
    (broadcastInDim S4096x8192 ![] bcast_S_S4096x8192 (Host.divf (amax y) (constant S_ .f32 0x42FE0000#32)))) bitsLt_bf16_f32

theorem scalar_idx (i j : S_.Idx) : i = j := funext fun a => a.elim0

/-- An entry of the rectified product. -/
theorem relu_exact (i : S4096x8192.Idx) :
    (relu A B i : EReal) = max (∑ k : Fin 4096, (A (ix2 (i 0) k) : EReal) * B (ix2 k (i 1))) 0 := by
  unfold relu
  rw [maximumf_apply, extf_apply, truncf_apply, broadcastInDim_scalar_apply, constant_apply, Ideal.ofBits_zero_f32]
  refine congrArg (fun a : EReal => max a 0) ?_
  refine (congrArg (Host.dotGeneral (DotDims.plain 4096 4096 8192) none A B) (eq_ix2 i)).trans ?_
  exact StackMember.dotGeneral_plain_apply none A B (i 0) (i 1)

theorem abs_exact (y : FVec Ideal S4096x8192 .f32) (i : S4096x8192.Idx) : (Host.absf y i : EReal) = max (y i : EReal) (-(y i : EReal)) := rfl

/-- The greatest entry of an array of nonnegative values is below `b` where they are. -/
theorem amax_le (y : FVec Ideal S4096x8192 .f32) (hy : ∀ i, (0 : EReal) ≤ y i) (j : S_.Idx) (b : EReal) :
    (amax y j : EReal) ≤ b ↔ ∀ i, (y i : EReal) ≤ b := by
  unfold amax
  rw [Host.reduce_eq_fold]
  refine (Finset.fold_max_le (β := EReal) (f := Host.absf y) (b := Ideal.ofBits .f32 0xFF800000#32) b).trans ?_
  have e : ∀ i, (Host.absf y i : EReal) = y i := fun i => by
    rw [abs_exact]
    exact max_eq_left (le_trans (EReal.neg_le_zero.mpr (hy i)) (hy i))
  constructor
  · exact fun H i => (e i) ▸ H.2 i (Finset.mem_filter.mpr ⟨Finset.mem_univ _, scalar_idx _ _⟩)
  · exact fun H => ⟨by rw [bits_bot]; exact bot_le, fun i _ => (e i).symm ▸ H i⟩

theorem hostRnd_apply {s : Shape} (v : FVec Ideal s .f32) (i : s.Idx) : (Host.roundeven v i : EReal) = rnd (v i) := rfl

/-- An entry of the result. -/
theorem quant_exact (y : FVec Ideal S4096x8192 .f32) (i : S4096x8192.Idx) :
    (quant y i : EReal) = stepR (amax y ix0) (y i) * Ideal.div (amax y ix0) ((127 : ℝ) : EReal) := by
  unfold quant stepR
  rw [truncf_apply, mulf_apply, minimumf_apply, maximumf_apply, hostRnd_apply, hostDivf_apply, broadcastInDim_scalar_apply,
    broadcastInDim_scalar_apply, broadcastInDim_scalar_apply, hostDivf_apply, id_eq, id_eq, constant_apply, constant_apply, bits_127, bits_neg_127]

end Cert.ReferenceIdealProof

end
-- ==== Proof.Agree.lean ====
/-
# The kernel's output is the reference's

On devices that hold blocks of two whole arrays, every device's output is the reference's result on the whole arrays.
-/
module

public import proofs.«01_k».proof.Proof.Exact
public import proofs.«01_k».proof.Proof.RefValue
public import proofs.«01_k».proof.Proof.Launch

@[expose] public section

noncomputable section

namespace Cert.Agree

open Idealize.ShloMosaic Idealize.ShloMosaic.TcCoe Idealize.ShloMosaic.ValueIdx Cert.Quantiser
open Cert.KernelIdealProof (outV gmax whole xOf wOf)
open scoped BigOperators

/-! ## What a device's windows hold -/

section Windows

open Cert.KernelIdeal Cert.KernelIdeal.Gen

variable {F : FTy → Type} [FloatOps F] (m : (ℓ : Loc nD τ sig) → Buf (Elt F) ℓ)

/-- A device's left block is its whole first argument. -/
theorem xOf_eq (c : Dev nD) : xOf m c = m ((c.tc : Thread nD τ).loc main_arg0) := by
  funext i
  show m ((c.tc : Thread nD τ).loc main_arg0) (((cfg0.win 0).blk t0_0).view.emb i) = _
  refine congrArg _ (funext fun a => Fin.ext ?_)
  show win0_0.index t0_0 a * win0_0.block.size a + 1 * (i a).val = _
  have h : ∀ a, win0_0.index t0_0 a = 0 := by decide
  rw [h a]
  omega

/-- A device's right block is its whole second argument. -/
theorem wOf_eq (c : Dev nD) : wOf m c = m ((c.tc : Thread nD τ).loc main_arg1) := by
  funext i
  show m ((c.tc : Thread nD τ).loc main_arg1) (((cfg0.win 1).blk t0_0).view.emb i) = _
  refine congrArg _ (funext fun a => Fin.ext ?_)
  show win0_1.index t0_0 a * win0_1.block.size a + 1 * (i a).val = _
  have h : ∀ a, win0_1.index t0_0 a = 0 := by decide
  rw [h a]
  omega

end Windows

/-! ## The values -/

section Values

open Cert.KernelIdeal

variable (X : Dev nD → S4096x512.Idx → Elt Ideal .bf16) (W : Dev nD → S512x8192.Idx → Elt Ideal .bf16)
  (A : FVec Ideal Cert.ReferenceIdeal.S4096x4096 .bf16) (B : FVec Ideal Cert.ReferenceIdeal.S4096x8192 .bf16)

/-- The reference's rectified entry is the rectified whole product's. -/
theorem relu_whole (i : Cert.ReferenceIdeal.S4096x8192.Idx) :
    (Cert.ReferenceIdealProof.relu A B i : EReal) = max (whole A B (i 0).val (i 1).val) 0 := by
  rw [Cert.ReferenceIdealProof.relu_exact]
  refine congrArg (fun a : EReal => max a 0) (Finset.sum_congr rfl fun k _ => ?_)
  refine congrArg₂ (fun a b : EReal => a * b) (congrArg A (Eq.symm ?_)) (congrArg B (Eq.symm ?_))
  · exact Cert.KernelIdealProof.ixN_eq _ _ _ fun a => by fin_cases a <;> rfl
  · exact Cert.KernelIdealProof.ixN_eq _ _ _ fun a => by fin_cases a <;> rfl

variable (hX : ∀ c : Dev nD, X c = Cert.KernelIdealProof.blockX A c)
  (hW : ∀ c : Dev nD, W c = Cert.KernelIdealProof.blockW B c)

include hX hW

/-- The two programs find one maximum. -/
theorem amax_eq : (Cert.ReferenceIdealProof.amax (Cert.ReferenceIdealProof.relu A B) ix0 : EReal) = gmax X W := by
  have hy : ∀ i, (0 : EReal) ≤ Cert.ReferenceIdealProof.relu A B i := fun i => by rw [relu_whole]; exact le_max_right _ _
  refine eq_of_forall_ge_iff fun b => ?_
  rw [Cert.ReferenceIdealProof.amax_le _ hy, Cert.KernelIdealProof.gmax_le_whole X W A B hX hW]
  constructor
  · intro h i j hi hj
    have := h (ix2 (⟨i, hi⟩ : Fin 4096) (⟨j, hj⟩ : Fin 8192))
    rwa [relu_whole] at this
  · intro h i
    rw [relu_whole]
    exact h _ _ (i 0).isLt (i 1).isLt

/-- Every device's output is the reference's result. -/
theorem outV_eq (c : Dev nD) : outV X W c = Cert.ReferenceIdealProof.quant (Cert.ReferenceIdealProof.relu A B) := by
  funext i
  refine (Cert.KernelIdealProof.outV_whole X W A B hX hW c i).trans ?_
  rw [Cert.ReferenceIdealProof.quant_exact, amax_eq X W A B hX hW, relu_whole]

end Values

end Cert.Agree

end
-- ==== Proof.Same.lean ====
/-
# The kernel and the idealized kernel are one program

No rule rewrites the kernel, so the two printed programs differ in their names alone. Their label tables and their mains are
equal at every choice of float values, and a run of the one is a run of the other.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F] [Cert.Kernel.Facts] [Cert.KernelIdeal.Facts]

/-- The kernel's body is one function. -/
theorem body_eq : Cert.Kernel.cc0_body (F := F) = Cert.KernelIdeal.cc0_body (F := F) := rfl

/-- Its table of labels runs that body at one grid point and on one choice of staging buffers. -/
theorem labels_eq : Cert.Kernel.defs₀ (F := F) = Cert.KernelIdeal.defs₀ (F := F) := by
  refine congrArg Defs.onTc (funext fun l => ?_)
  match l with
  | 0 =>
    refine funext fun a => ?_
    obtain ⟨t, s⟩ := a
    rfl
  | ⟨_ + 1, h⟩ => exact absurd h (Nat.not_lt.2 (Nat.le_add_left _ _))

/-- The table of the whole program. -/
theorem defs_eq : Cert.Kernel.defs (F := F) = Cert.KernelIdeal.defs (F := F) := congrArg (Pipeline.defs _) labels_eq

/-- The program's main. -/
theorem main_eq : Cert.Kernel.main (F := F) = Cert.KernelIdeal.main (F := F) := rfl

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agree
public import proofs.«01_k».proof.Proof.Same
public import Idealize.ShloMosaic.Adequacy
public import Idealize.ShloMosaic.Init

@[expose] public section

noncomputable section

namespace Cert.Proof

open Idealize.ShloMosaic Idealize.SL.Sem Cert.Kernel

/-- Every execution of the kernel ends, its arguments unchanged, every counter at zero: it is the idealized kernel's text,
    run at the machine's floats. -/
theorem frame_kernel : Cert.quiescent_Kernel (hKernel := Cert.Kernel.Gen.facts) := fun m g _ => by
  rw [Cert.Same.defs_eq, Cert.Same.main_eq]
  exact (θ_run (Cert.KernelIdeal.defs (F := Bits)) _ _).mono (fun _ h => ⟨fun c => (h.1 c).2, h.2⟩)
    (Cert.KernelIdealProof.run_main (F := Bits) m g)

/-- The same of the idealized kernel. -/
theorem frame_kernelIdeal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdealProof.run_main m g)

/-- Every execution of the reference ends, its arguments unchanged; it has no counters. -/
theorem frame_referenceIdeal : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- Over the extended reals, every device's output is the reference's result on the whole arrays. -/
theorem agree : Cert.algebraic_KernelIdeal_ReferenceIdeal (hKernelIdeal := Cert.KernelIdeal.Gen.facts)
    (hReferenceIdeal := Cert.ReferenceIdeal.Gen.facts) := fun m g m' g' _ h =>
  ⟨Cert.ReferenceIdealProof.quant (Cert.ReferenceIdealProof.relu
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run (Cert.KernelIdeal.defs (F := Ideal)) _ _).mono
      (fun _ hr c => ⟨(hr.1 c).1.trans (Cert.Agree.outV_eq _ _ _ _
          (fun c => (Cert.Agree.xOf_eq m c).trans (h c).1) (fun c => (Cert.Agree.wOf_eq m c).trans (h c).2) c), (hr.1 c).2⟩)
      (Cert.KernelIdealProof.run_main m g),
    (θ_run (Cert.ReferenceIdeal.defs (F := Ideal)) _ _).mono (fun _ hr => hr 0) (Cert.ReferenceIdeal.Value.run m' g')⟩

theorem claim : Cert.Claim :=
  ⟨Cert.Kernel.Gen.facts, Cert.KernelIdeal.Gen.facts, Cert.ReferenceIdeal.Gen.facts,
    frame_kernel, frame_kernelIdeal, frame_referenceIdeal, trivial, agree⟩

end Cert.Proof

end
